-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51_0)) (v1 : (c : Dev Cert.KernelIdeal.nD) → Buf (Elt Ideal) ((c.tc : Thread Cert.KernelIdeal.nD Cert.KernelIdeal.τ).loc Cert.KernelIdeal.main_v51_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51_0) = v0 c
          ∧ r.2.mem ((c.tc : Thread Cert.KernelIdeal.nD Cert.KernelIdeal.τ).loc Cert.KernelIdeal.main_v51_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v61_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S8448x31744 : Shape := ⟨2, ![8448, 31744]⟩
abbrev S2048 : Shape := ⟨1, ![2048]⟩
abbrev S8448x2048 : Shape := ⟨2, ![8448, 2048]⟩
abbrev S_ : Shape := ⟨0, ![]⟩
abbrev S1x4x8x128x256 : Shape := ⟨5, ![1, 4, 8, 128, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S8x128x256 : Shape := ⟨3, ![8, 128, 256]⟩
abbrev S8x1x256 : Shape := ⟨3, ![8, 1, 256]⟩
abbrev S1x2048 : Shape := ⟨2, ![1, 2048]⟩
abbrev S4x8x128x256 : Shape := ⟨4, ![4, 8, 128, 256]⟩
abbrev S1024x256 : Shape := ⟨2, ![1024, 256]⟩
abbrev S1024x512 : Shape := ⟨2, ![1024, 512]⟩
abbrev S1x1x2x128x256 : Shape := ⟨5, ![1, 1, 2, 128, 256]⟩
abbrev S1x512 : Shape := ⟨2, ![1, 512]⟩
abbrev S2x128x128 : Shape := ⟨3, ![2, 128, 128]⟩
abbrev S2x128x256 : Shape := ⟨3, ![2, 128, 256]⟩
abbrev S2x1x256 : Shape := ⟨3, ![2, 1, 256]⟩
abbrev S1x2x128x256 : Shape := ⟨4, ![1, 2, 128, 256]⟩
abbrev S1x1x128x256 : Shape := ⟨4, ![1, 1, 128, 256]⟩
abbrev S128x256 : Shape := ⟨2, ![128, 256]⟩
abbrev S1x128x256 : Shape := ⟨3, ![1, 128, 256]⟩
abbrev S1x1x256 : Shape := ⟨3, ![1, 1, 256]⟩
abbrev S1x256 : Shape := ⟨2, ![1, 256]⟩

abbrev nBuf : Space → Nat
  | .hbm => 68
  | .vmem => 25
  | .smem => 0
  | _ => 0

abbrev bufTy : (tb : Table) → Fin (tcTables nBuf tb) → BufTy
  | .hbm, ⟨0, _⟩ => ⟨S8448x31744, .f32⟩
  | .hbm, ⟨1, _⟩ => ⟨S2048, .f32⟩
  | .hbm, ⟨2, _⟩ => ⟨S8448x2048, .bf16⟩
  | .hbm, ⟨3, _⟩ => ⟨S_, .f32⟩
  | .hbm, ⟨4, _⟩ => ⟨S1x4x8x128x256, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S128, .f32⟩
  | .hbm, ⟨15, _⟩ => ⟨S128x1, .f32⟩
  | .hbm, ⟨16, _⟩ => ⟨S1x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S1x128x128, .f32⟩
  | .hbm, ⟨27, _⟩ => ⟨S8x1x1, .f32⟩
  | .hbm, ⟨28, _⟩ => ⟨S8x128x128, .f32⟩
  | .hbm, ⟨29, _⟩ => ⟨S8x128x128, .f32⟩
  | .hbm, ⟨30, _⟩ => ⟨S8x128x128, .f32⟩
  | .hbm, ⟨31, _⟩ => ⟨S8x128x128, .f32⟩
  | .hbm, ⟨32, _⟩ => ⟨S_, .f32⟩
  | .hbm, ⟨33, _⟩ => ⟨S_, .f32⟩
  | .hbm, ⟨34, _⟩ => ⟨S8x128x128, .i1⟩
  | .hbm, ⟨35, _⟩ => ⟨S8x128x128, .f32⟩
  | .hbm, ⟨36, _⟩ => ⟨S8x128x128, .f32⟩
  | .hbm, ⟨37, _⟩ => ⟨S_, .f32⟩
  | .hbm, ⟨38, _⟩ => ⟨S128, .f32⟩
  | .hbm, ⟨39, _⟩ => ⟨S128, .f32⟩
  | .hbm, ⟨40, _⟩ => ⟨S1x128, .f32⟩
  | .hbm, ⟨41, _⟩ => ⟨S8x1, .f32⟩
  | .hbm, ⟨42, _⟩ => ⟨S8x128, .f32⟩
  | .hbm, ⟨43, _⟩ => ⟨S8x128, .f32⟩
  | .hbm, ⟨44, _⟩ => ⟨S8x128, .f32⟩
  | .hbm, ⟨45, _⟩ => ⟨S8x128, .f32⟩
  | .hbm, ⟨46, _⟩ => ⟨S_, .f32⟩
  | .hbm, ⟨47, _⟩ => ⟨S128, .f32⟩
  | .hbm, ⟨48, _⟩ => ⟨S128, .f32⟩
  | .hbm, ⟨49, _⟩ => ⟨S1x128, .f32⟩
  | .hbm, ⟨50, _⟩ => ⟨S8x1, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S_, .f32⟩
  | .hbm, ⟨56, _⟩ => ⟨S8, .f32⟩
  | .hbm, ⟨57, _⟩ => ⟨S8, .f32⟩
  | .hbm, ⟨58, _⟩ => ⟨S8, .f32⟩
  | .hbm, ⟨59, _⟩ => ⟨S8x128x1, .f32⟩
  | .hbm, ⟨60, _⟩ => ⟨S8x128x256, .f32⟩
  | .hbm, ⟨61, _⟩ => ⟨S8x128x1, .f32⟩
  | .hbm, ⟨62, _⟩ => ⟨S8x128x128, .f32⟩
  | .hbm, ⟨63, _⟩ => ⟨S8x1x1, .f32⟩
  | .hbm, ⟨64, _⟩ => ⟨S8x1x256, .f32⟩
  | .hbm, ⟨65, _⟩ => ⟨S1x2048, .f32⟩
  | .hbm, ⟨66, _⟩ => ⟨S8448x2048, .bf16⟩
  | .hbm, ⟨67, _⟩ => ⟨S4x8x128x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1x2x128x256, .f32⟩
  | .local _ .vmem, ⟨9, _⟩ => ⟨S1x1x2x128x256, .f32⟩
  | .local _ .vmem, ⟨10, _⟩ => ⟨S1x512, .f32⟩
  | .local _ .vmem, ⟨11, _⟩ => ⟨S1x512, .f32⟩
  | .local _ .vmem, ⟨12, _⟩ => ⟨S2x128x128, .f32⟩
  | .local _ .vmem, ⟨13, _⟩ => ⟨S2x128x128, .f32⟩
  | .local _ .vmem, ⟨14, _⟩ => ⟨S2x128x256, .f32⟩
  | .local _ .vmem, ⟨15, _⟩ => ⟨S2x128x256, .f32⟩
  | .local _ .vmem, ⟨16, _⟩ => ⟨S2x128x128, .f32⟩
  | .local _ .vmem, ⟨17, _⟩ => ⟨S2x128x128, .f32⟩
  | .local _ .vmem, ⟨18, _⟩ => ⟨S2x1x256, .f32⟩
  | .local _ .vmem, ⟨19, _⟩ => ⟨S2x1x256, .f32⟩
  | .local _ .vmem, ⟨20, _⟩ => ⟨S1024x512, .bf16⟩
  | .local _ .vmem, ⟨21, _⟩ => ⟨S1024x512, .bf16⟩
  | .local _ .vmem, ⟨22, _⟩ => ⟨S1x2x128x256, .f32⟩
  | .local _ .vmem, ⟨23, _⟩ => ⟨S1x2x128x256, .f32⟩
  | .local _ .vmem, ⟨24, _⟩ => ⟨S1x2x128x256, .f32⟩
  | _, _ => ⟨S8448x31744, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51_0 : Ref sig .tc := ⟨.hbm, 66, rfl⟩
abbrev main_v51_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v813 : BitVec 1 := Scalar.cmpi .eq arg2 c1_i32
  let v814 : BitVec 32 := Scalar.extui v813
  let c0_i32_519 : BitVec 32 := 0#32
  let v815 : BitVec 1 := Scalar.cmpi .ne v814 c0_i32_519
  v815

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi c0_i32 v0
  let v2 : BitVec 32 := Scalar.addi v1 arg2
  let c20_i32 : BitVec 32 := 20#32
  let v3 : BitVec 32 := Scalar.addi c20_i32 arg0
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi c0_i32 v0
  let v2 : BitVec 32 := Scalar.addi v1 arg2
  let c24_i32 : BitVec 32 := 24#32
  let v3 : BitVec 32 := Scalar.addi c24_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi c0_i32 v0
  let v2 : BitVec 32 := Scalar.addi v1 arg2
  let c14_i32 : BitVec 32 := 14#32
  let v3 : BitVec 32 := Scalar.addi c14_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let c0_i32 : BitVec 32 := 0#32
  let v1 : BitVec 32 := Scalar.addi c0_i32 v0
  let v2 : BitVec 32 := Scalar.addi v1 arg2
  let c18_i32 : BitVec 32 := 18#32
  let v3 : BitVec 32 := Scalar.addi c18_i32 arg0
  let c0_i32_0 : BitVec 32 := 0#32
  ![v2.toNat, v3.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  ![v1.toNat, arg0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S2x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S2x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S2x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== ReferenceIdeal.lean ====
abbrev S8448x31744 : Shape := ⟨2, ![8448, 31744]⟩
abbrev S2048 : Shape := ⟨1, ![2048]⟩
abbrev S8448x2048 : Shape := ⟨2, ![8448, 2048]⟩
abbrev S8192x31744 : Shape := ⟨2, ![8192, 31744]⟩
abbrev S4x2048x31744 : Shape := ⟨3, ![4, 2048, 31744]⟩
abbrev S4x2048x1024 : Shape := ⟨3, ![4, 2048, 1024]⟩
abbrev S4x2048x2048 : Shape := ⟨3, ![4, 2048, 2048]⟩
abbrev S_ : Shape := ⟨0, ![]⟩
abbrev S4x8x128x256 : Shape := ⟨4, ![4, 8, 128, 256]⟩
abbrev S4x2048x8x128 : Shape := ⟨4, ![4, 2048, 8, 128]⟩
abbrev S4x2048x8x256 : Shape := ⟨4, ![4, 2048, 8, 256]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S4x16x128x8x128 : Shape := ⟨5, ![4, 16, 128, 8, 128]⟩
abbrev S16x4x128x8x128 : Shape := ⟨5, ![16, 4, 128, 8, 128]⟩
abbrev S4x16x128x8x256 : Shape := ⟨5, ![4, 16, 128, 8, 256]⟩
abbrev S16x4x128x8x256 : Shape := ⟨5, ![16, 4, 128, 8, 256]⟩
abbrev S1x4x128x8x128 : Shape := ⟨5, ![1, 4, 128, 8, 128]⟩
abbrev S4x128x8x128 : Shape := ⟨4, ![4, 128, 8, 128]⟩
abbrev S1x4x128x8x256 : Shape := ⟨5, ![1, 4, 128, 8, 256]⟩
abbrev S4x128x8x256 : Shape := ⟨4, ![4, 128, 8, 256]⟩
abbrev S4x8x128x128 : Shape := ⟨4, ![4, 8, 128, 128]⟩
abbrev S1x8x128x128 : Shape := ⟨4, ![1, 8, 128, 128]⟩
abbrev S4x8x256x128 : Shape := ⟨4, ![4, 8, 256, 128]⟩
abbrev S1x128x8x1 : Shape := ⟨4, ![1, 128, 8, 1]⟩
abbrev S1x8x1x1 : Shape := ⟨4, ![1, 8, 1, 1]⟩
abbrev S4x2048x8 : Shape := ⟨3, ![4, 2048, 8]⟩
abbrev S4x2048x8x1 : Shape := ⟨4, ![4, 2048, 8, 1]⟩
abbrev S8x256 : Shape := ⟨2, ![8, 256]⟩
abbrev S1x1x8x256 : Shape := ⟨4, ![1, 1, 8, 256]⟩
abbrev S8192x2048 : Shape := ⟨2, ![8192, 2048]⟩
abbrev S256x2048 : Shape := ⟨2, ![256, 2048]⟩

abbrev nBuf : Space → Nat
  | .hbm => 172
  | .vmem => 0
  | .smem => 0
  | _ => 0

abbrev hbmTy0_0 (i : Nat) : BufTy := match i % 128 with
  | 0 => ⟨S8448x31744, .f32⟩
  | 1 => ⟨S2048, .f32⟩
  | 2 => ⟨S8448x2048, .bf16⟩
  | 3 => ⟨S8192x31744, .f32⟩
  | 4 => ⟨S4x2048x31744, .f32⟩
  | 5 => ⟨S4x2048x1024, .f32⟩
  | 6 => ⟨S4x2048x1024, .f32⟩
  | 7 => ⟨S4x2048x2048, .f32⟩
  | 8 => ⟨S_, .f32⟩
  | 9 => ⟨S4x8x128x256, .f32⟩
  | 10 => ⟨S4x2048x8x128, .f32⟩
  | 11 => ⟨S4x2048x8x128, .f32⟩
  | 12 => ⟨S_, .f32⟩
  | 13 => ⟨S4x2048x8x128, .f32⟩
  | 14 => ⟨S4x2048x8x128, .f32⟩
  | 15 => ⟨S4x2048x8x256, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S8, .f32⟩
  | 24 => ⟨S8, .f32⟩
  | 25 => ⟨S128, .f32⟩
  | 26 => ⟨S128x1, .f32⟩
  | 27 => ⟨S1x128, .f32⟩
  | 28 => ⟨S128x128, .f32⟩
  | 29 => ⟨S128x128, .f32⟩
  | 30 => ⟨S128x128, .f32⟩
  | 31 => ⟨S_, .f32⟩
  | 32 => ⟨S128x128, .f32⟩
  | 33 => ⟨S128x128, .i1⟩
  | 34 => ⟨S_, .f32⟩
  | 35 => ⟨S128x128, .f32⟩
  | 36 => ⟨S128x128, .f32⟩
  | 37 => ⟨S1x128x128, .f32⟩
  | 38 => ⟨S8x1x1, .f32⟩
  | 39 => ⟨S8x128x128, .f32⟩
  | 40 => ⟨S8x128x128, .f32⟩
  | 41 => ⟨S8x128x128, .f32⟩
  | 42 => ⟨S8x128x128, .f32⟩
  | 43 => ⟨S_, .f32⟩
  | 44 => ⟨S_, .f32⟩
  | 45 => ⟨S8x128x128, .i1⟩
  | 46 => ⟨S8x128x128, .f32⟩
  | 47 => ⟨S8x128x128, .f32⟩
  | 48 => ⟨S_, .f32⟩
  | 49 => ⟨S128, .f32⟩
  | 50 => ⟨S128, .f32⟩
  | 51 => ⟨S128x1, .f32⟩
  | 52 => ⟨S1x8, .f32⟩
  | 53 => ⟨S128x8, .f32⟩
  | 54 => ⟨S128x8, .f32⟩
  | 55 => ⟨S128x8, .f32⟩
  | 56 => ⟨S128x8, .f32⟩
  | 57 => ⟨S_, .f32⟩
  | 58 => ⟨S128, .f32⟩
  | 59 => ⟨S128, .f32⟩
  | 60 => ⟨S128x1, .f32⟩
  | 61 => ⟨S1x8, .f32⟩
  | 62 => ⟨S128x8, .f32⟩
  | 63 => ⟨S128x8, .f32⟩
  | 64 => ⟨S128x8, .f32⟩
  | 65 => ⟨S128x8, .f32⟩
  | 66 => ⟨S_, .f32⟩
  | 67 => ⟨S8, .f32⟩
  | 68 => ⟨S8, .f32⟩
  | 69 => ⟨S8, .f32⟩
  | 70 => ⟨S4x16x128x8x128, .f32⟩
  | 71 => ⟨S16x4x128x8x128, .f32⟩
  | 72 => ⟨S4x16x128x8x128, .f32⟩
  | 73 => ⟨S16x4x128x8x128, .f32⟩
  | 74 => ⟨S4x16x128x8x256, .f32⟩
  | 75 => ⟨S16x4x128x8x256, .f32⟩
  | 76 => ⟨S_, .f32⟩
  | 77 => ⟨S16x4x128x8x256, .f32⟩
  | 78 => ⟨S_, .i32⟩
  | 79 => ⟨S16x4x128x8x128, .f32⟩
  | 80 => ⟨S16x4x128x8x128, .f32⟩
  | 81 => ⟨S16x4x128x8x256, .f32⟩
  | 82 => ⟨S8x128x128, .f32⟩
  | 83 => ⟨S128x8, .f32⟩
  | 84 => ⟨S8, .f32⟩
  | 85 => ⟨S128x8, .f32⟩
  | 86 => ⟨S_, .i32⟩
  | 87 => ⟨S4x8x128x256, .f32⟩
  | 88 => ⟨S16x4x128x8x256, .f32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S1x4x128x8x128, .f32⟩
  | 96 => ⟨S4x128x8x128, .f32⟩
  | 97 => ⟨S_, .i32⟩
  | 98 => ⟨S_, .i32⟩
  | 99 => ⟨S_, .i32⟩
  | 100 => ⟨S_, .i32⟩
  | 101 => ⟨S1x4x128x8x128, .f32⟩
  | 102 => ⟨S4x128x8x128, .f32⟩
  | 103 => ⟨S_, .i32⟩
  | 104 => ⟨S_, .i32⟩
  | 105 => ⟨S_, .i32⟩
  | 106 => ⟨S_, .i32⟩
  | 107 => ⟨S1x4x128x8x256, .f32⟩
  | 108 => ⟨S4x128x8x256, .f32⟩
  | 109 => ⟨S4x8x128x128, .f32⟩
  | 110 => ⟨S1x8x128x128, .f32⟩
  | 111 => ⟨S4x8x128x128, .f32⟩
  | 112 => ⟨S4x8x128x128, .f32⟩
  | 113 => ⟨S4x8x256x128, .f32⟩
  | 114 => ⟨S4x128x8x256, .f32⟩
  | 115 => ⟨S4x8x256x128, .f32⟩
  | 116 => ⟨S4x128x8x256, .f32⟩
  | 117 => ⟨S1x128x8x1, .f32⟩
  | 118 => ⟨S4x128x8x256, .f32⟩
  | 119 => ⟨S4x128x8x256, .f32⟩
  | 120 => ⟨S4x128x8x256, .f32⟩
  | 121 => ⟨S1x8x1x1, .f32⟩
  | 122 => ⟨S4x8x128x256, .f32⟩
  | 123 => ⟨S4x8x128x256, .f32⟩
  | 124 => ⟨S1x128x8x1, .f32⟩
  | 125 => ⟨S4x128x8x128, .f32⟩
  | 126 => ⟨S4x128x8x128, .f32⟩
  | 127 => ⟨S4x8x128x256, .f32⟩
  | _ => ⟨S8448x31744, .f32⟩

abbrev hbmTy0_1 (i : Nat) : BufTy := match i % 128 with
  | 0 => ⟨S4x8x128x256, .f32⟩
  | 1 => ⟨S1x4x128x8x256, .f32⟩
  | 2 => ⟨S_, .i32⟩
  | 3 => ⟨S_, .i32⟩
  | 4 => ⟨S_, .i32⟩
  | 5 => ⟨S_, .i32⟩
  | 6 => ⟨S16x4x128x8x256, .f32⟩
  | 7 => ⟨S_, .i32⟩
  | 8 => ⟨S_, .i32⟩
  | 9 => ⟨S4x16x128x8x256, .f32⟩
  | 10 => ⟨S4x2048x8x256, .f32⟩
  | 11 => ⟨S4x2048x8x256, .f32⟩
  | 12 => ⟨S_, .f32⟩
  | 13 => ⟨S4x2048x8, .f32⟩
  | 14 => ⟨S4x2048x8x1, .f32⟩
  | 15 => ⟨S_, .f32⟩
  | 16 => ⟨S4x2048x8x1, .f32⟩
  | 17 => ⟨S4x2048x8x1, .f32⟩
  | 18 => ⟨S_, .f32⟩
  | 19 => ⟨S4x2048x8x1, .f32⟩
  | 20 => ⟨S4x2048x8x1, .f32⟩
  | 21 => ⟨S4x2048x8x1, .f32⟩
  | 22 => ⟨S4x2048x8x256, .f32⟩
  | 23 => ⟨S4x2048x8x256, .f32⟩
  | 24 => ⟨S8x256, .f32⟩
  | 25 => ⟨S1x1x8x256, .f32⟩
  | 26 => ⟨S4x2048x8x256, .f32⟩
  | 27 => ⟨S4x2048x8x256, .f32⟩
  | 28 => ⟨S4x2048x2048, .f32⟩
  | 29 => ⟨S8192x2048, .f32⟩
  | 30 => ⟨S8192x2048, .f32⟩
  | 31 => ⟨S8192x2048, .f32⟩
  | 32 => ⟨S8192x2048, .f32⟩
  | 33 => ⟨S_, .f32⟩
  | 34 => ⟨S8192x2048, .f32⟩
  | 35 => ⟨S8192x2048, .f32⟩
  | 36 => ⟨S_, .f32⟩
  | 37 => ⟨S8192x2048, .f32⟩
  | 38 => ⟨S8192x2048, .f32⟩
  | 39 => ⟨S8192x2048, .f32⟩
  | 40 => ⟨S8192x2048, .f32⟩
  | 41 => ⟨S8192x2048, .bf16⟩
  | 42 => ⟨S256x2048, .bf16⟩
  | 43 => ⟨S8448x2048, .bf16⟩
  | _ => ⟨S8448x31744, .f32⟩

abbrev hbmTy (i : Nat) : BufTy := match i / 128 with
  | 0 => hbmTy0_0 i
  | 1 => hbmTy0_1 i
  | _ => ⟨S8448x31744, .f32⟩

abbrev bufTy : (tb : Table) → Fin (tcTables nBuf tb) → BufTy
  | .hbm, ⟨i, _⟩ => hbmTy i
  | _, _ => ⟨S8448x31744, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_8 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_9 : Ref sig .tc := ⟨.hbm, 76, rfl⟩
abbrev main_v60 : Ref sig .tc := ⟨.hbm, 77, rfl⟩
abbrev main_c : Ref sig .tc := ⟨.hbm, 78, rfl⟩
abbrev main_v61_0 : Ref sig .tc := ⟨.hbm, 79, rfl⟩
abbrev main_v61_1 : Ref sig .tc := ⟨.hbm, 80, rfl⟩
abbrev main_v61_2 : Ref sig .tc := ⟨.hbm, 81, rfl⟩
abbrev main_v61_3 : Ref sig .tc := ⟨.hbm, 82, rfl⟩
abbrev main_v61_4 : Ref sig .tc := ⟨.hbm, 83, rfl⟩
abbrev main_v61_5 : Ref sig .tc := ⟨.hbm, 84, rfl⟩
abbrev main_v61_6 : Ref sig .tc := ⟨.hbm, 85, rfl⟩
abbrev main_v61_7 : Ref sig .tc := ⟨.hbm, 86, rfl⟩
abbrev main_v61_8 : Ref sig .tc := ⟨.hbm, 87, rfl⟩
abbrev main_v61_9 : Ref sig .tc := ⟨.hbm, 88, rfl⟩
abbrev main_while0c_c_22 : Ref sig .tc := ⟨.hbm, 89, rfl⟩
abbrev main_while0c_v86 : Ref sig .tc := ⟨.hbm, 90, rfl⟩
abbrev main_while0b_call1_c : Ref sig .tc := ⟨.hbm, 91, rfl⟩
abbrev main_while0b_call1_c_0 : Ref sig .tc := ⟨.hbm, 92, rfl⟩
abbrev main_while0b_call1_c_1 : Ref sig .tc := ⟨.hbm, 93, rfl⟩
abbrev main_while0b_call1_c_2 : Ref sig .tc := ⟨.hbm, 94, rfl⟩
abbrev main_while0b_call1_v0 : Ref sig .tc := ⟨.hbm, 95, rfl⟩
abbrev main_while0b_v86 : Ref sig .tc := ⟨.hbm, 96, rfl⟩
abbrev main_while0b_call2_c : Ref sig .tc := ⟨.hbm, 97, rfl⟩
abbrev main_while0b_call2_c_0 : Ref sig .tc := ⟨.hbm, 98, rfl⟩
abbrev main_while0b_call2_c_1 : Ref sig .tc := ⟨.hbm, 99, rfl⟩
abbrev main_while0b_call2_c_2 : Ref sig .tc := ⟨.hbm, 100, rfl⟩
abbrev main_while0b_call2_v0 : Ref sig .tc := ⟨.hbm, 101, rfl⟩
abbrev main_while0b_v87 : Ref sig .tc := ⟨.hbm, 102, rfl⟩
abbrev main_while0b_call3_c : Ref sig .tc := ⟨.hbm, 103, rfl⟩
abbrev main_while0b_call3_c_0 : Ref sig .tc := ⟨.hbm, 104, rfl⟩
abbrev main_while0b_call3_c_1 : Ref sig .tc := ⟨.hbm, 105, rfl⟩
abbrev main_while0b_call3_c_2 : Ref sig .tc := ⟨.hbm, 106, rfl⟩
abbrev main_while0b_call3_v0 : Ref sig .tc := ⟨.hbm, 107, rfl⟩
abbrev main_while0b_v88 : Ref sig .tc := ⟨.hbm, 108, rfl⟩
abbrev main_while0b_v89 : Ref sig .tc := ⟨.hbm, 109, rfl⟩
abbrev main_while0b_v90 : Ref sig .tc := ⟨.hbm, 110, rfl⟩
abbrev main_while0b_v91 : Ref sig .tc := ⟨.hbm, 111, rfl⟩
abbrev main_while0b_v92 : Ref sig .tc := ⟨.hbm, 112, rfl⟩
abbrev main_while0b_v93 : Ref sig .tc := ⟨.hbm, 113, rfl⟩
abbrev main_while0b_v94 : Ref sig .tc := ⟨.hbm, 114, rfl⟩
abbrev main_while0b_v95 : Ref sig .tc := ⟨.hbm, 115, rfl⟩
abbrev main_while0b_v96 : Ref sig .tc := ⟨.hbm, 116, rfl⟩
abbrev main_while0b_v97 : Ref sig .tc := ⟨.hbm, 117, rfl⟩
abbrev main_while0b_v98 : Ref sig .tc := ⟨.hbm, 118, rfl⟩
abbrev main_while0b_v99 : Ref sig .tc := ⟨.hbm, 119, rfl⟩
abbrev main_while0b_v100 : Ref sig .tc := ⟨.hbm, 120, rfl⟩
abbrev main_while0b_v101 : Ref sig .tc := ⟨.hbm, 121, rfl⟩
abbrev main_while0b_v102 : Ref sig .tc := ⟨.hbm, 122, rfl⟩
abbrev main_while0b_v103 : Ref sig .tc := ⟨.hbm, 123, rfl⟩
abbrev main_while0b_v104 : Ref sig .tc := ⟨.hbm, 124, rfl⟩
abbrev main_while0b_v105 : Ref sig .tc := ⟨.hbm, 125, rfl⟩
abbrev main_while0b_v106 : Ref sig .tc := ⟨.hbm, 126, rfl⟩
abbrev main_while0b_v107 : Ref sig .tc := ⟨.hbm, 127, rfl⟩
abbrev main_while0b_v108 : Ref sig .tc := ⟨.hbm, 128, rfl⟩
abbrev main_while0b_call4_v0 : Ref sig .tc := ⟨.hbm, 129, rfl⟩
abbrev main_while0b_call4_c : Ref sig .tc := ⟨.hbm, 130, rfl⟩
abbrev main_while0b_call4_c_0 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_v109 : Ref sig .tc := ⟨.hbm, 134, rfl⟩
abbrev main_while0b_c_22 : Ref sig .tc := ⟨.hbm, 135, rfl⟩
abbrev main_while0b_v110 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_cst_10 : Ref sig .tc := ⟨.hbm, 140, rfl⟩
abbrev main_v65 : Ref sig .tc := ⟨.hbm, 141, rfl⟩
abbrev main_v66 : Ref sig .tc := ⟨.hbm, 142, rfl⟩
abbrev main_cst_11 : Ref sig .tc := ⟨.hbm, 143, rfl⟩
abbrev main_v67 : Ref sig .tc := ⟨.hbm, 144, rfl⟩
abbrev main_v68 : Ref sig .tc := ⟨.hbm, 145, rfl⟩
abbrev main_cst_12 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_call5_v0 : Ref sig .tc := ⟨.hbm, 159, rfl⟩
abbrev main_call5_v1 : Ref sig .tc := ⟨.hbm, 160, rfl⟩
abbrev main_call5_cst : Ref sig .tc := ⟨.hbm, 161, rfl⟩
abbrev main_call5_v2 : Ref sig .tc := ⟨.hbm, 162, rfl⟩
abbrev main_call5_v3 : Ref sig .tc := ⟨.hbm, 163, rfl⟩
abbrev main_call5_cst_0 : Ref sig .tc := ⟨.hbm, 164, rfl⟩
abbrev main_call5_v4 : Ref sig .tc := ⟨.hbm, 165, rfl⟩
abbrev main_call5_v5 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8448x4096 : Shape := ⟨2, ![8448, 4096]⟩
abbrev S4x4096x31744 : Shape := ⟨3, ![4, 4096, 31744]⟩
abbrev S8448x31744 : Shape := ⟨2, ![8448, 31744]⟩
abbrev S1056x4096 : Shape := ⟨2, ![1056, 4096]⟩
abbrev S1056x1024 : Shape := ⟨2, ![1056, 1024]⟩
abbrev S4096x1024 : Shape := ⟨2, ![4096, 1024]⟩
abbrev S1 : Shape := ⟨1, ![1]⟩
abbrev S_ : Shape := ⟨0, ![]⟩
abbrev S1x4096x1024 : Shape := ⟨3, ![1, 4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x4096, .bf16⟩
  | .hbm, ⟨1, _⟩ => ⟨S4x4096x31744, .f32⟩
  | .hbm, ⟨2, _⟩ => ⟨S8448x31744, .f32⟩
  | .local _ .vmem, ⟨0, _⟩ => ⟨S1056x4096, .bf16⟩
  | .local _ .vmem, ⟨1, _⟩ => ⟨S1056x4096, .bf16⟩
  | .local _ .vmem, ⟨2, _⟩ => ⟨S1056x1024, .f32⟩
  | .local _ .vmem, ⟨3, _⟩ => ⟨S1056x1024, .f32⟩
  | .local _ .vmem, ⟨4, _⟩ => ⟨S4096x1024, .f32⟩
  | .local _ .vmem, ⟨5, _⟩ => ⟨S4096x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![31, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_8 : BitVec 32 := 0#32
  let c0_i32_10 : BitVec 32 := 0#32
  let arg0 : BitVec 32 := BitVec.ofNat 32 (i 0).val
  let c1024_i32 : BitVec 32 := 1024#32
  let v10 : BitVec 32 := Scalar.muli arg0 c1024_i32
  ![0, 0, v10.toNat]
def k0_cond3 (i : grid0.Coords) : BitVec 1 :=
  let arg0 : BitVec 32 := BitVec.ofNat 32 (i 0).val
  let c1_i32 : BitVec 32 := 1#32
  let v20 : BitVec 32 := Scalar.addi arg0 c1_i32
  let c31_i32 : BitVec 32 := 31#32
  let v21 : BitVec 1 := Scalar.cmpi .slt v20 c31_i32
  let v22 : BitVec 32 := Scalar.extui v21
  let c0_i32_15 : BitVec 32 := 0#32
  let v23 : BitVec 1 := Scalar.cmpi .ne v22 c0_i32_15
  v23

def k0_off2 (i : grid0.Coords) : Fin 3 → Nat :=
  let c0_i32_18 : BitVec 32 := 0#32
  let c0_i32_20 : BitVec 32 := 0#32
  let arg0 : BitVec 32 := BitVec.ofNat 32 (i 0).val
  let c1_i32_16 : BitVec 32 := 1#32
  let v24 : BitVec 32 := Scalar.addi arg0 c1_i32_16
  let c1024_i32_17 : BitVec 32 := 1024#32
  let v25 : BitVec 32 := Scalar.muli v24 c1024_i32_17
  ![0, 0, v25.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1056x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference2Ideal.lean ====
abbrev S8448x4096 : Shape := ⟨2, ![8448, 4096]⟩
abbrev S4x4096x31744 : Shape := ⟨3, ![4, 4096, 31744]⟩
abbrev S1x4096x31744 : Shape := ⟨3, ![1, 4096, 31744]⟩
abbrev S4096x31744 : Shape := ⟨2, ![4096, 31744]⟩
abbrev S8448x31744 : Shape := ⟨2, ![8448, 31744]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x4096x31744, .f32⟩
  | .hbm, ⟨2, _⟩ => ⟨S8448x4096, .f32⟩
  | .hbm, ⟨3, _⟩ => ⟨S1x4096x31744, .f32⟩
  | .hbm, ⟨4, _⟩ => ⟨S4096x31744, .f32⟩
  | .hbm, ⟨5, _⟩ => ⟨S8448x31744, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S8448x4096 : Shape := ⟨2, ![8448, 4096]⟩
abbrev S4096 : Shape := ⟨1, ![4096]⟩
abbrev S1x4096 : Shape := ⟨2, ![1, 4096]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S1x4096, .f32⟩
  | .hbm, ⟨3, _⟩ => ⟨S8192x4096, .f32⟩
  | .hbm, ⟨4, _⟩ => ⟨S256x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32 : BitVec 32 := 0#32
  let v17 : BitVec 1 := Scalar.cmpi .ne v16 c0_i32
  v17

def k0_cond2 (i : grid0.Coords) : BitVec 1 :=
  let arg0 : BitVec 32 := BitVec.ofNat 32 (i 0).val
  let c32_i32_5 : BitVec 32 := 32#32
  let v18 : BitVec 1 := Scalar.cmpi .sge arg0 c32_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S8448x4096 : Shape := ⟨2, ![8448, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 36
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S256x4096, .f32⟩
  | .hbm, ⟨20, _⟩ => ⟨S256x4096, .f32⟩
  | .hbm, ⟨21, _⟩ => ⟨S_, .f32⟩
  | .hbm, ⟨22, _⟩ => ⟨S256, .f32⟩
  | .hbm, ⟨23, _⟩ => ⟨S256x1, .f32⟩
  | .hbm, ⟨24, _⟩ => ⟨S_, .f32⟩
  | .hbm, ⟨25, _⟩ => ⟨S256x1, .f32⟩
  | .hbm, ⟨26, _⟩ => ⟨S256x1, .f32⟩
  | .hbm, ⟨27, _⟩ => ⟨S_, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S256x4096, .f32⟩
  | .hbm, ⟨32, _⟩ => ⟨S256x4096, .f32⟩
  | .hbm, ⟨33, _⟩ => ⟨S1x4096, .f32⟩
  | .hbm, ⟨34, _⟩ => ⟨S256x4096, .f32⟩
  | .hbm, ⟨35, _⟩ => ⟨S256x4096, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S8448x4096 : Shape := ⟨2, ![8448, 4096]⟩
abbrev S4x4096x4096 : Shape := ⟨3, ![4, 4096, 4096]⟩
abbrev S768x4096 : Shape := ⟨2, ![768, 4096]⟩
abbrev S768x1024 : Shape := ⟨2, ![768, 1024]⟩
abbrev S4096x1024 : Shape := ⟨2, ![4096, 1024]⟩
abbrev S1 : Shape := ⟨1, ![1]⟩
abbrev S_ : Shape := ⟨0, ![]⟩
abbrev S1x4096x1024 : Shape := ⟨3, ![1, 4096, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x4096, .f32⟩
  | .hbm, ⟨3, _⟩ => ⟨S8448x4096, .f32⟩
  | .hbm, ⟨4, _⟩ => ⟨S8448x4096, .bf16⟩
  | .local _ .vmem, ⟨0, _⟩ => ⟨S768x4096, .bf16⟩
  | .local _ .vmem, ⟨1, _⟩ => ⟨S768x4096, .bf16⟩
  | .local _ .vmem, ⟨2, _⟩ => ⟨S768x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .bf16⟩
  | .local _ .vmem, ⟨7, _⟩ => ⟨S768x1024, .bf16⟩
  | .local _ .vmem, ⟨8, _⟩ => ⟨S4096x1024, .f32⟩
  | .local _ .vmem, ⟨9, _⟩ => ⟨S4096x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_12 : BitVec 32 := 0#32
  let c0_i32_14 : BitVec 32 := 0#32
  let arg0 : BitVec 32 := BitVec.ofNat 32 (i 0).val
  let c1024_i32 : BitVec 32 := 1024#32
  let v14 : BitVec 32 := Scalar.muli arg0 c1024_i32
  ![0, 0, v14.toNat]
def k0_cond3 (i : grid0.Coords) : BitVec 1 :=
  let arg0 : BitVec 32 := BitVec.ofNat 32 (i 0).val
  let c1_i32 : BitVec 32 := 1#32
  let v24 : BitVec 32 := Scalar.addi arg0 c1_i32
  let c4_i32 : BitVec 32 := 4#32
  let v25 : BitVec 1 := Scalar.cmpi .slt v24 c4_i32
  let v26 : BitVec 32 := Scalar.extui v25
  let c0_i32_19 : BitVec 32 := 0#32
  let v27 : BitVec 1 := Scalar.cmpi .ne v26 c0_i32_19
  v27

def k0_off2 (i : grid0.Coords) : Fin 3 → Nat :=
  let c0_i32_22 : BitVec 32 := 0#32
  let c0_i32_24 : BitVec 32 := 0#32
  let arg0 : BitVec 32 := BitVec.ofNat 32 (i 0).val
  let c1_i32_20 : BitVec 32 := 1#32
  let v28 : BitVec 32 := Scalar.addi arg0 c1_i32_20
  let c1024_i32_21 : BitVec 32 := 1024#32
  let v29 : BitVec 32 := Scalar.muli v28 c1024_i32_21
  ![0, 0, v29.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S8448x4096 : Shape := ⟨2, ![8448, 4096]⟩
abbrev S4x4096x4096 : Shape := ⟨3, ![4, 4096, 4096]⟩
abbrev S1x4096x4096 : Shape := ⟨3, ![1, 4096, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x4096, .f32⟩
  | .hbm, ⟨3, _⟩ => ⟨S8448x4096, .f32⟩
  | .hbm, ⟨4, _⟩ => ⟨S1x4096x4096, .f32⟩
  | .hbm, ⟨5, _⟩ => ⟨S4096x4096, .f32⟩
  | .hbm, ⟨6, _⟩ => ⟨S8448x4096, .f32⟩
  | .hbm, ⟨7, _⟩ => ⟨S8448x4096, .f32⟩
  | .hbm, ⟨8, _⟩ => ⟨S8448x4096, .bf16⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8448x4096 : Shape := ⟨2, ![8448, 4096]⟩
abbrev S4x4096x4096 : Shape := ⟨3, ![4, 4096, 4096]⟩
abbrev S8448x256 : Shape := ⟨2, ![8448, 256]⟩
abbrev S4x256x4096 : Shape := ⟨3, ![4, 256, 4096]⟩
abbrev S768x4096 : Shape := ⟨2, ![768, 4096]⟩
abbrev S768x256 : Shape := ⟨2, ![768, 256]⟩
abbrev S768x1024 : Shape := ⟨2, ![768, 1024]⟩
abbrev S4096x1024 : Shape := ⟨2, ![4096, 1024]⟩
abbrev S256x1024 : Shape := ⟨2, ![256, 1024]⟩
abbrev S2 : Shape := ⟨1, ![2]⟩
abbrev S1 : Shape := ⟨1, ![1]⟩
abbrev S_ : Shape := ⟨0, ![]⟩
abbrev S1x4096x1024 : Shape := ⟨3, ![1, 4096, 1024]⟩
abbrev S1x256x1024 : Shape := ⟨3, ![1, 256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x256, .bf16⟩
  | .hbm, ⟨3, _⟩ => ⟨S4x256x4096, .f32⟩
  | .hbm, ⟨4, _⟩ => ⟨S8448x4096, .f32⟩
  | .hbm, ⟨5, _⟩ => ⟨S8448x4096, .f32⟩
  | .local _ .vmem, ⟨0, _⟩ => ⟨S768x4096, .bf16⟩
  | .local _ .vmem, ⟨1, _⟩ => ⟨S768x4096, .bf16⟩
  | .local _ .vmem, ⟨2, _⟩ => ⟨S768x256, .bf16⟩
  | .local _ .vmem, ⟨3, _⟩ => ⟨S768x256, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S4096x1024, .f32⟩
  | .local _ .vmem, ⟨9, _⟩ => ⟨S4096x1024, .bf16⟩
  | .local _ .vmem, ⟨10, _⟩ => ⟨S256x1024, .f32⟩
  | .local _ .vmem, ⟨11, _⟩ => ⟨S256x1024, .bf16⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_15 : BitVec 32 := 0#32
  let c0_i32_17 : BitVec 32 := 0#32
  let arg0 : BitVec 32 := BitVec.ofNat 32 (i 0).val
  let c1024_i32 : BitVec 32 := 1024#32
  let v17 : BitVec 32 := Scalar.muli arg0 c1024_i32
  ![0, 0, v17.toNat]
def k0_off2 (i : grid0.Coords) : Fin 3 → Nat :=
  let c0_i32_23 : BitVec 32 := 0#32
  let c0_i32_24 : BitVec 32 := 0#32
  let arg0 : BitVec 32 := BitVec.ofNat 32 (i 0).val
  let c1024_i32_22 : BitVec 32 := 1024#32
  let v27 : BitVec 32 := Scalar.muli arg0 c1024_i32_22
  ![0, 0, v27.toNat]
def k0_cond3 (i : grid0.Coords) : BitVec 1 :=
  let arg0 : BitVec 32 := BitVec.ofNat 32 (i 0).val
  let c1_i32_29 : BitVec 32 := 1#32
  let v37 : BitVec 32 := Scalar.addi arg0 c1_i32_29
  let c4_i32 : BitVec 32 := 4#32
  let v38 : BitVec 1 := Scalar.cmpi .slt v37 c4_i32
  let v39 : BitVec 32 := Scalar.extui v38
  let c0_i32_30 : BitVec 32 := 0#32
  let v40 : BitVec 1 := Scalar.cmpi .ne v39 c0_i32_30
  v40

def k0_off3 (i : grid0.Coords) : Fin 3 → Nat :=
  let c0_i32_33 : BitVec 32 := 0#32
  let c0_i32_35 : BitVec 32 := 0#32
  let arg0 : BitVec 32 := BitVec.ofNat 32 (i 0).val
  let c1_i32_31 : BitVec 32 := 1#32
  let v41 : BitVec 32 := Scalar.addi arg0 c1_i32_31
  let c1024_i32_32 : BitVec 32 := 1024#32
  let v42 : BitVec 32 := Scalar.muli v41 c1024_i32_32
  ![0, 0, v42.toNat]
def k0_off4 (i : grid0.Coords) : Fin 3 → Nat :=
  let c0_i32_38 : BitVec 32 := 0#32
  let c0_i32_40 : BitVec 32 := 0#32
  let arg0 : BitVec 32 := BitVec.ofNat 32 (i 0).val
  let c1_i32_36 : BitVec 32 := 1#32
  let v47 : BitVec 32 := Scalar.addi arg0 c1_i32_36
  let c1024_i32_37 : BitVec 32 := 1024#32
  let v48 : BitVec 32 := Scalar.muli v47 c1024_i32_37
  ![0, 0, v48.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8448x4096 : Shape := ⟨2, ![8448, 4096]⟩
abbrev S4x4096x4096 : Shape := ⟨3, ![4, 4096, 4096]⟩
abbrev S8448x256 : Shape := ⟨2, ![8448, 256]⟩
abbrev S4x256x4096 : Shape := ⟨3, ![4, 256, 4096]⟩
abbrev S1x4096x4096 : Shape := ⟨3, ![1, 4096, 4096]⟩
abbrev S4096x4096 : Shape := ⟨2, ![4096, 4096]⟩
abbrev S_ : Shape := ⟨0, ![]⟩
abbrev S1x256x4096 : Shape := ⟨3, ![1, 256, 4096]⟩
abbrev S256x4096 : Shape := ⟨2, ![256, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4x4096x4096, .f32⟩
  | .hbm, ⟨2, _⟩ => ⟨S8448x256, .bf16⟩
  | .hbm, ⟨3, _⟩ => ⟨S4x256x4096, .f32⟩
  | .hbm, ⟨4, _⟩ => ⟨S8448x4096, .f32⟩
  | .hbm, ⟨5, _⟩ => ⟨S8448x4096, .f32⟩
  | .hbm, ⟨6, _⟩ => ⟨S1x4096x4096, .f32⟩
  | .hbm, ⟨7, _⟩ => ⟨S4096x4096, .f32⟩
  | .hbm, ⟨8, _⟩ => ⟨S8448x4096, .f32⟩
  | .hbm, ⟨9, _⟩ => ⟨S8448x4096, .f32⟩
  | .hbm, ⟨10, _⟩ => ⟨S8448x4096, .f32⟩
  | .hbm, ⟨11, _⟩ => ⟨S_, .f32⟩
  | .hbm, ⟨12, _⟩ => ⟨S8448x4096, .f32⟩
  | .hbm, ⟨13, _⟩ => ⟨S8448x4096, .f32⟩
  | .hbm, ⟨14, _⟩ => ⟨S_, .f32⟩
  | .hbm, ⟨15, _⟩ => ⟨S8448x4096, .f32⟩
  | .hbm, ⟨16, _⟩ => ⟨S8448x4096, .f32⟩
  | .hbm, ⟨17, _⟩ => ⟨S8448x256, .f32⟩
  | .hbm, ⟨18, _⟩ => ⟨S1x256x4096, .f32⟩
  | .hbm, ⟨19, _⟩ => ⟨S256x4096, .f32⟩
  | .hbm, ⟨20, _⟩ => ⟨S8448x4096, .f32⟩
  | .hbm, ⟨21, _⟩ => ⟨S8448x4096, .f32⟩
  | .hbm, ⟨22, _⟩ => ⟨S8448x4096, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S8448x2048 : Shape := ⟨2, ![8448, 2048]⟩
abbrev S4x2048x4096 : Shape := ⟨3, ![4, 2048, 4096]⟩
abbrev S8448x31744 : Shape := ⟨2, ![8448, 31744]⟩
abbrev S8448x4096 : Shape := ⟨2, ![8448, 4096]⟩
abbrev S768x2048 : Shape := ⟨2, ![768, 2048]⟩
abbrev S768x512 : Shape := ⟨2, ![768, 512]⟩
abbrev S2048x512 : Shape := ⟨2, ![2048, 512]⟩
abbrev S3 : Shape := ⟨1, ![3]⟩
abbrev S1 : Shape := ⟨1, ![1]⟩
abbrev S_ : Shape := ⟨0, ![]⟩
abbrev S1x2048x512 : Shape := ⟨3, ![1, 2048, 512]⟩

abbrev nBuf : Space → Nat
  | .hbm => 8
  | .vmem => 20
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x2048, .bf16⟩
  | .hbm, ⟨3, _⟩ => ⟨S4x2048x4096, .f32⟩
  | .hbm, ⟨4, _⟩ => ⟨S4x2048x4096, .f32⟩
  | .hbm, ⟨5, _⟩ => ⟨S4x2048x4096, .f32⟩
  | .hbm, ⟨6, _⟩ => ⟨S8448x31744, .f32⟩
  | .hbm, ⟨7, _⟩ => ⟨S8448x4096, .bf16⟩
  | .local _ .vmem, ⟨0, _⟩ => ⟨S768x2048, .bf16⟩
  | .local _ .vmem, ⟨1, _⟩ => ⟨S768x2048, .bf16⟩
  | .local _ .vmem, ⟨2, _⟩ => ⟨S768x2048, .bf16⟩
  | .local _ .vmem, ⟨3, _⟩ => ⟨S768x2048, .bf16⟩
  | .local _ .vmem, ⟨4, _⟩ => ⟨S768x2048, .bf16⟩
  | .local _ .vmem, ⟨5, _⟩ => ⟨S768x2048, .bf16⟩
  | .local _ .vmem, ⟨6, _⟩ => ⟨S768x512, .f32⟩
  | .local _ .vmem, ⟨7, _⟩ => ⟨S768x512, .f32⟩
  | .local _ .vmem, ⟨8, _⟩ => ⟨S768x512, .f32⟩
  | .local _ .vmem, ⟨9, _⟩ => ⟨S768x512, .f32⟩
  | .local _ .vmem, ⟨10, _⟩ => ⟨S768x512, .f32⟩
  | .local _ .vmem, ⟨11, _⟩ => ⟨S768x512, .f32⟩
  | .local _ .vmem, ⟨12, _⟩ => ⟨S768x512, .bf16⟩
  | .local _ .vmem, ⟨13, _⟩ => ⟨S768x512, .bf16⟩
  | .local _ .vmem, ⟨14, _⟩ => ⟨S2048x512, .f32⟩
  | .local _ .vmem, ⟨15, _⟩ => ⟨S2048x512, .bf16⟩
  | .local _ .vmem, ⟨16, _⟩ => ⟨S2048x512, .f32⟩
  | .local _ .vmem, ⟨17, _⟩ => ⟨S2048x512, .bf16⟩
  | .local _ .vmem, ⟨18, _⟩ => ⟨S2048x512, .f32⟩
  | .local _ .vmem, ⟨19, _⟩ => ⟨S2048x512, .bf16⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let c0_i32_24 : BitVec 32 := 0#32
  let c0_i32_26 : BitVec 32 := 0#32
  let arg0 : BitVec 32 := BitVec.ofNat 32 (i 0).val
  let c512_i32 : BitVec 32 := 512#32
  let v28 : BitVec 32 := Scalar.muli arg0 c512_i32
  ![0, 0, v28.toNat]
def k0_cond3 (i : grid0.Coords) : BitVec 1 :=
  let arg0 : BitVec 32 := BitVec.ofNat 32 (i 0).val
  let c1_i32_45 : BitVec 32 := 1#32
  let v58 : BitVec 32 := Scalar.addi arg0 c1_i32_45
  let c8_i32 : BitVec 32 := 8#32
  let v59 : BitVec 1 := Scalar.cmpi .slt v58 c8_i32
  let v60 : BitVec 32 := Scalar.extui v59
  let c0_i32_46 : BitVec 32 := 0#32
  let v61 : BitVec 1 := Scalar.cmpi .ne v60 c0_i32_46
  v61

def k0_off2 (i : grid0.Coords) : Fin 3 → Nat :=
  let c0_i32_49 : BitVec 32 := 0#32
  let c0_i32_51 : BitVec 32 := 0#32
  let arg0 : BitVec 32 := BitVec.ofNat 32 (i 0).val
  let c1_i32_47 : BitVec 32 := 1#32
  let v62 : BitVec 32 := Scalar.addi arg0 c1_i32_47
  let c512_i32_48 : BitVec 32 := 512#32
  let v63 : BitVec 32 := Scalar.muli v62 c512_i32_48
  ![0, 0, v63.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c38_i32 : BitVec 32 := 38#32
  let v0 : BitVec 32 := Scalar.addi c38_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c46_i32 : BitVec 32 := 46#32
  let v0 : BitVec 32 := Scalar.addi c46_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c54_i32 : BitVec 32 := 54#32
  let v0 : BitVec 32 := Scalar.addi c54_i32 arg0
  let c0_i32 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8448x2048 : Shape := ⟨2, ![8448, 2048]⟩
abbrev S4x2048x4096 : Shape := ⟨3, ![4, 2048, 4096]⟩
abbrev S8448x31744 : Shape := ⟨2, ![8448, 31744]⟩
abbrev S8448x4096 : Shape := ⟨2, ![8448, 4096]⟩
abbrev S_ : Shape := ⟨0, ![]⟩
abbrev S1x2048x4096 : Shape := ⟨3, ![1, 2048, 4096]⟩
abbrev S2048x4096 : Shape := ⟨2, ![2048, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x2048, .bf16⟩
  | .hbm, ⟨2, _⟩ => ⟨S8448x2048, .bf16⟩
  | .hbm, ⟨3, _⟩ => ⟨S4x2048x4096, .f32⟩
  | .hbm, ⟨4, _⟩ => ⟨S4x2048x4096, .f32⟩
  | .hbm, ⟨5, _⟩ => ⟨S4x2048x4096, .f32⟩
  | .hbm, ⟨6, _⟩ => ⟨S8448x31744, .f32⟩
  | .hbm, ⟨7, _⟩ => ⟨S8448x4096, .f32⟩
  | .hbm, ⟨8, _⟩ => ⟨S8448x4096, .f32⟩
  | .hbm, ⟨9, _⟩ => ⟨S8448x4096, .f32⟩
  | .hbm, ⟨10, _⟩ => ⟨S_, .f32⟩
  | .hbm, ⟨11, _⟩ => ⟨S8448x4096, .f32⟩
  | .hbm, ⟨12, _⟩ => ⟨S8448x4096, .f32⟩
  | .hbm, ⟨13, _⟩ => ⟨S_, .f32⟩
  | .hbm, ⟨14, _⟩ => ⟨S8448x4096, .f32⟩
  | .hbm, ⟨15, _⟩ => ⟨S8448x4096, .f32⟩
  | .hbm, ⟨16, _⟩ => ⟨S8448x4096, .f32⟩
  | .hbm, ⟨17, _⟩ => ⟨S8448x4096, .f32⟩
  | .hbm, ⟨18, _⟩ => ⟨S8448x4096, .f32⟩
  | .hbm, ⟨19, _⟩ => ⟨S_, .f32⟩
  | .hbm, ⟨20, _⟩ => ⟨S8448x4096, .f32⟩
  | .hbm, ⟨21, _⟩ => ⟨S8448x4096, .f32⟩
  | .hbm, ⟨22, _⟩ => ⟨S_, .f32⟩
  | .hbm, ⟨23, _⟩ => ⟨S8448x4096, .f32⟩
  | .hbm, ⟨24, _⟩ => ⟨S8448x4096, .f32⟩
  | .hbm, ⟨25, _⟩ => ⟨S8448x4096, .f32⟩
  | .hbm, ⟨26, _⟩ => ⟨S8448x4096, .f32⟩
  | .hbm, ⟨27, _⟩ => ⟨S8448x4096, .f32⟩
  | .hbm, ⟨28, _⟩ => ⟨S_, .f32⟩
  | .hbm, ⟨29, _⟩ => ⟨S8448x4096, .f32⟩
  | .hbm, ⟨30, _⟩ => ⟨S8448x4096, .f32⟩
  | .hbm, ⟨31, _⟩ => ⟨S_, .f32⟩
  | .hbm, ⟨32, _⟩ => ⟨S8448x4096, .f32⟩
  | .hbm, ⟨33, _⟩ => ⟨S8448x4096, .f32⟩
  | .hbm, ⟨34, _⟩ => ⟨S8448x2048, .f32⟩
  | .hbm, ⟨35, _⟩ => ⟨S1x2048x4096, .f32⟩
  | .hbm, ⟨36, _⟩ => ⟨S2048x4096, .f32⟩
  | .hbm, ⟨37, _⟩ => ⟨S8448x4096, .f32⟩
  | .hbm, ⟨38, _⟩ => ⟨S8448x4096, .f32⟩
  | .hbm, ⟨39, _⟩ => ⟨S8448x2048, .f32⟩
  | .hbm, ⟨40, _⟩ => ⟨S1x2048x4096, .f32⟩
  | .hbm, ⟨41, _⟩ => ⟨S2048x4096, .f32⟩
  | .hbm, ⟨42, _⟩ => ⟨S8448x4096, .f32⟩
  | .hbm, ⟨43, _⟩ => ⟨S8448x4096, .f32⟩
  | .hbm, ⟨44, _⟩ => ⟨S8448x4096, .f32⟩
  | .hbm, ⟨45, _⟩ => ⟨S8448x2048, .f32⟩
  | .hbm, ⟨46, _⟩ => ⟨S1x2048x4096, .f32⟩
  | .hbm, ⟨47, _⟩ => ⟨S2048x4096, .f32⟩
  | .hbm, ⟨48, _⟩ => ⟨S8448x4096, .f32⟩
  | .hbm, ⟨49, _⟩ => ⟨S8448x4096, .f32⟩
  | .hbm, ⟨50, _⟩ => ⟨S8448x4096, .f32⟩
  | .hbm, ⟨51, _⟩ => ⟨S8448x4096, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.RefRun.lean ====
/- The reference's run stated over one trip of its loop: the loop's buffers hold the state that the trips make one after
   another, so the results are read off the state after the last trip. -/
module

public import proofs.«01_k».proof.Proof.Gen.ReferenceIdeal.Run
public import proofs.«01_k».proof.Proof.Gen.ReferenceIdeal.Step

@[expose] public section

set_option maxRecDepth 16384

noncomputable section

namespace Retention.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State init step)

variable {F : FTy → Type} [FloatOps F]

/-- The loop's buffers before trip `n`: the state, the decay tables and the trip's number. -/
structure Carries (V : Valuation τ sig (Elt F)) (n : ℕ) (s : State F) : Prop where
  q : V (Proc.devRef .tc main_v61_0) = s.main_v61_0
  k : V (Proc.devRef .tc main_v61_1) = s.main_v61_1
  v : V (Proc.devRef .tc main_v61_2) = s.main_v61_2
  dec : V (Proc.devRef .tc main_v61_3) = Step.K_main_v34 (F := F)
  qdec : V (Proc.devRef .tc main_v61_4) = Step.K_main_v42 (F := F)
  cdec : V (Proc.devRef .tc main_v61_5) = Step.K_main_v53 (F := F)
  kdec : V (Proc.devRef .tc main_v61_6) = Step.K_main_v50 (F := F)
  num : V (Proc.devRef .tc main_v61_7) = constantI S_ 32 (BitVec.ofNat 32 n)
  st : V (Proc.devRef .tc main_v61_8) = s.main_v61_8
  o : V (Proc.devRef .tc main_v61_9) = s.main_v61_9

variable {V : Valuation τ sig (Elt F)} {n : ℕ} {s : State F}

theorem num_next (h : Carries V n s) : step_main_v61_7 V = constantI S_ 32 (BitVec.ofNat 32 (n + 1)) := by
  unfold step_main_v61_7
  rw [h.num]
  funext i
  exact (BitVec.ofNat_add n 1).symm

theorem state_next (h : Carries V n s) : step_main_v61_8 V = (step n s).main_v61_8 := by
  unfold step_main_v61_8 res_main_while0b_v87 res_main_while0b_v88
  rw [h.st, h.cdec, h.kdec, h.k, h.v, h.num]
  rfl

theorem out_next (h : Carries V n s) : step_main_v61_9 V = (step n s).main_v61_9 := by
  unfold step_main_v61_9 res_main_while0b_v86 res_main_while0b_v87 res_main_while0b_v88
  rw [h.o, h.st, h.dec, h.qdec, h.q, h.k, h.v, h.num]
  rfl

/-- A trip takes the buffers from one state to the next. -/
theorem carries_trip (h : Carries V n s) : Carries (STEP V) (n + 1) (step n s) where
  q := (STEP_main_v61_0 V).trans h.q
  k := (STEP_main_v61_1 V).trans h.k
  v := (STEP_main_v61_2 V).trans h.v
  dec := (STEP_main_v61_3 V).trans h.dec
  qdec := (STEP_main_v61_4 V).trans h.qdec
  cdec := (STEP_main_v61_5 V).trans h.cdec
  kdec := (STEP_main_v61_6 V).trans h.kdec
  num := (STEP_main_v61_7 V).trans (num_next h)
  st := (STEP_main_v61_8 V).trans (state_next h)
  o := (STEP_main_v61_9 V).trans (out_next h)

/-- The state before trip `n`, of the argument. -/
def iter (Z : (⟨S8448x31744, .f32⟩ : BufTy).Contents (Elt F)) : ℕ → State F
  | 0 => init Z
  | n + 1 => step n (iter Z n)

variable (m : (ℓ : Loc nD τ sig) → Buf (Elt F) ℓ) (c : Dev nD)

set_option maxRecDepth 65536 in
set_option maxHeartbeats 1000000 in
theorem carries_entry : Carries (entryContents preI m c) 0 (iter (m ((c.tc : Thread nD τ).loc main_arg0)) 0) := by
  constructor <;> (simp only [entryContents, afterL_cons, afterL_nil]; after_reads_simp) <;> rfl

theorem carries_iter : ∀ n, Carries (STEP^[n] (entryContents preI m c)) n (iter (m ((c.tc : Thread nD τ).loc main_arg0)) n)
  | 0 => carries_entry m c
  | n + 1 => by
    rw [Function.iterate_succ_apply']
    exact carries_trip (carries_iter n)

set_option maxRecDepth 8192 in
theorem post_at (s : State F) (h : Carries V n s) :
    out_main_v85 V = Step.R_main_v85 s (V (Proc.devRef .tc main_arg0)) (V (Proc.devRef .tc main_arg1)) (V (Proc.devRef .tc main_arg2)) := by
  unfold out_main_v85 Step.R_main_v85
  rw [h.o]

/-- Every run of the reference leaves its results at the state after the last trip, and its arguments as they were. -/
theorem run (ρ : Dev nD → PrngReg) :
    θ_run (defs (F := F)) (onTc (τ := τ) (main (F := F))) ⟨m, fun _ => 0, ρ⟩ fun r => ∀ c : Dev nD,
      r.2.mem ((c.tc : Thread nD τ).loc main_v85)
          = Step.R_main_v85 (iter (m ((c.tc : Thread nD τ).loc main_arg0)) 16) (m ((c.tc : Thread nD τ).loc main_arg0))
              (m ((c.tc : Thread nD τ).loc main_arg1)) (m ((c.tc : Thread nD τ).loc main_arg2))
      ∧ r.2.mem ((c.tc : Thread nD τ).loc main_v61_8) = (iter (m ((c.tc : Thread nD τ).loc main_arg0)) 16).main_v61_8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨ho, hs, h0, h1, h2⟩ := h c
  have hc := carries_iter m c 16
  refine ⟨ho.trans ((post_at _ hc).trans ?_), hs.trans hc.st, h0, h1, h2⟩
  rw [iter_main_arg0 m c 16, iter_main_arg1 m c 16, iter_main_arg2 m c 16]

end Retention.RefRun

end
-- ==== Proof.Spec.lean ====
/- Retention written with sums over coordinates: the decayed state of one head of one sequence after `n` chunks of 128
   positions, the output of a position of a chunk, and its normalised, gated value. Both programs are read into these. -/
module

public import proofs.«01_k».proof.Proof.Gen.ReferenceIdeal.Step
public import Idealize.ShloMosaic.Lib.Pipeline.ValueKit

@[expose] public section

set_option maxRecDepth 16384

noncomputable section

namespace Retention

open Idealize.ShloMosaic

/-- The projected activations: 8448 token rows, 31744 columns. -/
abbrev Acts := FVec Ideal ⟨2, ![8448, 31744]⟩ .f32

/-- The row of position `i` of chunk `n` of sequence `b`. -/
def row (b : Fin 4) (n : ℕ) (i : Fin 128) : Fin 8448 := ⟨(b.val * 2048 + n * 128 + i.val) % 8448, Nat.mod_lt _ (by decide)⟩

/-- Query, key and value of a position, and its gate. -/
def qry (Z : Acts) (b : Fin 4) (h : Fin 8) (n : ℕ) (i : Fin 128) (d : Fin 128) : EReal :=
  Z (ix2 (row b n i) ⟨5120 + h.val * 128 + d.val, by omega⟩)
def key (Z : Acts) (b : Fin 4) (h : Fin 8) (n : ℕ) (i : Fin 128) (d : Fin 128) : EReal :=
  Z (ix2 (row b n i) ⟨6144 + h.val * 128 + d.val, by omega⟩) * Ideal.ofBits .f32 0x3DB504F3#32
def val (Z : Acts) (b : Fin 4) (h : Fin 8) (n : ℕ) (i : Fin 128) (e : Fin 256) : EReal :=
  Z (ix2 (row b n i) ⟨7168 + h.val * 256 + e.val, by omega⟩)
def gate (Z : Acts) (b : Fin 4) (h : Fin 8) (n : ℕ) (i : Fin 128) (e : Fin 256) : EReal :=
  Z (ix2 (row b n i) ⟨9216 + h.val * 256 + e.val, by omega⟩)

/-- The decay between two positions of a chunk, from the chunk's start to a position, from a position to the chunk's
    end, and over a whole chunk. -/
def dec (h : Fin 8) (i j : Fin 128) : EReal := Cert.ReferenceIdeal.Step.K_main_v34 (F := Ideal) (ix3 h i j)
def qdec (h : Fin 8) (i : Fin 128) : EReal := Cert.ReferenceIdeal.Step.K_main_v42 (F := Ideal) (ix2 i h)
def kdec (h : Fin 8) (i : Fin 128) : EReal := Cert.ReferenceIdeal.Step.K_main_v50 (F := Ideal) (ix2 i h)
def cdec (h : Fin 8) : EReal := Cert.ReferenceIdeal.Step.K_main_v53 (F := Ideal) (ix1 h)

/-- The state a chunk hands the next, from the state before it. -/
def next (Z : Acts) (b : Fin 4) (h : Fin 8) (n : ℕ) (S : Fin 128 → Fin 256 → EReal) (d : Fin 128) (e : Fin 256) : EReal :=
  S d e * cdec h + ∑ j : Fin 128, key Z b h n j d * kdec h j * val Z b h n j e

/-- The state before chunk `n`. -/
def state (Z : Acts) (b : Fin 4) (h : Fin 8) : ℕ → Fin 128 → Fin 256 → EReal
  | 0 => fun _ _ => 0
  | n + 1 => next Z b h n (state Z b h n)

/-- The output of a position: the chunk's own positions, and the state before the chunk. -/
def out (Z : Acts) (b : Fin 4) (h : Fin 8) (n : ℕ) (S : Fin 128 → Fin 256 → EReal) (i : Fin 128) (e : Fin 256) : EReal :=
  (∑ j : Fin 128, (∑ d : Fin 128, qry Z b h n i d * key Z b h n j d) * dec h i j * val Z b h n j e)
    + (∑ d : Fin 128, qry Z b h n i d * S d e) * qdec h i

/-- Head normalisation, scale and gate. -/
def gated (o : Fin 256 → EReal) (g z : EReal) (e : Fin 256) : EReal :=
  o e * Ideal.rsqrt (Ideal.div (∑ a : Fin 256, o a * o a) (Ideal.ofBits .f32 0x43800000#32) + Ideal.ofBits .f32 0x358637BD#32)
    * g * (z * Ideal.logistic z)

end Retention

end
-- ==== Proof.Block.lean ====
/- One block of the kernel. Each of its eight chunks of 128 positions gives a tile of outputs for each of two heads and
   hands the next chunk a state; written over the blocks it reads, the tiles and the states are the same two functions
   throughout, and at an index they are sums over the blocks' entries. -/
module

public import proofs.«01_k».proof.Proof.Gen.KernelIdeal.Frame
public import proofs.«01_k».proof.Proof.Spec
public import Idealize.ShloMosaic.Lib.Pipeline.ValueKit
public import Idealize.ShloMosaic.Lib.VecWindow

@[expose] public section

set_option maxRecDepth 16384

noncomputable section

namespace Retention.Block

open Idealize.ShloMosaic Idealize.ShloMosaic.TcCoe Idealize.SL.Sem
open Cert.KernelIdeal Cert.KernelIdeal.Gen

section Parts

variable {α : Type}

/-- The rows from `r` and the columns from `c` on, `a` by `b` of them. -/
def cut {R C : ℕ} [NeZero R] [NeZero C] (a b r c : ℕ) (x : (⟨2, ![R, C]⟩ : Shape).Idx → α) : (⟨2, ![a, b]⟩ : Shape).Idx → α :=
  fun j => x (ix2 (Fin.ofNat R (r + (j 0).val)) (Fin.ofNat C (c + (j 1).val)))

/-- The plane `h` of a stack. -/
def plane {R C a b : ℕ} [NeZero R] (h : ℕ) (x : (⟨3, ![R, a, b]⟩ : Shape).Idx → α) : (⟨3, ![1, a, b]⟩ : Shape).Idx → α :=
  fun j => x (ix3 (Fin.ofNat R h) (j 1) (j 2))

end Parts

variable {F : FTy → Type} [FloatOps F]

theorem ld_cut {Val : EltTy → Type} {e : EltTy} {R C a b : ℕ} [NeZero R] [NeZero C] (x : (⟨2, ![R, C]⟩ : Shape).Idx → Val e) (r c : ℕ)
    (inb : ∀ i, ![r, c] i + ![a, b] i ≤ (⟨2, ![R, C]⟩ : Shape).size i) :
    View.ld x (Rect.unit (s := ⟨2, ![R, C]⟩) ![r, c] ![a, b] inb) = cut a b r c x := by
  funext j
  have h0 : r + a ≤ R := inb 0
  have h1 : c + b ≤ C := inb 1
  have j0 : (j 0).val < a := (j 0).isLt
  have j1 : (j 1).val < b := (j 1).isLt
  refine View.ld_unit_apply_of x _ _ _ j _ fun i => ?_
  fin_cases i
  · exact Nat.mod_eq_of_lt (by omega)
  · exact Nat.mod_eq_of_lt (by omega)

theorem ld_plane {Val : EltTy → Type} {e : EltTy} {R a b : ℕ} [NeZero R] (x : (⟨3, ![R, a, b]⟩ : Shape).Idx → Val e) (h : ℕ)
    (inb : ∀ i, ![h, 0, 0] i + ![1, a, b] i ≤ (⟨3, ![R, a, b]⟩ : Shape).size i) :
    View.ld x (Rect.unit (s := ⟨3, ![R, a, b]⟩) ![h, 0, 0] ![1, a, b] inb) = plane (C := 1) h x := by
  funext j
  have h0 : h + 1 ≤ R := inb 0
  have j0 : (j 0).val < 1 := (j 0).isLt
  refine View.ld_unit_apply_of x _ _ _ j _ fun i => ?_
  fin_cases i
  · refine (Nat.mod_eq_of_lt (by omega)).trans ?_
    show h = h + (j 0).val
    omega
  · exact (Nat.zero_add _).symm
  · exact (Nat.zero_add _).symm

/-- The state handed on, and the tile of outputs, of a chunk. -/
def hand (S : FVec F S128x256 .f32) (k : Vec F S128x128 .f32) (v : Vec F S128x256 .f32) (cd : Vec F S1x1x256 .f32)
    (kd : Vec F S1x128x128 .f32) : FVec F S128x256 .f32 := k0_pay8 S (k0_pay5 k) (k0_pay6 v) cd kd
def tile (S : FVec F S128x256 .f32) (q k : Vec F S128x128 .f32) (v : Vec F S128x256 .f32) (d : Vec F S1x128x128 .f32)
    (qd : Vec F S1x128x256 .f32) (g : Vec F S1x256 .f32) (z : Vec F S128x256 .f32) : FVec F S128x256 .bf16 :=
  k0_pay22 (k0_pay20 S q k v d qd) g z

/-- The blocks a point reads. -/
structure Blocks (F : FTy → Type) where
  q : Vec F S1024x256 .f32
  k : Vec F S1024x256 .f32
  v : Vec F S1024x512 .f32
  z : Vec F S1024x512 .f32
  g : Vec F S1x512 .f32
  dec : Vec F S2x128x128 .f32
  qdec : Vec F S2x128x256 .f32
  kdec : Vec F S2x128x128 .f32
  cdec : Vec F S2x1x256 .f32

/-- The state of head `h` of the block before its chunk `n`. -/
def chain (B : Blocks F) (h : ℕ) (S : FVec F S128x256 .f32) : ℕ → FVec F S128x256 .f32
  | 0 => S
  | n + 1 => hand (chain B h S n) (cut 128 128 (128 * n) (128 * h) B.k) (cut 128 256 (128 * n) (256 * h) B.v)
      (plane (C := 1) h B.cdec) (plane (C := 1) h B.kdec)

/-- The tile of chunk `n` and head `h`. -/
def tileAt (B : Blocks F) (h : ℕ) (S : FVec F S128x256 .f32) (n : ℕ) : FVec F S128x256 .bf16 :=
  tile (chain B h S n) (cut 128 128 (128 * n) (128 * h) B.q) (cut 128 128 (128 * n) (128 * h) B.k)
    (cut 128 256 (128 * n) (256 * h) B.v) (plane (C := 1) h B.dec) (plane (C := 1) h B.qdec) (cut 1 256 0 (256 * h) B.g)
    (cut 128 256 (128 * n) (256 * h) B.z)

/-- The whole block of outputs, of the two heads' states before it. -/
def outs (B : Blocks F) (S : ℕ → FVec F S128x256 .f32) : FVec F S1024x512 .bf16 := fun j =>
  tileAt B ((j 1).val / 256) (S ((j 1).val / 256)) ((j 0).val / 128)
    (ix2 ⟨(j 0).val % 128, Nat.mod_lt _ (by decide)⟩ ⟨(j 1).val % 256, Nat.mod_lt _ (by decide)⟩)

theorem outs_tile (B : Blocks F) (S : ℕ → FVec F S128x256 .f32) (j : S1024x512.Idx) (i : S128x256.Idx) (n h : ℕ)
    (h0 : (j 0).val = 128 * n + (i 0).val) (h1 : (j 1).val = 256 * h + (i 1).val) : tileAt B h (S h) n i = outs B S j := by
  have i0 : (i 0).val < 128 := (i 0).isLt
  have i1 : (i 1).val < 256 := (i 1).isLt
  have e0 : (j 0).val / 128 = n := by omega
  have e1 : (j 1).val / 256 = h := by omega
  unfold outs
  rw [e0, e1]
  congr 1
  funext a
  fin_cases a
  · exact Fin.ext (by show (i 0).val = (j 0).val % 128; omega)
  · exact Fin.ext (by show (i 1).val = (j 1).val % 256; omega)

/-- The heads' states in the buffer that keeps them. -/
def held (X : Vec F S1x2x128x256 .f32) (h : ℕ) : Vec F S1x1x128x256 .f32 := fun j => X (ix4 0 (Fin.ofNat 2 h) (j 2) (j 3))
def head (X : Vec F S1x2x128x256 .f32) (h : ℕ) : FVec F S128x256 .f32 := k0_pay3 (held X h)

theorem ld_held (X : Vec F S1x2x128x256 .f32) (h : ℕ) (inb : ∀ i, ![0, h, 0, 0] i + ![1, 1, 128, 256] i ≤ S1x2x128x256.size i) :
    View.ld X (Rect.unit (s := S1x2x128x256) ![0, h, 0, 0] ![1, 1, 128, 256] inb) = held X h := by
  funext j
  have h0 : h + 1 ≤ 2 := inb 1
  have j0 : (j 0).val < 1 := (j 0).isLt
  have j1 : (j 1).val < 1 := (j 1).isLt
  refine View.ld_unit_apply_of X _ _ _ j _ fun i => ?_
  fin_cases i
  · show 0 = 0 + (j 0).val
    omega
  · refine (Nat.mod_eq_of_lt (by omega)).trans ?_
    show h = h + (j 1).val
    omega
  · exact (Nat.zero_add _).symm
  · exact (Nat.zero_add _).symm

theorem held_reset (w : Vec F S1x2x128x256 .f32) (h : ℕ) (inb : ∀ i, ![0, 0, 0, 0] i + ![1, 2, 128, 256] i ≤ S1x2x128x256.size i)
    (inb' : ∀ i, ![0, h, 0, 0] i + ![1, 1, 128, 256] i ≤ S1x2x128x256.size i) :
    (View.whole cc0_scratch0).readCov (Val := Elt F) [⟨Rect.unit ![0, 0, 0, 0] ![1, 2, 128, 256] inb, w⟩]
      (Rect.unit (s := S1x2x128x256) ![0, h, 0, 0] ![1, 1, 128, 256] inb').toLoadRect = held w h := by
  have e := View.read_writes_full (s := S1x2x128x256) (Val := Elt F) (View.whole cc0_scratch0) (View.whole cc0_scratch0).junk inb w []
  exact (congrArg (fun X => View.ld X (Rect.unit (s := S1x2x128x256) ![0, h, 0, 0] ![1, 1, 128, 256] inb')) e).trans (ld_held w h inb')

/-- The whole buffer read after stores into it. -/
theorem read_all (L : List (View.Piece (Elt F) S1x2x128x256 .f32)) (inb : ∀ i, ![0, 0, 0, 0] i + ![1, 2, 128, 256] i ≤ S1x2x128x256.size i) :
    (View.whole cc0_scratch0).readCov (Val := Elt F) L (Rect.unit ![0, 0, 0, 0] ![1, 2, 128, 256] inb).toLoadRect = View.canon L :=
  (View.readAt_full (s := S1x2x128x256) (View.whole cc0_scratch0) _ inb).trans (View.read_writes_junk_eq_canon _ _)

/-- The heads' states put back there. -/
def keep (S : ℕ → FVec F S128x256 .f32) : Vec F S1x2x128x256 .f32 := fun j => S (j 1).val (ix2 (j 2) (j 3))

theorem head_keep (S : ℕ → FVec F S128x256 .f32) (h : ℕ) (hh : h < 2) : head (keep S) h = S h := by
  funext j
  obtain ⟨i, e, rfl⟩ : ∃ i e, j = ix2 i e := ⟨j 0, j 1, funext fun a => by fin_cases a <;> rfl⟩
  unfold head k0_pay3 held keep
  pointwise []
  rw [show (Fin.ofNat 2 h).val = h from Nat.mod_eq_of_lt hh]

theorem keep_tile (S : ℕ → FVec F S128x256 .f32) (j : S1x2x128x256.Idx) (i : S1x1x128x256.Idx) (h : ℕ)
    (h1 : (j 1).val = h + (i 1).val) (h2 : (j 2).val = (i 2).val) (h3 : (j 3).val = (i 3).val) : k0_pay1 (S h) i = keep S j := by
  have i1 : (i 1).val < 1 := (i 1).isLt
  have e1 : (j 1).val = h := by omega
  obtain ⟨a, b, p, q, rfl⟩ : ∃ a b p q, i = ix4 a b p q := ⟨i 0, i 1, i 2, i 3, funext fun a => by fin_cases a <;> rfl⟩
  unfold k0_pay1 keep
  rw [e1]
  pointwise []
  exact congrArg (S h) (congrArg₂ ix2 (Fin.ext h2.symm) (Fin.ext h3.symm))

/-- The buffer after both heads' states are stored, whatever was stored before. -/
theorem canon_heads (S : ℕ → FVec F S128x256 .f32) (w1 w0 : Vec F S1x1x128x256 .f32) (L : List (View.Piece (Elt F) S1x2x128x256 .f32))
    (inb1 : ∀ i, ![0, 1, 0, 0] i + ![1, 1, 128, 256] i ≤ S1x2x128x256.size i)
    (inb0 : ∀ i, ![0, 0, 0, 0] i + ![1, 1, 128, 256] i ≤ S1x2x128x256.size i) (e1 : w1 = k0_pay1 (S 1)) (e0 : w0 = k0_pay1 (S 0)) :
    View.canon (⟨Rect.unit ![0, 1, 0, 0] ![1, 1, 128, 256] inb1, w1⟩ :: ⟨Rect.unit ![0, 0, 0, 0] ![1, 1, 128, 256] inb0, w0⟩ :: L)
      = keep S := by
  subst e1 e0
  rw [← View.read_writes_junk_eq_canon (View.whole cc0_scratch0)]
  funext j
  have j0 : (j 0).val < 1 := (j 0).isLt
  have j1 : (j 1).val < 2 := (j 1).isLt
  by_cases h : (j 1).val = 1
  · refine (View.read_writes_cons_unit_of_mem _ _ inb1 _ _ j (ix4 0 0 (j 2) (j 3) : S1x1x128x256.Idx) rfl fun a => ?_).trans
      (keep_tile S j _ 1 (by show (j 1).val = 1 + 0; omega) rfl rfl)
    fin_cases a
    · show (j 0).val = 0 + 0
      omega
    · show (j 1).val = 1 + 0
      omega
    · exact (Nat.zero_add _).symm
    · exact (Nat.zero_add _).symm
  · refine (View.read_writes_cons_unit_of_not_mem _ _ inb1 _ _ j rfl 1 (.inl (by show (j 1).val < 1; omega))).trans
      ((View.read_writes_cons_unit_of_mem _ _ inb0 _ _ j (ix4 0 0 (j 2) (j 3) : S1x1x128x256.Idx) rfl fun a => ?_).trans
        (keep_tile S j _ 0 (by show (j 1).val = 0 + 0; omega) rfl rfl))
    fin_cases a
    · show (j 0).val = 0 + 0
      omega
    · show (j 1).val = 0 + 0
      omega
    · exact (Nat.zero_add _).symm
    · exact (Nat.zero_add _).symm

variable (m : (ℓ : Loc nD τ sig) → Buf (Elt F) ℓ)

/-- The blocks of a point. -/
def blocks (c : Dev nD) (t : Fin cfg0.N) : Blocks F where
  q := X0_0 m c t
  k := X0_1 m c t
  v := X0_2 m c t
  z := X0_3 m c t
  g := iblk m c 5 t
  dec := iblk m c 6 t
  qdec := iblk m c 7 t
  kdec := iblk m c 8 t
  cdec := iblk m c 9 t

end Retention.Block

end
-- ==== Proof.BlockValue.lean ====
/- A chunk's tile and the state it hands on, read at an index over the extended reals. -/
module

public import proofs.«01_k».proof.Proof.Block

@[expose] public section

set_option maxRecDepth 16384

noncomputable section

namespace Retention.Block

open Idealize.ShloMosaic Cert.KernelIdeal Cert.KernelIdeal.Gen

theorem hand_at (S : FVec Ideal S128x256 .f32) (k : FVec Ideal S128x128 .f32) (v : FVec Ideal S128x256 .f32)
    (cd : FVec Ideal S1x1x256 .f32) (kd : FVec Ideal S1x128x128 .f32) (d : Fin 128) (e : Fin 256) :
    hand (F := Ideal) S k v cd kd (ix2 d e) = S (ix2 d e) * cd (ix3 0 0 e)
      + ∑ j : Fin 128, (k (ix2 j d) * Ideal.ofBits .f32 0x3DB504F3#32) * kd (ix3 0 j d) * v (ix2 j e) := by
  pointwise [hand, k0_pay8, k0_pay5, k0_pay6]

theorem gated_at (o : FVec Ideal S128x256 .f32) (g : FVec Ideal S1x256 .f32) (z : FVec Ideal S128x256 .f32) (i : Fin 128) (e : Fin 256) :
    k0_pay22 (F := Ideal) o g z (ix2 i e) = gated (fun a => o (ix2 i a)) (g (ix2 0 e)) (z (ix2 i e)) e := by
  pointwise [k0_pay22, gated]

theorem out_at (S : FVec Ideal S128x256 .f32) (q k : FVec Ideal S128x128 .f32) (v : FVec Ideal S128x256 .f32)
    (d : FVec Ideal S1x128x128 .f32) (qd : FVec Ideal S1x128x256 .f32) (i : Fin 128) (e : Fin 256) :
    k0_pay20 (F := Ideal) S q k v d qd (ix2 i e)
      = (∑ j : Fin 128, (∑ x : Fin 128, q (ix2 i x) * (k (ix2 j x) * Ideal.ofBits .f32 0x3DB504F3#32)) * d (ix3 0 i j) * v (ix2 j e))
        + (∑ x : Fin 128, q (ix2 i x) * S (ix2 x e)) * qd (ix3 0 i e) := by
  pointwise [k0_pay20, k0_pay18, k0_pay19]

/-- What a block's head `p` reads is head `h` of sequence `b` from chunk `N` on. -/
structure Reads (B : Blocks Ideal) (Z : Acts) (G : FVec Ideal ⟨1, ![2048]⟩ .f32) (b : Fin 4) (h : Fin 8) (p N : ℕ) : Prop where
  q : ∀ n < 8, ∀ i d : Fin 128, cut 128 128 (128 * n) (128 * p) B.q (ix2 i d) = qry Z b h (N + n) i d
  k : ∀ n < 8, ∀ i d : Fin 128,
    (show EReal from cut 128 128 (128 * n) (128 * p) B.k (ix2 i d)) * Ideal.ofBits .f32 0x3DB504F3#32 = key Z b h (N + n) i d
  v : ∀ n < 8, ∀ (i : Fin 128) (e : Fin 256), cut 128 256 (128 * n) (256 * p) B.v (ix2 i e) = val Z b h (N + n) i e
  z : ∀ n < 8, ∀ (i : Fin 128) (e : Fin 256), cut 128 256 (128 * n) (256 * p) B.z (ix2 i e) = gate Z b h (N + n) i e
  g : ∀ e : Fin 256, cut 1 256 0 (256 * p) B.g (ix2 0 e) = G (ix1 ⟨h.val * 256 + e.val, by omega⟩)
  dec : ∀ i j : Fin 128, plane (C := 1) p B.dec (ix3 0 i j) = dec h i j
  qdec : ∀ (i : Fin 128) (e : Fin 256), plane (C := 1) p B.qdec (ix3 0 i e) = qdec h i
  kdec : ∀ i d : Fin 128, plane (C := 1) p B.kdec (ix3 0 i d) = kdec h i
  cdec : ∀ e : Fin 256, plane (C := 1) p B.cdec (ix3 0 0 e) = cdec h

variable {B : Blocks Ideal} {Z : Acts} {G : FVec Ideal ⟨1, ![2048]⟩ .f32} {b : Fin 4} {h : Fin 8} {p N : ℕ} (R : Reads B Z G b h p N)
  {S : FVec Ideal S128x256 .f32} (hS : ∀ (d : Fin 128) (e : Fin 256), S (ix2 d e) = state Z b h N d e)
include R hS

/-- The block's states are the sequence's. -/
theorem chain_at (n : ℕ) (hn : n ≤ 8) (d : Fin 128) (e : Fin 256) : chain B p S n (ix2 d e) = state Z b h (N + n) d e := by
  induction n generalizing d e with
  | zero => exact hS d e
  | succ n ih =>
    refine (hand_at _ _ _ _ _ d e).trans ?_
    rw [ih (by omega) d e, R.cdec e]
    simp only [R.k n hn, R.v n hn, R.kdec]
    rfl

/-- The block's tiles are the sequence's outputs. -/
theorem tile_at (n : ℕ) (hn : n < 8) (i : Fin 128) (e : Fin 256) :
    tileAt B p S n (ix2 i e)
      = gated (out Z b h (N + n) (state Z b h (N + n)) i) (G (ix1 ⟨h.val * 256 + e.val, by omega⟩)) (gate Z b h (N + n) i e) e := by
  refine (gated_at _ _ _ i e).trans ?_
  rw [R.g e, R.z n hn i e]
  congr 1
  funext a
  refine (out_at _ _ _ _ _ _ i a).trans ?_
  simp only [chain_at R hS n hn.le, R.q n hn, R.k n hn, R.v n hn, R.dec, R.qdec]
  rfl

end Retention.Block

end
-- ==== Proof.Placed.lean ====
/- The blocks of a point read off the arrays. -/
module

public import proofs.«01_k».proof.Proof.BlockValue

@[expose] public section

set_option maxRecDepth 16384

noncomputable section

namespace Retention.Block

open Idealize.ShloMosaic Idealize.ShloMosaic.TcCoe Idealize.SL.Sem
open Cert.KernelIdeal Cert.KernelIdeal.Gen

variable (m : (ℓ : Loc nD τ sig) → Buf (Elt Ideal) ℓ)

/-- Where the windows' blocks lie: 8 points for a pair of heads, 2 for a sequence. -/
theorem idx : ∀ t : Fin cfg0.N,
    win0_0.index t = ![t.val % 8, 20 + t.val / 8] ∧ win0_1.index t = ![t.val % 8, 24 + t.val / 8]
    ∧ win0_2.index t = ![t.val % 8, 14 + t.val / 8] ∧ win0_3.index t = ![t.val % 8, 18 + t.val / 8]
    ∧ win0_4.index t = ![0, t.val % 8 / 2, t.val / 8, 0, 0] ∧ win0_5.index t = ![0, t.val / 8]
    ∧ win0_6.index t = ![t.val / 8, 0, 0] ∧ win0_7.index t = ![t.val / 8, 0, 0] ∧ win0_8.index t = ![t.val / 8, 0, 0]
    ∧ win0_9.index t = ![t.val / 8, 0, 0] ∧ win0_10.index t = ![t.val % 8, t.val / 8]
    ∧ win0_11.index t = ![t.val % 8 / 2, t.val / 8, 0, 0] :=
  (by decide +kernel : ∀ t : Fin grid0.N, _)

theorem q_at (c : Dev nD) (t : Fin cfg0.N) (i : Fin 1024) (j : Fin 256) (r : Fin 8448) (k : Fin 31744)
    (hr : r.val = t.val % 8 * 1024 + i.val) (hk : k.val = (20 + t.val / 8) * 256 + j.val) :
    X0_0 m c t (ix2 i j) = m ((c : Thread nD τ).loc main_arg0) (ix2 r k) := by
  have h := idx t
  unfold X0_0 Pipeline.Window.fill
  rw [dif_pos (moved0_0 t _)]
  blk_ext [iblk, V, h]

theorem k_at (c : Dev nD) (t : Fin cfg0.N) (i : Fin 1024) (j : Fin 256) (r : Fin 8448) (k : Fin 31744)
    (hr : r.val = t.val % 8 * 1024 + i.val) (hk : k.val = (24 + t.val / 8) * 256 + j.val) :
    X0_1 m c t (ix2 i j) = m ((c : Thread nD τ).loc main_arg0) (ix2 r k) := by
  have h := idx t
  unfold X0_1 Pipeline.Window.fill
  rw [dif_pos (moved0_1 t _)]
  blk_ext [iblk, V, h]

theorem v_at (c : Dev nD) (t : Fin cfg0.N) (i : Fin 1024) (j : Fin 512) (r : Fin 8448) (k : Fin 31744)
    (hr : r.val = t.val % 8 * 1024 + i.val) (hk : k.val = (14 + t.val / 8) * 512 + j.val) :
    X0_2 m c t (ix2 i j) = m ((c : Thread nD τ).loc main_arg0) (ix2 r k) := by
  have h := idx t
  unfold X0_2 Pipeline.Window.fill
  rw [dif_pos (moved0_2 t _)]
  blk_ext [iblk, V, h]

theorem z_at (c : Dev nD) (t : Fin cfg0.N) (i : Fin 1024) (j : Fin 512) (r : Fin 8448) (k : Fin 31744)
    (hr : r.val = t.val % 8 * 1024 + i.val) (hk : k.val = (18 + t.val / 8) * 512 + j.val) :
    X0_3 m c t (ix2 i j) = m ((c : Thread nD τ).loc main_arg0) (ix2 r k) := by
  have h := idx t
  unfold X0_3 Pipeline.Window.fill
  rw [dif_pos (moved0_3 t _)]
  blk_ext [iblk, V, h]

theorem V_v0 (c : Dev nD) (a : Fin 1) (b : Fin 4) (h : Fin 8) (d : Fin 128) (e : Fin 256) :
    V m c main_v0 (ix5 a b h d e) = (0 : EReal) := by
  simp only [V, hostOps0, hostOps0_1, hostOps0_2, List.flatten_cons, List.flatten_nil, List.append_nil, List.cons_append, List.nil_append]
  entry_read
  pointwise []

theorem V_v50 (c : Dev nD) (k : Fin 2048) : V m c main_v50 (ix2 0 k) = m ((c : Thread nD τ).loc main_arg1) (ix1 k) := by
  simp only [V, hostOps0, hostOps0_1, hostOps0_2, List.flatten_cons, List.flatten_nil, List.append_nil, List.cons_append, List.nil_append]
  entry_read
  pointwise []

set_option maxHeartbeats 1000000 in
theorem V_v24 (c : Dev nD) : V m c main_v24 = Cert.ReferenceIdeal.Step.K_main_v34 (F := Ideal) := by
  simp only [V, hostOps0, hostOps0_1, hostOps0_2, List.flatten_cons, List.flatten_nil, List.append_nil, List.cons_append, List.nil_append]
  entry_read
  rfl

set_option maxHeartbeats 1000000 in
open Cert.ReferenceIdeal.Step in
theorem V_v45 (c : Dev nD) (h : Fin 8) (i : Fin 128) (e : Fin 256) : V m c main_v45 (ix3 h i e) = qdec h i := by
  simp only [V, hostOps0, hostOps0_1, hostOps0_2, List.flatten_cons, List.flatten_nil, List.append_nil, List.cons_append, List.nil_append]
  entry_read
  pointwise [qdec, K_main_v42, K_main_v41, K_main_v40, K_main_v39, K_main_v38, K_main_v37, K_main_v36, K_main_v35, K_main_v18,
    K_main_cst_6, K_main_cst_1, K_main_cst_2, K_main_v11, K_main_v12, K_main_v13, K_main_v14, K_main_v15, K_main_v16, K_main_v17]

set_option maxHeartbeats 1000000 in
open Cert.ReferenceIdeal.Step in
theorem V_v47 (c : Dev nD) (h : Fin 8) (i : Fin 128) (e : Fin 128) : V m c main_v47 (ix3 h i e) = kdec h i := by
  simp only [V, hostOps0, hostOps0_1, hostOps0_2, List.flatten_cons, List.flatten_nil, List.append_nil, List.cons_append, List.nil_append]
  entry_read
  pointwise [kdec, K_main_v50, K_main_v49, K_main_v48, K_main_v47, K_main_v46, K_main_v45, K_main_v44, K_main_v43, K_main_v18,
    K_main_cst_7, K_main_cst_1, K_main_cst_2, K_main_v11, K_main_v12, K_main_v13, K_main_v14, K_main_v15, K_main_v16, K_main_v17]

set_option maxHeartbeats 1000000 in
open Cert.ReferenceIdeal.Step in
theorem V_v49 (c : Dev nD) (h : Fin 8) (e : Fin 256) : V m c main_v49 (ix3 h 0 e) = cdec h := by
  simp only [V, hostOps0, hostOps0_1, hostOps0_2, List.flatten_cons, List.flatten_nil, List.append_nil, List.cons_append, List.nil_append]
  entry_read
  pointwise [cdec, K_main_v53, K_main_v52, K_main_v51, K_main_cst_8,
    K_main_cst_1, K_main_cst_2, K_main_v11, K_main_v12, K_main_v13, K_main_v14, K_main_v15, K_main_v16, K_main_v17]

theorem w4_at (c : Dev nD) (t : Fin cfg0.N) (p : Fin 2) (d : Fin 128) (e : Fin 256) :
    iblk m c 4 t (ix5 0 0 p d e) = (0 : EReal) := by
  have h := idx t
  have l : t.val < 32 := t.isLt
  refine Eq.trans ?_ (V_v0 m c 0 ⟨t.val % 8 / 2, by omega⟩ ⟨t.val / 8 * 2 + p.val, by omega⟩ d e)
  unfold iblk
  refine congrArg (V m c main_v0) ?_
  blk_ext [h]

theorem w5_at (c : Dev nD) (t : Fin cfg0.N) (j : Fin 512) (k : Fin 2048) (hk : k.val = t.val / 8 * 512 + j.val) :
    iblk m c 5 t (ix2 0 j) = m ((c : Thread nD τ).loc main_arg1) (ix1 k) := by
  have h := idx t
  refine Eq.trans ?_ (V_v50 m c k)
  unfold iblk
  refine congrArg (V m c main_v50) ?_
  blk_ext [h]

theorem w6_at (c : Dev nD) (t : Fin cfg0.N) (p : Fin 2) (i j : Fin 128) (h : Fin 8) (hh : h.val = t.val / 8 * 2 + p.val) :
    iblk m c 6 t (ix3 p i j) = dec h i j := by
  have hx := idx t
  refine Eq.trans ?_ (congrFun (V_v24 m c) (ix3 h i j))
  unfold iblk
  refine congrArg (V m c main_v24) ?_
  blk_ext [hx]

theorem w7_at (c : Dev nD) (t : Fin cfg0.N) (p : Fin 2) (i : Fin 128) (e : Fin 256) (h : Fin 8) (hh : h.val = t.val / 8 * 2 + p.val) :
    iblk m c 7 t (ix3 p i e) = qdec h i := by
  have hx := idx t
  refine Eq.trans ?_ (V_v45 m c h i e)
  unfold iblk
  refine congrArg (V m c main_v45) ?_
  blk_ext [hx]

theorem w8_at (c : Dev nD) (t : Fin cfg0.N) (p : Fin 2) (i d : Fin 128) (h : Fin 8) (hh : h.val = t.val / 8 * 2 + p.val) :
    iblk m c 8 t (ix3 p i d) = kdec h i := by
  have hx := idx t
  refine Eq.trans ?_ (V_v47 m c h i d)
  unfold iblk
  refine congrArg (V m c main_v47) ?_
  blk_ext [hx]

theorem w9_at (c : Dev nD) (t : Fin cfg0.N) (p : Fin 2) (e : Fin 256) (h : Fin 8) (hh : h.val = t.val / 8 * 2 + p.val) :
    iblk m c 9 t (ix3 p 0 e) = cdec h := by
  have hx := idx t
  refine Eq.trans ?_ (V_v49 m c h e)
  unfold iblk
  refine congrArg (V m c main_v49) ?_
  blk_ext [hx]

end Retention.Block

end
-- ==== Proof.Reads.lean ====
/- A point's blocks hold a pair of heads over half of a sequence. -/
module

public import proofs.«01_k».proof.Proof.Placed

@[expose] public section

set_option maxRecDepth 16384

noncomputable section

namespace Retention.Block

open Idealize.ShloMosaic Idealize.ShloMosaic.TcCoe Idealize.SL.Sem
open Cert.KernelIdeal Cert.KernelIdeal.Gen

variable (m : (ℓ : Loc nD τ sig) → Buf (Elt Ideal) ℓ)

theorem ofNat_val (n k : ℕ) [NeZero n] (h : k < n) : (Fin.ofNat n k).val = k := Nat.mod_eq_of_lt h

section Cuts

variable {Z : Acts} {b : Fin 4} {h : Fin 8} {p n T : ℕ} (hp : p < 2) (hn : n < 8) (hb : b.val = T % 8 / 2) (hh : h.val = T / 8 * 2 + p)
include hp hn hb hh

/-- 128 columns of a block that lies in a sequence's rows, from the head's first column on. -/
theorem cut_narrow (x : FVec Ideal S1024x256 .f32) (w : ℕ) (hw : w * 256 + 2048 ≤ 31744)
    (hx : ∀ (i : Fin 1024) (j : Fin 256) (r : Fin 8448) (k : Fin 31744), r.val = T % 8 * 1024 + i.val →
      k.val = (w + T / 8) * 256 + j.val → x (ix2 i j) = Z (ix2 r k)) (i d : Fin 128) (k : Fin 31744)
    (hk : k.val = w * 256 + h.val * 128 + d.val) :
    cut 128 128 (128 * n) (128 * p) x (ix2 i d) = Z (ix2 (row b (T % 2 * 8 + n) i) k) := by
  refine hx _ _ _ _ ?_ ?_
  · rw [ofNat_val _ _ (by show 128 * n + i.val < 1024; omega)]
    show (b.val * 2048 + (T % 2 * 8 + n) * 128 + i.val) % 8448 = T % 8 * 1024 + (128 * n + i.val)
    have e : T % 8 = 2 * b.val + T % 2 := by omega
    rw [Nat.mod_eq_of_lt (by omega), e]
    omega
  · rw [ofNat_val _ _ (by show 128 * p + d.val < 256; omega)]
    show k.val = (w + T / 8) * 256 + (128 * p + d.val)
    omega

/-- 256 columns likewise. -/
theorem cut_wide (x : FVec Ideal S1024x512 .f32) (w : ℕ) (hw : w * 512 + 2048 ≤ 31744)
    (hx : ∀ (i : Fin 1024) (j : Fin 512) (r : Fin 8448) (k : Fin 31744), r.val = T % 8 * 1024 + i.val →
      k.val = (w + T / 8) * 512 + j.val → x (ix2 i j) = Z (ix2 r k)) (i : Fin 128) (e : Fin 256) (k : Fin 31744)
    (hk : k.val = w * 512 + h.val * 256 + e.val) :
    cut 128 256 (128 * n) (256 * p) x (ix2 i e) = Z (ix2 (row b (T % 2 * 8 + n) i) k) := by
  refine hx _ _ _ _ ?_ ?_
  · rw [ofNat_val _ _ (by show 128 * n + i.val < 1024; omega)]
    show (b.val * 2048 + (T % 2 * 8 + n) * 128 + i.val) % 8448 = T % 8 * 1024 + (128 * n + i.val)
    have e : T % 8 = 2 * b.val + T % 2 := by omega
    rw [Nat.mod_eq_of_lt (by omega), e]
    omega
  · rw [ofNat_val _ _ (by show 256 * p + e.val < 512; omega)]
    show k.val = (w + T / 8) * 512 + (256 * p + e.val)
    omega

end Cuts

theorem cut_g {G : FVec Ideal ⟨1, ![2048]⟩ .f32} {h : Fin 8} {p T : ℕ} (hp : p < 2) (hh : h.val = T / 8 * 2 + p)
    (x : FVec Ideal S1x512 .f32) (hx : ∀ (j : Fin 512) (k : Fin 2048), k.val = T / 8 * 512 + j.val → x (ix2 0 j) = G (ix1 k)) (e : Fin 256) :
    cut 1 256 0 (256 * p) x (ix2 0 e) = G (ix1 ⟨h.val * 256 + e.val, by omega⟩) := by
  refine hx _ _ ?_
  rw [ofNat_val _ _ (by show 256 * p + e.val < 512; omega)]
  show h.val * 256 + e.val = T / 8 * 512 + (256 * p + e.val)
  omega

/-- The blocks of a point read as the heads of its pair, half of a sequence's chunks. -/
theorem reads (c : Dev nD) (t : Fin cfg0.N) (b : Fin 4) (hb : b.val = t.val % 8 / 2) (p : ℕ) (hp : p < 2) (h : Fin 8)
    (hh : h.val = t.val / 8 * 2 + p) :
    Reads (blocks m c t) (m ((c : Thread nD τ).loc main_arg0)) (m ((c : Thread nD τ).loc main_arg1)) b h p (t.val % 2 * 8) := by
  have hP : h.val = t.val / 8 * 2 + (Fin.ofNat 2 p).val := by rw [ofNat_val _ _ hp]; exact hh
  have h0 := q_at m c t
  have h1 := k_at m c t
  have h2 := v_at m c t
  have h3 := z_at m c t
  have h5 := w5_at m c t
  have h6 := fun i j => w6_at m c t (Fin.ofNat 2 p) i j h hP
  have h7 := fun i e => w7_at m c t (Fin.ofNat 2 p) i e h hP
  have h8 := fun i d => w8_at m c t (Fin.ofNat 2 p) i d h hP
  have h9 := fun e => w9_at m c t (Fin.ofNat 2 p) e h hP
  unfold blocks
  generalize X0_0 m c t = x0 at h0 ⊢
  generalize X0_1 m c t = x1 at h1 ⊢
  generalize X0_2 m c t = x2 at h2 ⊢
  generalize X0_3 m c t = x3 at h3 ⊢
  generalize iblk m c 5 t = x5 at h5 ⊢
  generalize iblk m c 6 t = x6 at h6 ⊢
  generalize iblk m c 7 t = x7 at h7 ⊢
  generalize iblk m c 8 t = x8 at h8 ⊢
  generalize iblk m c 9 t = x9 at h9 ⊢
  generalize t.val = T at *
  exact
  { q := fun n hn i d => cut_narrow hp hn hb hh x0 20 (by decide) h0 i d _ rfl
    k := fun n hn i d => congrArg (fun x : EReal => x * Ideal.ofBits .f32 0x3DB504F3#32)
      (cut_narrow hp hn hb hh x1 24 (by decide) h1 i d _ rfl)
    v := fun n hn i e => cut_wide hp hn hb hh x2 14 (by decide) h2 i e _ rfl
    z := fun n hn i e => cut_wide hp hn hb hh x3 18 (by decide) h3 i e _ rfl
    g := cut_g hp hh x5 h5
    dec := h6
    qdec := h7
    kdec := h8
    cdec := h9 }

end Retention.Block

end
-- ==== Proof.BlockA.lean ====
/- What a point leaves that starts a sequence: the block of outputs, and the states it keeps for the next. -/
module

public import proofs.«01_k».proof.Proof.Block

@[expose] public section

set_option maxRecDepth 16384

noncomputable section

namespace Retention.Block

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

set_option maxHeartbeats 1000000 in
theorem outA (c : Dev nD) (t : Fin cfg0.N) (h0 : t.val % 2 = 0) (h1 : ¬t.val % 2 = 1) :
    (outsAt0 m c t.val t.isLt).1
      = outs (blocks m c t) (head (k0_pay2 (iblk m c 4 t))) := by
  rw [outsAt0_A m c t h0 h1]
  dsimp only
  frame_out
  unfold blocks
  generalize X0_0 m c t = x0
  generalize X0_1 m c t = x1
  generalize X0_2 m c t = x2
  generalize X0_3 m c t = x3
  generalize iblk m c 5 t = x5
  generalize iblk m c 6 t = x6
  generalize iblk m c 7 t = x7
  generalize iblk m c 8 t = x8
  generalize iblk m c 9 t = x9
  generalize k0_pay2 (iblk m c 4 t) = X
  have hX0 := held_reset X 0 inb_S1x2x128x256_S1x2x128x256_0_0_0_0 inb_S1x2x128x256_S1x1x128x256_0_0_0_0
  have hX1 := held_reset X 1 inb_S1x2x128x256_S1x2x128x256_0_0_0_0 inb_S1x2x128x256_S1x1x128x256_0_1_0_0
  simp only [hX0, hX1, ld_cut, ld_plane]
  funext j
  canon_tiles j hj
  case' piece15 => refine Eq.trans ?_ (outs_tile _ (head X) _ j 0 0 (by omega) (by omega))
  case' piece14 => refine Eq.trans ?_ (outs_tile _ (head X) _ j 0 1 (by omega) (by omega))
  case' piece13 => refine Eq.trans ?_ (outs_tile _ (head X) _ j 1 0 (by omega) (by omega))
  case' piece12 => refine Eq.trans ?_ (outs_tile _ (head X) _ j 1 1 (by omega) (by omega))
  case' piece11 => refine Eq.trans ?_ (outs_tile _ (head X) _ j 2 0 (by omega) (by omega))
  case' piece10 => refine Eq.trans ?_ (outs_tile _ (head X) _ j 2 1 (by omega) (by omega))
  case' piece9 => refine Eq.trans ?_ (outs_tile _ (head X) _ j 3 0 (by omega) (by omega))
  case' piece8 => refine Eq.trans ?_ (outs_tile _ (head X) _ j 3 1 (by omega) (by omega))
  case' piece7 => refine Eq.trans ?_ (outs_tile _ (head X) _ j 4 0 (by omega) (by omega))
  case' piece6 => refine Eq.trans ?_ (outs_tile _ (head X) _ j 4 1 (by omega) (by omega))
  case' piece5 => refine Eq.trans ?_ (outs_tile _ (head X) _ j 5 0 (by omega) (by omega))
  case' piece4 => refine Eq.trans ?_ (outs_tile _ (head X) _ j 5 1 (by omega) (by omega))
  case' piece3 => refine Eq.trans ?_ (outs_tile _ (head X) _ j 6 0 (by omega) (by omega))
  case' piece2 => refine Eq.trans ?_ (outs_tile _ (head X) _ j 6 1 (by omega) (by omega))
  case' piece1 => refine Eq.trans ?_ (outs_tile _ (head X) _ j 7 0 (by omega) (by omega))
  case' piece0 => refine Eq.trans ?_ (outs_tile _ (head X) _ j 7 1 (by omega) (by omega))
  all_goals
    open_payloads
    simp only [tileAt, chain, tile, hand, head, k0_pay3, k0_pay5, k0_pay6, k0_pay8, k0_pay18, k0_pay19, k0_pay20, k0_pay22, Nat.reduceMul]

set_option maxHeartbeats 1000000 in
theorem stateA (c : Dev nD) (t : Fin cfg0.N) (h0 : t.val % 2 = 0) (h1 : ¬t.val % 2 = 1) :
    (outsAt0 m c t.val t.isLt).2.2
      = keep fun h => chain (blocks m c t) h (head (k0_pay2 (iblk m c 4 t)) h) 8 := by
  rw [outsAt0_A m c t h0 h1]
  dsimp only
  frame_out
  unfold blocks
  generalize X0_0 m c t = x0
  generalize X0_1 m c t = x1
  generalize X0_2 m c t = x2
  generalize X0_3 m c t = x3
  generalize iblk m c 5 t = x5
  generalize iblk m c 6 t = x6
  generalize iblk m c 7 t = x7
  generalize iblk m c 8 t = x8
  generalize iblk m c 9 t = x9
  generalize k0_pay2 (iblk m c 4 t) = X
  have hX0 := held_reset X 0 inb_S1x2x128x256_S1x2x128x256_0_0_0_0 inb_S1x2x128x256_S1x1x128x256_0_0_0_0
  have hX1 := held_reset X 1 inb_S1x2x128x256_S1x2x128x256_0_0_0_0 inb_S1x2x128x256_S1x1x128x256_0_1_0_0
  simp only [hX0, hX1, ld_cut, ld_plane]
  refine canon_heads _ _ _ _ _ _ ?_ ?_
  all_goals
    open_payloads
    simp only [tileAt, chain, tile, hand, head, k0_pay3, k0_pay5, k0_pay6, k0_pay8, k0_pay18, k0_pay19, k0_pay20, k0_pay22, Nat.reduceMul, k0_pay1]

end Retention.Block

end
-- ==== Proof.BlockB.lean ====
/- What a point leaves that goes on from the point before it: the block of outputs, and the states it returns. -/
module

public import proofs.«01_k».proof.Proof.Block

@[expose] public section

set_option maxRecDepth 16384

noncomputable section

namespace Retention.Block

open Idealize.ShloMosaic Idealize.ShloMosaic.TcCoe Idealize.SL.Sem
open Cert.KernelIdeal Cert.KernelIdeal.Gen

variable {F : FTy → Type} [FloatOps F] (m : (ℓ : Loc nD τ sig) → Buf (Elt F) ℓ)

set_option maxHeartbeats 1000000 in
theorem outB (c : Dev nD) (t : Fin cfg0.N) (h0 : ¬t.val % 2 = 0) (h1 : t.val % 2 = 1) :
    (outsAt0 m c t.val t.isLt).1
      = outs (blocks m c t) (head (outsAt0 m c (t.val - 1) (Nat.lt_of_le_of_lt (Nat.sub_le _ _) t.isLt)).2.2) := by
  rw [outsAt0_B m c t h0 h1]
  dsimp only
  generalize (outsAt0 m c (t.val - 1) (Nat.lt_of_le_of_lt (Nat.sub_le _ _) t.isLt)).2.2 = X
  frame_out
  unfold blocks
  generalize X0_0 m c t = x0
  generalize X0_1 m c t = x1
  generalize X0_2 m c t = x2
  generalize X0_3 m c t = x3
  generalize iblk m c 5 t = x5
  generalize iblk m c 6 t = x6
  generalize iblk m c 7 t = x7
  generalize iblk m c 8 t = x8
  generalize iblk m c 9 t = x9
  have hX : View.read (Elt F) (View.whole cc0_scratch0) ((Memref.isWhole_whole cc0_scratch0).unread X) = X := (Memref.isWhole_whole cc0_scratch0).read_unread X
  simp only [hX, ld_cut, ld_plane, ld_held]
  funext j
  canon_tiles j hj
  case' piece15 => refine Eq.trans ?_ (outs_tile _ (head X) _ j 0 0 (by omega) (by omega))
  case' piece14 => refine Eq.trans ?_ (outs_tile _ (head X) _ j 0 1 (by omega) (by omega))
  case' piece13 => refine Eq.trans ?_ (outs_tile _ (head X) _ j 1 0 (by omega) (by omega))
  case' piece12 => refine Eq.trans ?_ (outs_tile _ (head X) _ j 1 1 (by omega) (by omega))
  case' piece11 => refine Eq.trans ?_ (outs_tile _ (head X) _ j 2 0 (by omega) (by omega))
  case' piece10 => refine Eq.trans ?_ (outs_tile _ (head X) _ j 2 1 (by omega) (by omega))
  case' piece9 => refine Eq.trans ?_ (outs_tile _ (head X) _ j 3 0 (by omega) (by omega))
  case' piece8 => refine Eq.trans ?_ (outs_tile _ (head X) _ j 3 1 (by omega) (by omega))
  case' piece7 => refine Eq.trans ?_ (outs_tile _ (head X) _ j 4 0 (by omega) (by omega))
  case' piece6 => refine Eq.trans ?_ (outs_tile _ (head X) _ j 4 1 (by omega) (by omega))
  case' piece5 => refine Eq.trans ?_ (outs_tile _ (head X) _ j 5 0 (by omega) (by omega))
  case' piece4 => refine Eq.trans ?_ (outs_tile _ (head X) _ j 5 1 (by omega) (by omega))
  case' piece3 => refine Eq.trans ?_ (outs_tile _ (head X) _ j 6 0 (by omega) (by omega))
  case' piece2 => refine Eq.trans ?_ (outs_tile _ (head X) _ j 6 1 (by omega) (by omega))
  case' piece1 => refine Eq.trans ?_ (outs_tile _ (head X) _ j 7 0 (by omega) (by omega))
  case' piece0 => refine Eq.trans ?_ (outs_tile _ (head X) _ j 7 1 (by omega) (by omega))
  all_goals
    open_payloads
    simp only [tileAt, chain, tile, hand, head, k0_pay3, k0_pay5, k0_pay6, k0_pay8, k0_pay18, k0_pay19, k0_pay20, k0_pay22, Nat.reduceMul]

set_option maxHeartbeats 1000000 in
theorem stateB (c : Dev nD) (t : Fin cfg0.N) (h0 : ¬t.val % 2 = 0) (h1 : t.val % 2 = 1) :
    (outsAt0 m c t.val t.isLt).2.1
      = keep fun h => chain (blocks m c t) h (head (outsAt0 m c (t.val - 1) (Nat.lt_of_le_of_lt (Nat.sub_le _ _) t.isLt)).2.2 h) 8 := by
  rw [outsAt0_B m c t h0 h1]
  dsimp only
  generalize (outsAt0 m c (t.val - 1) (Nat.lt_of_le_of_lt (Nat.sub_le _ _) t.isLt)).2.2 = X
  frame_out
  unfold blocks
  generalize X0_0 m c t = x0
  generalize X0_1 m c t = x1
  generalize X0_2 m c t = x2
  generalize X0_3 m c t = x3
  generalize iblk m c 5 t = x5
  generalize iblk m c 6 t = x6
  generalize iblk m c 7 t = x7
  generalize iblk m c 8 t = x8
  generalize iblk m c 9 t = x9
  have hX : View.read (Elt F) (View.whole cc0_scratch0) ((Memref.isWhole_whole cc0_scratch0).unread X) = X := (Memref.isWhole_whole cc0_scratch0).read_unread X
  simp only [hX, ld_cut, ld_plane, ld_held, read_all]
  refine canon_heads _ _ _ _ _ _ ?_ ?_
  all_goals
    open_payloads
    simp only [tileAt, chain, tile, hand, head, k0_pay3, k0_pay5, k0_pay6, k0_pay8, k0_pay18, k0_pay19, k0_pay20, k0_pay22, Nat.reduceMul, k0_pay1]

end Retention.Block

end
-- ==== Proof.RefValue.lean ====
/- The reference read at coordinates: its loop's state after `n` trips, and its two results. -/
module

public import proofs.«01_k».proof.Proof.Spec
public import proofs.«01_k».proof.Proof.RefRun

@[expose] public section

set_option maxRecDepth 16384

noncomputable section

namespace Retention.Ref

open Idealize.ShloMosaic Cert.ReferenceIdeal Cert.ReferenceIdeal.Gen Cert.ReferenceIdeal.Step

variable (Z : Acts)

theorem row_val (b : Fin 4) (n : ℕ) (hn : n < 16) (i : Fin 128) : (row b n i).val = b.val * 2048 + n * 128 + i.val := by
  unfold row
  exact Nat.mod_eq_of_lt (by omega)

/-- Before the loop the reference cuts queries, keys and values into chunks. -/
theorem qry_at (b : Fin 4) (h : Fin 8) (n : Fin 16) (i d : Fin 128) :
    A_main_v55 (F := Ideal) Z (ix5 n b i h d) = qry Z b h n i d := by
  have hr := row_val b n n.isLt i
  pointwise [A_main_v55, A_main_v54, A_main_v6, A_main_v2, A_main_v1, A_main_v0, qry]
  congr 1
  idx_ext <;> omega

theorem key_at (b : Fin 4) (h : Fin 8) (n : Fin 16) (i d : Fin 128) :
    A_main_v57 (F := Ideal) Z (ix5 n b i h d) = key Z b h n i d := by
  have hr := row_val b n n.isLt i
  pointwise [A_main_v57, A_main_v56, A_main_v9, A_main_v7, A_main_v3, A_main_v1, A_main_v0, K_main_v8, K_main_cst_0, key]
  congr 2
  idx_ext <;> omega

theorem val_at (b : Fin 4) (h : Fin 8) (n : Fin 16) (i : Fin 128) (e : Fin 256) :
    A_main_v59 (F := Ideal) Z (ix5 n b i h e) = val Z b h n i e := by
  have hr := row_val b n n.isLt i
  pointwise [A_main_v59, A_main_v58, A_main_v10, A_main_v4, A_main_v1, A_main_v0, val]
  congr 1
  idx_ext <;> omega

/-- A dynamic slice whose start is known and leaves the slice inside the operand, read at an index. -/
theorem slice_at {α : Type} {s t : Shape} (x : s.Idx → α) (st : Fin s.rank → Int) (h : s.Slices (fun _ => 0) t) (j : t.Idx)
    (lo : Fin s.rank → ℕ) (hlo : ∀ a, st a = (lo a : Int)) (hle : ∀ a, lo a + t.size (a.cast h.1.symm) ≤ s.size a) (k : s.Idx)
    (hk : ∀ a, (k a).val = lo a + (j (a.cast h.1.symm)).val) : Host.dynamicSlice t x st h j = x k := by
  rw [Host.dynamicSlice_apply]
  congr 1
  funext a
  apply Fin.ext
  have := Host.clampedStart_of_le h.1 st a (lo a) (hlo a) (hle a)
  simp only [Shape.Idx.norm, hk a, this]

/-- A dynamic update likewise: inside the window the update, outside the operand. -/
theorem update_in {α : Type} {s t : Shape} (x : s.Idx → α) (u : t.Idx → α) (st : Fin s.rank → Int) (h : s.Slices (fun _ => 0) t)
    (i : s.Idx) (lo : Fin s.rank → ℕ) (hlo : ∀ a, st a = (lo a : Int)) (hle : ∀ a, lo a + t.size (a.cast h.1.symm) ≤ s.size a)
    (j : t.Idx) (hj : ∀ a, (i a).val = lo a + (j (a.cast h.1.symm)).val) : Host.dynamicUpdateSlice x u st h i = u j := by
  have e := fun a => Host.clampedStart_of_le h.1 st a (lo a) (hlo a) (hle a)
  rw [Host.dynamicUpdateSlice_apply, dif_pos fun a => by
    rw [e a, hj a]
    have := (j (a.cast h.1.symm)).isLt
    omega]
  congr 1
  funext b
  apply Fin.ext
  have hb := hj (b.cast h.1)
  simp only [Shape.Idx.norm, e, hb]
  exact Nat.add_sub_cancel_left _ _

theorem update_out {α : Type} {s t : Shape} (x : s.Idx → α) (u : t.Idx → α) (st : Fin s.rank → Int) (h : s.Slices (fun _ => 0) t)
    (i : s.Idx) (lo : Fin s.rank → ℕ) (hlo : ∀ a, st a = (lo a : Int)) (hle : ∀ a, lo a + t.size (a.cast h.1.symm) ≤ s.size a)
    (a : Fin s.rank) (ha : ¬ (lo a ≤ (i a).val ∧ (i a).val < lo a + t.size (a.cast h.1.symm))) :
    Host.dynamicUpdateSlice x u st h i = x i := by
  rw [Host.dynamicUpdateSlice_apply, dif_neg fun hin => ha (by
    have := hin a
    rwa [Host.clampedStart_of_le h.1 st a (lo a) (hlo a) (hle a)] at this)]

theorem start_eq (n : ℕ) (hn : n < 16) : (BitVec.ofNat 32 n).toInt = (n : Int) := by
  rw [BitVec.toInt_eq_toNat_of_lt (by rw [BitVec.toNat_ofNat]; omega), BitVec.toNat_ofNat]
  omega

/-- The chunk a trip cuts out of the queries, the keys and the values. -/
theorem b5_at (n : ℕ) (hn : n < 16) (s : State Ideal) (b : Fin 4) (i : Fin 128) (h : Fin 8) (d : Fin 128) :
    b5 n s (ix4 b i h d) = s.main_v61_0 (ix5 ⟨n, hn⟩ b i h d) := by
  pointwise [b5]
  unfold b4
  refine slice_at _ _ _ _ ![n, 0, 0, 0, 0] ?_ ?_ _ ?_
  · intro a
    fin_cases a
    · exact start_eq n hn
    all_goals rfl
  · intro a
    fin_cases a
    · show n + 1 ≤ 16
      omega
    · exact (by decide : 0 + 4 ≤ 4)
    · exact (by decide : 0 + 128 ≤ 128)
    · exact (by decide : 0 + 8 ≤ 8)
    · exact (by decide : 0 + 128 ≤ 128)
  · intro a
    fin_cases a
    all_goals simp

theorem b11_at (n : ℕ) (hn : n < 16) (s : State Ideal) (b : Fin 4) (i : Fin 128) (h : Fin 8) (d : Fin 128) :
    b11 n s (ix4 b i h d) = s.main_v61_1 (ix5 ⟨n, hn⟩ b i h d) :=
  b5_at n hn { s with main_v61_0 := s.main_v61_1 } b i h d

theorem b17_at (n : ℕ) (hn : n < 16) (s : State Ideal) (b : Fin 4) (i : Fin 128) (h : Fin 8) (e : Fin 256) :
    b17 n s (ix4 b i h e) = s.main_v61_2 (ix5 ⟨n, hn⟩ b i h e) := by
  pointwise [b17]
  unfold b16
  refine slice_at _ _ _ _ ![n, 0, 0, 0, 0] ?_ ?_ _ ?_
  · intro a
    fin_cases a
    · exact start_eq n hn
    all_goals rfl
  · intro a
    fin_cases a
    · show n + 1 ≤ 16
      omega
    · exact (by decide : 0 + 4 ≤ 4)
    · exact (by decide : 0 + 128 ≤ 128)
    · exact (by decide : 0 + 8 ≤ 8)
    · exact (by decide : 0 + 256 ≤ 256)
  · intro a
    fin_cases a
    all_goals simp

/-- What the reference's loop holds before trip `n`. -/
structure Holds (n : ℕ) (s : State Ideal) : Prop where
  q : s.main_v61_0 = A_main_v55 (F := Ideal) Z
  k : s.main_v61_1 = A_main_v57 (F := Ideal) Z
  v : s.main_v61_2 = A_main_v59 (F := Ideal) Z
  st : ∀ (b : Fin 4) (h : Fin 8) (d : Fin 128) (e : Fin 256), s.main_v61_8 (ix4 b h d e) = state Z b h n d e
  o : ∀ (k : Fin 16) (b : Fin 4) (i : Fin 128) (h : Fin 8) (e : Fin 256), k.val < n →
    s.main_v61_9 (ix5 k b i h e) = out Z b h k (state Z b h k) i e

variable {Z}

theorem b29_at (n : ℕ) (hn : n < 16) (s : State Ideal) (H : Holds Z n s) (b : Fin 4) (i : Fin 128) (h : Fin 8) (e : Fin 256) :
    b29 n s (ix4 b i h e) = out Z b h n (state Z b h n) i e := by
  have hq := fun (i d : Fin 128) => (b5_at n hn s b i h d).trans ((congrFun H.q _).trans (qry_at Z b h ⟨n, hn⟩ i d))
  have hk := fun (i d : Fin 128) => (b11_at n hn s b i h d).trans ((congrFun H.k _).trans (key_at Z b h ⟨n, hn⟩ i d))
  have hv := fun (i : Fin 128) (e : Fin 256) => (b17_at n hn s b i h e).trans ((congrFun H.v _).trans (val_at Z b h ⟨n, hn⟩ i e))
  have hs := fun (d : Fin 128) (e : Fin 256) => H.st b h d e
  pointwise [b29, b28, b27, b26, b25, b24, b23, b22, b21, b20, b19, b18, out, dec, qdec, hq, hk, hv, hs]
  rw [Finset.sum_congr rfl fun x _ => mul_comm (state Z b h n x e) (qry Z b h n i x),
    Finset.sum_congr rfl fun x _ => mul_comm (val Z b h n x e) _]

theorem b37_at (n : ℕ) (hn : n < 16) (s : State Ideal) (H : Holds Z n s) (b : Fin 4) (h : Fin 8) (d : Fin 128) (e : Fin 256) :
    b37 n s (ix4 b h d e) = state Z b h (n + 1) d e := by
  have hk := fun (i d : Fin 128) => (b11_at n hn s b i h d).trans ((congrFun H.k _).trans (key_at Z b h ⟨n, hn⟩ i d))
  have hv := fun (i : Fin 128) (e : Fin 256) => (b17_at n hn s b i h e).trans ((congrFun H.v _).trans (val_at Z b h ⟨n, hn⟩ i e))
  have hs := fun (d : Fin 128) (e : Fin 256) => H.st b h d e
  pointwise [b37, b36, b35, b34, b33, b32, b31, b30, state, next, cdec, kdec, hk, hv, hs]

theorem b43_at (n : ℕ) (hn : n < 16) (s : State Ideal) (k : Fin 16) (b : Fin 4) (i : Fin 128) (h : Fin 8) (e : Fin 256) :
    b43 n s (ix5 k b i h e) = if k.val = n then b29 n s (ix4 b i h e) else s.main_v61_9 (ix5 k b i h e) := by
  have hst : ∀ a : Fin 5, (fun k => (((![(constantI S_ 32 (BitVec.ofNat 32 n) : (⟨S_, .i32⟩ : BufTy).Contents (Elt Ideal)), b39 n s, b40 n s, b41 n s, b42 n s] : Fin 5 → (⟨S_, .i32⟩ : BufTy).Contents (Elt Ideal))) k (Shape.Idx.first h_S_)).toInt) a = ((![n, 0, 0, 0, 0] : Fin 5 → ℕ) a : Int) := by
    intro a
    fin_cases a
    · exact start_eq n hn
    all_goals rfl
  have hle : ∀ a : Fin 5, (![n, 0, 0, 0, 0] : Fin 5 → ℕ) a + S1x4x128x8x256.size a ≤ S16x4x128x8x256.size a := by
    intro a
    fin_cases a
    · show n + 1 ≤ 16
      omega
    · exact (by decide : 0 + 4 ≤ 4)
    · exact (by decide : 0 + 128 ≤ 128)
    · exact (by decide : 0 + 8 ≤ 8)
    · exact (by decide : 0 + 256 ≤ 256)
  unfold b43
  split
  · next hk =>
    refine (update_in _ _ _ _ _ ![n, 0, 0, 0, 0] hst hle (ix5 0 b i h e) ?_).trans ?_
    · intro a
      fin_cases a
      · simpa using hk
      all_goals simp
    · pointwise [b38]
  · next hk =>
    refine update_out _ _ _ _ _ ![n, 0, 0, 0, 0] hst hle 0 ?_
    show ¬ (n ≤ k.val ∧ k.val < n + 1)
    omega

theorem holds_init : Holds Z 0 (init (F := Ideal) Z) where
  q := rfl
  k := rfl
  v := rfl
  st := by
    intro b h d e
    unfold init
    pointwise [K_main_v5, K_main_cst, state]
  o := fun k _ _ _ _ hk => absurd hk (Nat.not_lt_zero _)

theorem holds_step (n : ℕ) (hn : n < 16) (s : State Ideal) (H : Holds Z n s) : Holds Z (n + 1) (step n s) where
  q := H.q
  k := H.k
  v := H.v
  st := fun b h d e => b37_at n hn s H b h d e
  o := fun k b i h e hk => by
    show b43 n s _ = _
    rw [b43_at n hn]
    split
    · next hkn => rw [hkn]; exact b29_at n hn s H b i h e
    · next hkn => exact H.o k b i h e (by omega)

theorem holds_iter : ∀ n : ℕ, n ≤ 16 → Holds Z n (RefRun.iter Z n)
  | 0, _ => holds_init
  | n + 1, hn => holds_step n (by omega) _ (holds_iter n (by omega))

/-- The state the reference returns. -/
theorem state_result (b : Fin 4) (h : Fin 8) (d : Fin 128) (e : Fin 256) :
    (RefRun.iter (F := Ideal) Z 16).main_v61_8 (ix4 b h d e) = state Z b h 16 d e := (holds_iter 16 le_rfl).st b h d e

/-- What the operations after the loop make of its outputs, read at a row and a column. -/
theorem post_at (g : FVec Ideal ⟨1, ![2048]⟩ .f32) (X : FVec Ideal ⟨2, ![8448, 2048]⟩ .bf16) (s : State Ideal) (r : Fin 8448)
    (c : Fin 2048) : R_main_v85 (F := Ideal) s Z g X (ix2 r c)
      = if hr : r.val < 8192 then
          gated (fun e => s.main_v61_9 (ix5 ⟨r.val % 2048 / 128, by omega⟩ ⟨r.val / 2048, by omega⟩ ⟨r.val % 2048 % 128, by omega⟩
            ⟨c.val / 256, by omega⟩ e)) (g (ix1 c)) (Z (ix2 r ⟨9216 + c.val, by omega⟩)) ⟨c.val % 256, by omega⟩
        else X (ix2 r c) := by
  unfold R_main_v85
  pointwise []
  split
  · rfl
  · exact congrArg (fun q => X (ix2 q c)) (Fin.ext (by show 8192 + (r.val - 8192) = r.val; omega))

/-- The values the reference returns: in the rows of the sequences the gated outputs, below them the rows it was given. -/
theorem out_result (g : FVec Ideal ⟨1, ![2048]⟩ .f32) (X : FVec Ideal ⟨2, ![8448, 2048]⟩ .bf16) (b : Fin 4) (n : Fin 16)
    (i : Fin 128) (h : Fin 8) (e : Fin 256) (r : Fin 8448) (hr : r = row b n i) (c : Fin 2048) (hc : c.val = h.val * 256 + e.val) :
    R_main_v85 (F := Ideal) (RefRun.iter Z 16) Z g X (ix2 r c)
      = gated (out Z b h n (state Z b h n) i) (g (ix1 c)) (gate Z b h n i e) e := by
  have ho := fun e => (holds_iter (Z := Z) 16 le_rfl).o n b i h e n.isLt
  have hv := row_val b n.val n.isLt i
  rw [← hr] at hv
  have e1 : (⟨r.val % 2048 / 128, by omega⟩ : Fin 16) = n := Fin.ext (by show r.val % 2048 / 128 = n.val; omega)
  have e2 : (⟨r.val / 2048, by omega⟩ : Fin 4) = b := Fin.ext (by show r.val / 2048 = b.val; omega)
  have e3 : (⟨r.val % 2048 % 128, by omega⟩ : Fin 128) = i := Fin.ext (by show r.val % 2048 % 128 = i.val; omega)
  have e4 : (⟨c.val / 256, by omega⟩ : Fin 8) = h := Fin.ext (by show c.val / 256 = h.val; omega)
  have e5 : (⟨c.val % 256, by omega⟩ : Fin 256) = e := Fin.ext (by show c.val % 256 = e.val; omega)
  have e6 : (⟨9216 + c.val, by omega⟩ : Fin 31744) = ⟨9216 + h.val * 256 + e.val, by omega⟩ := Fin.ext (by show 9216 + c.val = 9216 + h.val * 256 + e.val; omega)
  rw [post_at, dif_pos (by omega), e1, e2, e3, e4, e5, e6, funext ho]
  subst hr
  rfl

theorem rest_result (g : FVec Ideal ⟨1, ![2048]⟩ .f32) (X : FVec Ideal ⟨2, ![8448, 2048]⟩ .bf16) (s : State Ideal) (r : Fin 8448)
    (hr : 8192 ≤ r.val) (c : Fin 2048) : R_main_v85 (F := Ideal) s Z g X (ix2 r c) = X (ix2 r c) := by
  rw [post_at, dif_neg (by omega)]

end Retention.Ref

end
-- ==== Proof.Arrays.lean ====
/- The arrays the kernel leaves are the reference's: its outputs for the tokens of the sequences, the other tokens' rows as
   they were, and the last state of every head. -/
module

public import proofs.«01_k».proof.Proof.Reads
public import proofs.«01_k».proof.Proof.BlockA
public import proofs.«01_k».proof.Proof.BlockB
public import proofs.«01_k».proof.Proof.RefValue
public import proofs.«01_k».proof.Proof.Gen.KernelIdeal.Value

@[expose] public section

set_option maxRecDepth 16384

noncomputable section

namespace Retention.Block

open Idealize.ShloMosaic Idealize.ShloMosaic.TcCoe Idealize.SL.Sem
open Cert.KernelIdeal Cert.KernelIdeal.Gen

theorem reset_at (x : FVec Ideal S1x1x2x128x256 .f32) (hx : ∀ (p : Fin 2) (d : Fin 128) (e : Fin 256), x (ix5 0 0 p d e) = (0 : EReal))
    (p : ℕ) (d : Fin 128) (e : Fin 256) : head (F := Ideal) (k0_pay2 (F := Ideal) x) p (ix2 d e) = (0 : EReal) := by
  unfold head k0_pay3 held
  pointwise [k0_pay2, hx]

variable (m : (ℓ : Loc nD τ sig) → Buf (Elt Ideal) ℓ)

/-- The states a point starts from. -/
theorem start_at (c : Dev nD) (t : Fin cfg0.N) : ∃ S : ℕ → FVec Ideal S128x256 .f32,
    (outsAt0 m c t.val t.isLt).1 = outs (blocks m c t) S
    ∧ (t.val % 2 = 1 → (outsAt0 m c t.val t.isLt).2.1 = keep fun p => chain (blocks m c t) p (S p) 8)
    ∧ ∀ (b : Fin 4) (_ : b.val = t.val % 8 / 2) (p : ℕ) (_ : p < 2) (h : Fin 8) (_ : h.val = t.val / 8 * 2 + p)
        (d : Fin 128) (e : Fin 256), S p (ix2 d e) = state (m ((c : Thread nD τ).loc main_arg0)) b h (t.val % 2 * 8) d e := by
  have zero : ∀ (t : Fin cfg0.N) (b : Fin 4) (h : Fin 8) (p : ℕ) (d : Fin 128) (e : Fin 256), t.val % 2 = 0 →
      head (F := Ideal) (k0_pay2 (iblk m c 4 t)) p (ix2 d e) = state (m ((c : Thread nD τ).loc main_arg0)) b h (t.val % 2 * 8) d e :=
    fun t b h p d e h0 => by
      rw [h0]
      exact reset_at (iblk m c 4 t) (fun p d e => w4_at m c t p d e) p d e
  by_cases h0 : t.val % 2 = 0
  · exact ⟨_, outA m c t h0 (by omega), fun h1 => absurd h1 (by omega), fun b _ p _ h _ d e => zero t b h p d e h0⟩
  · have h1 : t.val % 2 = 1 := by omega
    refine ⟨_, outB m c t h0 h1, fun _ => stateB m c t h0 h1, fun b hb p hp h hh d e => ?_⟩
    have l := t.isLt
    have lt : t.val - 1 < cfg0.N := by omega
    obtain ⟨u, hu⟩ : ∃ u : Fin cfg0.N, u.val = t.val - 1 := ⟨⟨t.val - 1, lt⟩, rfl⟩
    have s := stateA m c u (by omega) (by omega)
    simp only [hu] at s
    rw [s, head_keep _ p hp]
    have R := reads m c u b (by omega) p hp h (by omega)
    have e8 : u.val % 2 * 8 + 8 = t.val % 2 * 8 := by omega
    rw [← e8]
    exact chain_at R (fun d e => zero u b h p d e (by omega)) 8 (le_refl 8) d e

/-- The outputs a point leaves are the reference's in its place. -/
theorem out_point (c : Dev nD) (t : Fin cfg0.N) (i : Fin 1024) (j : Fin 512) (r : Fin 8448) (k : Fin 2048)
    (hr : r.val = t.val % 8 * 1024 + i.val) (hk : k.val = t.val / 8 * 512 + j.val) :
    (outsAt0 m c t.val t.isLt).1 (ix2 i j) = Cert.ReferenceIdeal.Step.R_main_v85 (RefRun.iter (F := Ideal) (m ((c : Thread nD τ).loc main_arg0)) 16)
      (m ((c : Thread nD τ).loc main_arg0)) (m ((c : Thread nD τ).loc main_arg1)) (m ((c : Thread nD τ).loc main_arg2)) (ix2 r k) := by
  obtain ⟨S, hO, -, hS⟩ := start_at m c t
  have l : t.val < 32 := t.isLt
  have li := i.isLt
  have lj := j.isLt
  have hp : j.val / 256 < 2 := by omega
  obtain ⟨b, hb⟩ : ∃ b : Fin 4, b.val = t.val % 8 / 2 := ⟨⟨t.val % 8 / 2, by omega⟩, rfl⟩
  obtain ⟨h, hh⟩ : ∃ h : Fin 8, h.val = t.val / 8 * 2 + j.val / 256 := ⟨⟨t.val / 8 * 2 + j.val / 256, by omega⟩, rfl⟩
  obtain ⟨n, hn⟩ : ∃ n : Fin 16, n.val = t.val % 2 * 8 + i.val / 128 := ⟨⟨t.val % 2 * 8 + i.val / 128, by omega⟩, rfl⟩
  obtain ⟨x, hx⟩ : ∃ x : Fin 128, x.val = i.val % 128 := ⟨⟨i.val % 128, by omega⟩, rfl⟩
  obtain ⟨e, he⟩ : ∃ e : Fin 256, e.val = j.val % 256 := ⟨⟨j.val % 256, by omega⟩, rfl⟩
  have R := reads m c t b hb (j.val / 256) hp h hh
  have kv : k.val = h.val * 256 + e.val := by omega
  have rv : r = row b n x := Fin.ext (by
    rw [Ref.row_val b n n.isLt x]
    have e8 : t.val % 8 = 2 * b.val + t.val % 2 := by omega
    omega)
  refine Eq.trans ?_ (Ref.out_result _ _ b n x h e r rv k kv).symm
  have T := tile_at R (hS b hb _ hp h hh) (i.val / 128) (by omega) x e
  rw [← hn] at T
  rw [hO, ← outs_tile (blocks m c t) S (ix2 i j) (ix2 x e) (i.val / 128) (j.val / 256)
    (by show i.val = 128 * (i.val / 128) + x.val; omega) (by show j.val = 256 * (j.val / 256) + e.val; omega)]
  refine T.trans ?_
  rw [show k = ⟨h.val * 256 + e.val, by omega⟩ from Fin.ext kv]

/-- The states a sequence's last point leaves. -/
theorem state_point (c : Dev nD) (t : Fin cfg0.N) (h1 : t.val % 2 = 1) (p : Fin 2) (d : Fin 128) (e : Fin 256) (b : Fin 4) (h : Fin 8)
    (hb : b.val = t.val % 8 / 2) (hh : h.val = t.val / 8 * 2 + p.val) :
    (outsAt0 m c t.val t.isLt).2.1 (ix4 0 p d e)
      = (RefRun.iter (F := Ideal) (m ((c : Thread nD τ).loc main_arg0)) 16).main_v61_8 (ix4 b h d e) := by
  obtain ⟨S, -, hK, hS⟩ := start_at m c t
  have R := reads m c t b hb p.val p.isLt h hh
  rw [hK h1]
  refine Eq.trans ?_ (Ref.state_result b h d e).symm
  have C := chain_at R (hS b hb _ p.isLt h hh) 8 (le_refl 8) d e
  rw [show t.val % 2 * 8 + 8 = 16 by omega] at C
  exact C

/-- The array of outputs is the third argument's when the kernel starts. -/
theorem V_main_v51_0 (c : Dev nD) : V m c main_v51_0 = m ((c : Thread nD τ).loc main_arg2) := by
  simp only [V, hostOps0, hostOps0_1, hostOps0_2, List.flatten_cons, List.flatten_nil, List.append_nil, List.cons_append, List.nil_append]
  entry_read
  rfl

/-- The array of outputs. -/
theorem final10 (c : Dev nD) : (dats m 0 c).arrAt 10 cfg0.N
    = Cert.ReferenceIdeal.Step.R_main_v85 (RefRun.iter (F := Ideal) (m ((c : Thread nD τ).loc main_arg0)) 16)
      (m ((c : Thread nD τ).loc main_arg0)) (m ((c : Thread nD τ).loc main_arg1)) (m ((c : Thread nD τ).loc main_arg2)) := by
  refine ((dats m 0 c).arrAt_eq_of_coversWhere 10 (Cert.ReferenceIdeal.Step.R_main_v85 (RefRun.iter (F := Ideal) (m ((c : Thread nD τ).loc main_arg0)) 16)
      (m ((c : Thread nD τ).loc main_arg0)) (m ((c : Thread nD τ).loc main_arg1)) (m ((c : Thread nD τ).loc main_arg2)))
      (P := fun i => (i 0).val < 8192) (fun β => β 0 < 8) (by decide +kernel) (fun t hf y => ?_)
      (fun j => by blk_simp [Pipeline.Window.cell_apply]; omega)).trans ?_
  · blk_simp
    rw [after0_10]
    have hx := idx t
    have l : t.val < 32 := t.isLt
    have l0 : (y 0).val < 1024 := ((cfg0.win 10).xinj (cfg0.grid.coords t) y 0).isLt
    have l1 : (y 1).val < 512 := ((cfg0.win 10).xinj (cfg0.grid.coords t) y 1).isLt
    have e : (cfg0.win 10).xinj (cfg0.grid.coords t) y = (ix2 ⟨(y 0).val, l0⟩ ⟨(y 1).val, l1⟩ : S1024x512.Idx) :=
      funext fun a => by fin_cases a <;> rfl
    rw [e]
    refine (out_point m c t ⟨(y 0).val, l0⟩ ⟨(y 1).val, l1⟩ ⟨t.val % 8 * 1024 + (y 0).val, by omega⟩ ⟨t.val / 8 * 512 + (y 1).val, by omega⟩
      rfl rfl).trans ?_
    refine congrArg (Cert.ReferenceIdeal.Step.R_main_v85 (F := Ideal) _ _ _ _) ?_
    blk_ext [hx]
  · funext i
    obtain ⟨r, k, rfl⟩ : ∃ (r : Fin 8448) (k : Fin 2048), i = ix2 r k := ⟨i 0, i 1, funext fun a => by fin_cases a <;> rfl⟩
    by_cases h : r.val < 8192
    · exact if_pos h
    · refine (if_neg h).trans ?_
      refine Eq.trans ?_ (Ref.rest_result _ _ _ r (by omega) k).symm
      rw [A_eq]
      exact congrFun (V_main_v51_0 m c) (ix2 r k)

/-- The array of states. -/
theorem final11 (c : Dev nD) : (dats m 0 c).arrAt 11 cfg0.N
    = (RefRun.iter (F := Ideal) (m ((c : Thread nD τ).loc main_arg0)) 16).main_v61_8 := by
  refine (dats m 0 c).arrAt_eq_of_covers 11 _ (by decide +kernel) fun t hf y => ?_
  blk_simp
  rw [after0_11]
  have hx := idx t
  have l : t.val < 32 := t.isLt
  obtain ⟨o, p, d, e, rfl⟩ : ∃ (o : Fin 1) (p : Fin 2) (d : Fin 128) (e : Fin 256), y = ix4 o p d e :=
    ⟨y 0, y 1, y 2, y 3, funext fun a => by fin_cases a <;> rfl⟩
  obtain rfl : o = 0 := Subsingleton.elim _ _
  refine (state_point m c t ((flush0_11 t).mp hf) p d e ⟨t.val % 8 / 2, by omega⟩ ⟨t.val / 8 * 2 + p.val, by omega⟩ rfl rfl).trans ?_
  refine congrArg (RefRun.iter (F := Ideal) (m ((c : Thread nD τ).loc main_arg0)) 16).main_v61_8 ?_
  blk_ext [hx]

end Retention.Block

end
-- ==== Proof.Staging.lean ====
/- Weights that a kernel brings in column by column: one column is copied while the last one is used, and the one in use is
   kept apart. What holds between the points, and what a point that starts a column takes from it and gives back, whatever
   the kernel. The array the columns are copied from is lent in two halves of a share, one for even columns and one for odd
   ones, since one copy is waited for and the next one started at the same point. -/
module

public import Idealize.ShloMosaic.Lib.Pipeline.FrameBody
public import Idealize.ShloMosaic.Lib.Tactic
public import Idealize.ShloMosaic.Lib.VecWindow

@[expose] public section

noncomputable section

namespace Staging

open Idealize.ShloMosaic
open Idealize.SL Idealize.SL.RA Idealize.SL.BI
open scoped Idealize.SL.BI
open Idealize.SL.BI.BIBase Idealize.SL.BI.Laws Idealize.SL.ProofMode

/-- A whole load of what a copy brought last. -/
theorem load_landed {sig : RefSig} {Val : EltTy → Type} [∀ e, Nonempty (Val e)] {κ : Kind} {sp : Space} {s : Shape} {e : EltTy} (v : View sig κ sp s e)
    {off : Fin s.rank → ℕ} (inb : ∀ a, off a + s.size a ≤ s.size a) (w : s.Idx → Val e) (L : List (View.Piece Val s e)) :
    v.readCov (⟨Rect.whole s, w⟩ :: L) (Rect.unit off s.size inb).toLoadRect = w := by
  unfold View.readCov
  rw [View.readAt_full]
  funext y
  have h := View.read_writes_cons_emb v v.junk (Rect.whole s) w L y
  rwa [Rect.emb_whole_apply] at h

/-- The half of the share that column `k`'s copy is lent. -/
def half (k : ℕ) : PosShare TreeShare := if k % 2 = 0 then fullShare.left else fullShare.right

theorem half_two (k : ℕ) : half (k + 1 + 1) = half k := by
  unfold half; rw [show (k + 1 + 1) % 2 = k % 2 by omega]

/-- What is owned of one array of weights: the buffer its columns are copied to and the copies' semaphore, the scratch in
    which a column is kept, at anything or at a column's entries, a copy in flight, and at a share a column of the array,
    the rest of it and the whole. -/
structure Parts (M : Type) [URA M] where
  buffer : sProp M
  cell : sProp M
  scratch : sProp M
  kept : ℕ → sProp M
  flight : PosShare TreeShare → ℕ → sProp M
  column : PosShare TreeShare → ℕ → sProp M
  rest : PosShare TreeShare → ℕ → sProp M
  whole : PosShare TreeShare → sProp M
  split : ∀ q k, whole q ⊣⊢ iprop(column q k ∗ rest q k)
  forget : ∀ k, kept k ⊢ scratch

variable {M : Type} [URA M] (P : Parts M)

/-- Nothing in flight. -/
def idle (k : ℕ) : sProp M := iprop(P.buffer ∗ P.cell ∗ P.whole (half k) ∗ P.whole (half (k + 1)))

/-- Column `k` in flight. -/
def flying (k : ℕ) : sProp M := iprop(P.flight (half k) k ∗ P.rest (half k) k ∗ P.whole (half (k + 1)))

/-- Of `n` columns `k` have been started and waited for: the last of them is kept, and the next is in flight if there is one. -/
def between (n : ℕ) : ℕ → sProp M
  | 0 => iprop(P.scratch ∗ idle P 0)
  | k + 1 => iprop(P.kept k ∗ if k + 1 < n then flying P (k + 1) else idle P (k + 1))

theorem between_flying (n k : ℕ) (h : k + 1 < n) : between P n (k + 1) = iprop(P.kept k ∗ flying P (k + 1)) := by
  show iprop(P.kept k ∗ if k + 1 < n then flying P (k + 1) else idle P (k + 1)) = _
  rw [if_pos h]
theorem between_idle (k : ℕ) : between P (k + 1) (k + 1) = iprop(P.kept k ∗ idle P (k + 1)) := by
  show iprop(P.kept k ∗ if k + 1 < k + 1 then flying P (k + 1) else idle P (k + 1)) = _
  rw [if_neg (Nat.lt_irrefl _)]

/-- A point that starts no column. -/
theorem later (n k : ℕ) : between P n (k + 1) ⊢ iprop(P.kept k ∗ (P.kept k -∗ between P n (k + 1))) := by
  unfold between
  iintro ⟨HK, HB⟩
  isplitl [HK]; · iexact HK
  iintro HK
  isplitl [HK]; · iexact HK
  iexact HB

/-- The first column. -/
theorem first (n : ℕ) (h : 1 < n) : between P n 0 ⊢ iprop(P.scratch ∗ P.buffer ∗ P.cell ∗ P.column (half 0) 0 ∗ P.column (half 1) 1
    ∗ (iprop(P.kept 0 ∗ P.column (half 0) 0 ∗ P.flight (half 1) 1) -∗ between P n 1)) := by
  rw [between_flying P n 0 h, show between P n 0 = iprop(P.scratch ∗ idle P 0) from rfl]
  unfold idle flying
  iintro ⟨HK, HS, HC, HL, HR⟩
  ihave HL' := (P.split (half 0) 0).1 $$ HL
  icases HL' with ⟨HL, HL'⟩
  ihave HR' := (P.split (half (0 + 1)) (0 + 1)).1 $$ HR
  icases HR' with ⟨HR, HR'⟩
  isplitl [HK]; · iexact HK
  isplitl [HS]; · iexact HS
  isplitl [HC]; · iexact HC
  isplitl [HL]; · iexact HL
  isplitl [HR]; · iexact HR
  iintro ⟨HK, HL, HF⟩
  isplitl [HK]; · iexact HK
  isplitl [HF]; · iexact HF
  isplitl [HR']; · iexact HR'
  rw [half_two]
  iapply (P.split (half 0) 0).2
  isplitl [HL]; · iexact HL
  iexact HL'

/-- A column that is neither the first nor the last. -/
theorem next (n k : ℕ) (h : k + 1 + 1 < n) : between P n (k + 1) ⊢ iprop(P.scratch ∗ P.flight (half (k + 1)) (k + 1) ∗ P.column (half (k + 1 + 1)) (k + 1 + 1)
    ∗ (iprop(P.kept (k + 1) ∗ P.column (half (k + 1)) (k + 1) ∗ P.flight (half (k + 1 + 1)) (k + 1 + 1)) -∗ between P n (k + 1 + 1))) := by
  rw [between_flying P n k (by omega), between_flying P n (k + 1) h]
  unfold flying
  iintro ⟨HK, HF, HL', HR⟩
  ihave HR' := (P.split (half (k + 1 + 1)) (k + 1 + 1)).1 $$ HR
  icases HR' with ⟨HR, HR'⟩
  isplitl [HK]
  · iapply (P.forget k); iexact HK
  isplitl [HF]; · iexact HF
  isplitl [HR]; · iexact HR
  iintro ⟨HK, HL, HF⟩
  isplitl [HK]; · iexact HK
  isplitl [HF]; · iexact HF
  isplitl [HR']; · iexact HR'
  rw [half_two (k + 1)]
  iapply (P.split (half (k + 1)) (k + 1)).2
  isplitl [HL]; · iexact HL
  iexact HL'

/-- The last column. -/
theorem last (k : ℕ) : between P (k + 1 + 1) (k + 1) ⊢ iprop(P.scratch ∗ P.flight (half (k + 1)) (k + 1)
    ∗ (iprop(P.kept (k + 1) ∗ P.column (half (k + 1)) (k + 1) ∗ P.buffer ∗ P.cell) -∗ between P (k + 1 + 1) (k + 1 + 1))) := by
  rw [between_flying P _ k (by omega), between_idle P (k + 1)]
  unfold flying idle
  iintro ⟨HK, HF, HL', HR⟩
  isplitl [HK]
  · iapply (P.forget k); iexact HK
  isplitl [HF]; · iexact HF
  iintro ⟨HK, HL, HS, HC⟩
  isplitl [HK]; · iexact HK
  isplitl [HS]; · iexact HS
  isplitl [HC]; · iexact HC
  isplitl [HR]; · iexact HR
  rw [half_two (k + 1)]
  iapply (P.split (half (k + 1)) (k + 1)).2
  isplitl [HL]; · iexact HL
  iexact HL'

/-- Before the first point, -/
theorem start (n : ℕ) : iprop(P.scratch ∗ P.buffer ∗ P.cell ∗ P.whole fullShare.left ∗ P.whole fullShare.right) ⊢ between P n 0 := .rfl

/-- and after the last. -/
theorem finish (k : ℕ) (h : k % 2 = 1) : between P (k + 1) (k + 1) ⊢ iprop(P.scratch ∗ P.buffer ∗ P.cell ∗ P.whole fullShare.left ∗ P.whole fullShare.right) := by
  rw [between_idle]
  unfold idle half
  rw [if_pos (by omega), if_neg (by omega)]
  iintro ⟨HK, HB⟩
  isplitl [HK]
  · iapply (P.forget k); iexact HK
  iexact HB

/-! ## A point of a kernel, from its body -/

section Points
variable {M : Type} [URA M] (P : Parts M) (n k : ℕ) {G L O O' K X : sProp M}

/-- At a point that does not start a column. -/
theorem run_later (B : iprop(G ∗ P.kept k ∗ O ∗ (iprop(L ∗ P.kept k ∗ O') -∗ K)) ⊢ X) :
    iprop(G ∗ between P n (k + 1) ∗ O ∗ (iprop(L ∗ between P n (k + 1) ∗ O') -∗ K)) ⊢ X := by
  refine .trans ?_ B
  iintro ⟨HG, HB, HO, Hk⟩
  ihave HB' := (later P n k) $$ HB
  icases HB' with ⟨HS, Hback⟩
  isplitl [HG]; · iexact HG
  isplitl [HS]; · iexact HS
  isplitl [HO]; · iexact HO
  iintro ⟨HL, HK, HO⟩
  iapply Hk
  isplitl [HL]; · iexact HL
  isplitl [Hback HK]
  · iapply Hback; iexact HK
  iexact HO

/-- At the first. -/
theorem run_first (h : 1 < n)
    (B : iprop(G ∗ P.scratch ∗ P.buffer ∗ P.cell ∗ P.column (half 0) 0 ∗ P.column (half 1) 1 ∗ O
      ∗ (iprop(L ∗ P.kept 0 ∗ P.column (half 0) 0 ∗ P.flight (half 1) 1 ∗ O') -∗ K)) ⊢ X) :
    iprop(G ∗ between P n 0 ∗ O ∗ (iprop(L ∗ between P n 1 ∗ O') -∗ K)) ⊢ X := by
  refine .trans ?_ B
  iintro ⟨HG, HB, HO, Hk⟩
  ihave HB' := (first P n h) $$ HB
  icases HB' with ⟨HS, HU, HC, HL, HR, Hback⟩
  isplitl [HG]; · iexact HG
  isplitl [HS]; · iexact HS
  isplitl [HU]; · iexact HU
  isplitl [HC]; · iexact HC
  isplitl [HL]; · iexact HL
  isplitl [HR]; · iexact HR
  isplitl [HO]; · iexact HO
  iintro ⟨HG, HK, HL, HF, HO⟩
  iapply Hk
  isplitl [HG]; · iexact HG
  isplitl [Hback HK HL HF]
  · iapply Hback
    isplitl [HK]; · iexact HK
    isplitl [HL]; · iexact HL
    iexact HF
  iexact HO

/-- At one that starts a column, neither the first nor the last. -/
theorem run_next (h : k + 1 + 1 < n)
    (B : iprop(G ∗ P.scratch ∗ P.flight (half (k + 1)) (k + 1) ∗ P.column (half (k + 1 + 1)) (k + 1 + 1) ∗ O
      ∗ (iprop(L ∗ P.kept (k + 1) ∗ P.column (half (k + 1)) (k + 1) ∗ P.flight (half (k + 1 + 1)) (k + 1 + 1) ∗ O') -∗ K)) ⊢ X) :
    iprop(G ∗ between P n (k + 1) ∗ O ∗ (iprop(L ∗ between P n (k + 1 + 1) ∗ O') -∗ K)) ⊢ X := by
  refine .trans ?_ B
  iintro ⟨HG, HB, HO, Hk⟩
  ihave HB' := (next P n k h) $$ HB
  icases HB' with ⟨HS, HF, HR, Hback⟩
  isplitl [HG]; · iexact HG
  isplitl [HS]; · iexact HS
  isplitl [HF]; · iexact HF
  isplitl [HR]; · iexact HR
  isplitl [HO]; · iexact HO
  iintro ⟨HG, HK, HL, HF, HO⟩
  iapply Hk
  isplitl [HG]; · iexact HG
  isplitl [Hback HK HL HF]
  · iapply Hback
    isplitl [HK]; · iexact HK
    isplitl [HL]; · iexact HL
    iexact HF
  iexact HO

/-- At the one that starts the last column. -/
theorem run_last
    (B : iprop(G ∗ P.scratch ∗ P.flight (half (k + 1)) (k + 1) ∗ O
      ∗ (iprop(L ∗ P.kept (k + 1) ∗ P.column (half (k + 1)) (k + 1) ∗ P.buffer ∗ P.cell ∗ O') -∗ K)) ⊢ X) :
    iprop(G ∗ between P (k + 1 + 1) (k + 1) ∗ O ∗ (iprop(L ∗ between P (k + 1 + 1) (k + 1 + 1) ∗ O') -∗ K)) ⊢ X := by
  refine .trans ?_ B
  iintro ⟨HG, HB, HO, Hk⟩
  ihave HB' := (last P k) $$ HB
  icases HB' with ⟨HS, HF, Hback⟩
  isplitl [HG]; · iexact HG
  isplitl [HS]; · iexact HS
  isplitl [HF]; · iexact HF
  isplitl [HO]; · iexact HO
  iintro ⟨HG, HK, HL, HS, HC, HO⟩
  iapply Hk
  isplitl [HG]; · iexact HG
  isplitl [Hback HK HL HS HC]
  · iapply Hback
    isplitl [HK]; · iexact HK
    isplitl [HL]; · iexact HL
    isplitl [HS]; · iexact HS
    iexact HC
  iexact HO

end Points

/-- Two arrays brought in side by side, each in its own buffer and by its own semaphore. -/
abbrev both {M : Type} [URA M] (P Q : Parts M) : Parts M where
  buffer := iprop(P.buffer ∗ Q.buffer)
  cell := iprop(P.cell ∗ Q.cell)
  scratch := iprop(P.scratch ∗ Q.scratch)
  kept k := iprop(P.kept k ∗ Q.kept k)
  flight q k := iprop(P.flight q k ∗ Q.flight q k)
  column q k := iprop(P.column q k ∗ Q.column q k)
  rest q k := iprop(P.rest q k ∗ Q.rest q k)
  whole q := iprop(P.whole q ∗ Q.whole q)
  split q k := by
    constructor
    · iintro ⟨HP, HQ⟩
      ihave HP' := (P.split q k).1 $$ HP
      icases HP' with ⟨HP, HP'⟩
      ihave HQ' := (Q.split q k).1 $$ HQ
      icases HQ' with ⟨HQ, HQ'⟩
      isplitl [HP HQ]
      · isplitl [HP]; · iexact HP
        iexact HQ
      isplitl [HP']; · iexact HP'
      iexact HQ'
    · iintro ⟨⟨HP, HQ⟩, HP', HQ'⟩
      isplitl [HP HP']
      · iapply (P.split q k).2
        isplitl [HP]; · iexact HP
        iexact HP'
      · iapply (Q.split q k).2
        isplitl [HQ]; · iexact HQ
        iexact HQ'
  forget k := by
    iintro ⟨HP, HQ⟩
    isplitl [HP]
    · iapply (P.forget k); iexact HP
    · iapply (Q.forget k); iexact HQ

end Staging

end
-- ==== Proof.InprojBody.lean ====
/- The input projection's body at one point of its grid, run from what the points before it left: the column of weights
   that is in flight, the column that is cast and kept, and the block of tokens. The weights stay where they are and are
   lent to the transfers in two halves of the share, one for each of two columns that follow one another. -/
module

public import proofs.«01_k».proof.Proof.Gen.Kernel2Ideal.Frame
public import proofs.«01_k».proof.Proof.Gen.Kernel2Ideal.Skeleton
public import proofs.«01_k».proof.Proof.Staging
public import Idealize.ShloMosaic.Lib.VecWindow

@[expose] public section

set_option maxRecDepth 16384

noncomputable section

namespace Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-! ## Where a point is: its column starts, its column is the first, a column is left to start -/

abbrev Starts (i : grid0.Coords) : Prop := k0_cond1 i = 1#1
abbrev First (i : grid0.Coords) : Prop :=
  Scalar.cmpi .ne (Scalar.extui (Scalar.cmpi .eq (BitVec.ofNat 32 (i 0).val) 0#32)) 0#32 = 1#1
abbrev More (i : grid0.Coords) : Prop := k0_cond3 i = 1#1

theorem starts_iff : ∀ t : Fin cfg0.N, Starts (grid0.coords t) ↔ t.val % 8 = 0 :=
  (by decide +kernel : ∀ t : Fin grid0.N, Starts (grid0.coords t) ↔ t.val % 8 = 0)
theorem first_iff : ∀ t : Fin cfg0.N, First (grid0.coords t) ↔ t.val < 8 :=
  (by decide +kernel : ∀ t : Fin grid0.N, First (grid0.coords t) ↔ t.val < 8)
theorem more_iff : ∀ t : Fin cfg0.N, More (grid0.coords t) ↔ t.val < 240 :=
  (by decide +kernel : ∀ t : Fin grid0.N, More (grid0.coords t) ↔ t.val < 240)

/-! ## The columns of the weights, and what holds them -/

def col (k : ℕ) : Fin 31 := ⟨k % 31, Nat.mod_lt _ (by decide)⟩

abbrev weights : Memref sig .tc .hbm S4x4096x31744 .f32 := Memref.whole main_arg1
abbrev slot : Memref sig .tc .vmem S4096x1024 .f32 := Memref.whole cc0_scratch0
abbrev kept : Memref sig .tc .vmem S4096x1024 .bf16 := Memref.whole cc0_scratch1

theorem inb_col (b : Fin 31) : ∀ a, (![0, 0, 1024 * b.val] : Fin 3 → Nat) a + S1x4096x1024.size a ≤ S4x4096x31744.size a := by
  have := b.isLt; intro a; fin_cases a <;> simp <;> omega

/-- Column `b` of the weights, as the transfers name it. -/
def column (b : Fin 31) : Memref sig .tc .hbm S4096x1024 .f32 :=
  (weights.slice (Rect.unit (s := S4x4096x31744) ![0, 0, 1024 * b.val] S1x4096x1024.size (inb_col b)) (fun _ => rfl)).squeeze
    S4096x1024 squeezes_S1x4096x1024_S4096x1024

abbrev Held (c : Dev nD) {sp : Space} {S : Shape} {e : EltTy} (M : Memref sig .tc sp S e) : Type := Buf (Elt F) (M.view.loc (c : Thread nD τ))

variable (c : Dev nD) (W : Held (F := F) c weights)

/-- The entries of column `b`. -/
def entries (b : Fin 31) : Vec F S4096x1024 .f32 := (column b).view.read (Elt F) W

abbrev slotAt (f : Held (F := F) c slot) : sProp 𝕄 := slot.view.loc (c : Thread nD τ) ↦[slot.view.set]{fullShare} f
abbrev cellAt : sProp 𝕄 := semVal ((c : Thread nD τ), SemLoc.dma 4) 0
abbrev colAt (q : PosShare TreeShare) (b : Fin 31) : sProp 𝕄 := (column b).view.loc (c : Thread nD τ) ↦[(column b).view.set]{q} W
def restAt (q : PosShare TreeShare) (b : Fin 31) : sProp 𝕄 := ((c : Thread nD τ).loc main_arg1) ↦[Finset.univ \ (column b).view.set]{q} W
abbrev wholeAt (q : PosShare TreeShare) : sProp 𝕄 := ((c : Thread nD τ).loc main_arg1) ↦[Finset.univ]{q} W
abbrev landed (b : Fin 31) (f : Held (F := F) c slot) : Held (F := F) c slot :=
  slot.view.writes (Elt F) f [⟨Rect.whole S4096x1024, ReadAs.same.apply ((column b).view.read (Elt F) W)⟩]
abbrev flight (q : PosShare TreeShare) (b : Fin 31) (f : Held (F := F) c slot) : sProp 𝕄 :=
  Transfers.Flight countersEmb (c : Thread nD τ) (SemLoc.dma 4) default (slot.view.amount (SemLoc.dma (sig := sig) 4))
    iprop(slotAt c (landed c W b f) ∗ colAt c W q b)

theorem column_split (q : PosShare TreeShare) (b : Fin 31) : wholeAt c W q ⊣⊢ iprop(colAt c W q b ∗ restAt c W q b) := by
  unfold restAt; exact pointsTo_split_subset (Finset.subset_univ _)

theorem halves : (((c : Thread nD τ).loc main_arg1) ↦{fullShare} W : sProp 𝕄)
    ⊣⊢ iprop(wholeAt c W fullShare.left ∗ wholeAt c W fullShare.right) :=
  pointsTo_share (PosShare.mem_left_op_right fullShare)

section Canon
omit [FloatOps F]

theorem off_first : ∀ t : Fin grid0.N, Starts (grid0.coords t) → First (grid0.coords t) → (![0, 0, 0] : Fin 3 → Nat) = ![0, 0, 1024 * (col (t.val / 8)).val] := by
  decide +kernel
theorem off_this : ∀ t : Fin grid0.N, Starts (grid0.coords t) → k0_off1 (grid0.coords t) = ![0, 0, 1024 * (col (t.val / 8)).val] := by
  decide +kernel
theorem off_next : ∀ t : Fin grid0.N, Starts (grid0.coords t) → More (grid0.coords t) → k0_off2 (grid0.coords t) = ![0, 0, 1024 * (col (t.val / 8 + 1)).val] := by
  decide +kernel

@[sl_canon] theorem canon_first (t : Fin grid0.N) (h0 : Starts (grid0.coords t)) (h1 : First (grid0.coords t)) :
    (weights.slice (Rect.unit (s := S4x4096x31744) ![0, 0, 0] S1x4096x1024.size inb_S4x4096x31744_S1x4096x1024_0_0_0) (fun _ => rfl)).squeeze
      S4096x1024 squeezes_S1x4096x1024_S4096x1024 = column (col (t.val / 8)) :=
  congrArg (fun M : Memref sig .tc .hbm S1x4096x1024 .f32 => M.squeeze S4096x1024 squeezes_S1x4096x1024_S4096x1024)
    (Memref.slice_unit_congr _ (off_first t h0 h1) _ _ (fun _ => rfl) (fun _ => rfl))
@[sl_canon] theorem canon_this (t : Fin grid0.N) (h0 : Starts (grid0.coords t)) :
    (weights.slice (Rect.unit (s := S4x4096x31744) (k0_off1 (grid0.coords t)) S1x4096x1024.size (k0_off1_inb (grid0.coords t) h0)) (fun _ => rfl)).squeeze
      S4096x1024 squeezes_S1x4096x1024_S4096x1024 = column (col (t.val / 8)) :=
  congrArg (fun M : Memref sig .tc .hbm S1x4096x1024 .f32 => M.squeeze S4096x1024 squeezes_S1x4096x1024_S4096x1024)
    (Memref.slice_unit_congr _ (off_this t h0) _ _ (fun _ => rfl) (fun _ => rfl))
@[sl_canon] theorem canon_next (t : Fin grid0.N) (h0 : Starts (grid0.coords t)) (h2 : More (grid0.coords t)) :
    (weights.slice (Rect.unit (s := S4x4096x31744) (k0_off2 (grid0.coords t)) S1x4096x1024.size (k0_off2_inb (grid0.coords t) h0 h2)) (fun _ => rfl)).squeeze
      S4096x1024 squeezes_S1x4096x1024_S4096x1024 = column (col (t.val / 8 + 1)) :=
  congrArg (fun M : Memref sig .tc .hbm S1x4096x1024 .f32 => M.squeeze S4096x1024 squeezes_S1x4096x1024_S4096x1024)
    (Memref.slice_unit_congr _ (off_next t h0 h2) _ _ (fun _ => rfl) (fun _ => rfl))

end Canon

variable (t : Fin cfg0.N) (arg2 : Memref sig .tc .vmem S1056x4096 .bf16) (harg2 : arg2.IsWhole)
  (arg4 : Memref sig .tc .vmem S1056x1024 .f32) (harg4 : arg4.IsWhole) (x : Vec F S1056x4096 .bf16)

set_option maxHeartbeats 1000000 in
/-- At a point that does not start a column: the product of its tokens with the column kept. -/
theorem body_later (h0 : ¬Starts (grid0.coords t)) (w : Vec F S4096x1024 .bf16) (Wt : Waits sig Unit) (K : PUnit → sProp 𝕄) :
    iprop(owns (c : Thread nD τ) arg2 fullShare x ∗ (∃ d, owns (c : Thread nD τ) arg4 fullShare d)
        ∗ owns (c : Thread nD τ) kept fullShare w ∗ owes (c : Thread nD τ) 0 Wt
        ∗ (iprop(owns (c : Thread nD τ) arg2 fullShare x ∗ owns (c : Thread nD τ) arg4 fullShare (k0_pay2 x w)
            ∗ owns (c : Thread nD τ) kept fullShare w ∗ (∃ W', owes (c : Thread nD τ) 0 W')) -∗ K ⟨⟩))
      ⊢ wp frame (wpE (defs₀ (F := F)) Variants.none c none) Set.univ
          (cc0_inproj (grid0.coords t) arg2 harg2 weights (Memref.isWhole_whole _) arg4 harg4 slot (Memref.isWhole_whole _) kept (Memref.isWhole_whole _) cc0_scratch2) K := by
  haveI : Fact (¬Starts (grid0.coords t)) := ⟨h0⟩
  simp only [cc0_inproj_eq_skeleton]; unfold cc0_inproj_skel
  unfold owns
  iintro ⟨⟨%f0, %hf0, H0⟩, ⟨%d1, %f1, -, H1⟩, ⟨%f2, %hf2, H2⟩, HW, Hk⟩
  obtain rfl := harg2.eq_unread hf0
  obtain rfl := (Memref.isWhole_whole (sig := sig) cc0_scratch1).eq_unread hf2
  sl_exec (disch := sl_exact h0)
  sl_step
  iapply Hk
  isplitl [H0]
  · iexists _; isplitr; · ipureintro; exact harg2.read_unread _
    iexact H0
  isplitl [H1]
  · iexists _; isplitr; swap; · iexact H1
    ipureintro
    rw [View.read_writes_full, View.readAt_full, View.readAt_full, hf0, hf2]
  isplitl [H2]
  · iexists _; isplitr; · ipureintro; exact (Memref.isWhole_whole (sig := sig) cc0_scratch1).read_unread _
    iexact H2
  iexists _; iexact HW

set_option maxHeartbeats 1000000 in
/-- At one that starts a column and is neither in the first nor in the last: the column in flight lands and is kept, and the next one is started. -/
theorem body_next (h0 : Starts (grid0.coords t)) (h1 : ¬First (grid0.coords t)) (h2 : More (grid0.coords t)) (q q' : PosShare TreeShare) (f : Held (F := F) c slot) (Wt : Waits sig Unit) (K : PUnit → sProp 𝕄) :
    iprop(owns (c : Thread nD τ) arg2 fullShare x ∗ (∃ d, owns (c : Thread nD τ) arg4 fullShare d)
        ∗ (∃ d, owns (c : Thread nD τ) kept fullShare d) ∗ flight c W q (col (t.val / 8)) f ∗ colAt c W q' (col (t.val / 8 + 1)) ∗ owes (c : Thread nD τ) 0 Wt
        ∗ (iprop(owns (c : Thread nD τ) arg2 fullShare x ∗ owns (c : Thread nD τ) arg4 fullShare (k0_pay2 x (k0_pay1 (entries c W (col (t.val / 8)))))
            ∗ owns (c : Thread nD τ) kept fullShare (k0_pay1 (entries c W (col (t.val / 8)))) ∗ colAt c W q (col (t.val / 8)) ∗ (∃ f, flight c W q' (col (t.val / 8 + 1)) f)
            ∗ (∃ W', owes (c : Thread nD τ) 0 W')) -∗ K ⟨⟩))
      ⊢ wp frame (wpE (defs₀ (F := F)) Variants.none c none) Set.univ
          (cc0_inproj (grid0.coords t) arg2 harg2 weights (Memref.isWhole_whole _) arg4 harg4 slot (Memref.isWhole_whole _) kept (Memref.isWhole_whole _) cc0_scratch2) K := by
  haveI : Fact (Starts (grid0.coords t)) := ⟨h0⟩
  haveI : Fact (¬First (grid0.coords t)) := ⟨h1⟩
  haveI : Fact (More (grid0.coords t)) := ⟨h2⟩
  simp only [cc0_inproj_eq_skeleton]; unfold cc0_inproj_skel
  unfold owns
  iintro ⟨⟨%f0, %hf0, H0⟩, ⟨%d1, %f1, -, H1⟩, ⟨%d2, %f2, -, H2⟩, HF, HC, HW, Hk⟩
  obtain rfl := harg2.eq_unread hf0
  sl_exec (disch := first | sl_exact h0 | sl_exact h1 | sl_exact h2)
  sl_step
  iapply Hk
  isplitl [H0]
  · iexists _; isplitr; · ipureintro; exact harg2.read_unread _
    iexact H0
  isplitl [H1]
  · iexists _; isplitr; swap; · iexact H1
    ipureintro
    rw [View.read_writes_full, View.readAt_full, hf0]
    unfold body_next.sl.v4 body_next.sl.H2_1 body_next.sl.v15
    rw [View.readCov_full, Staging.load_landed]; rfl
  isplitl [H2]
  · iexists _; isplitr; swap; · iexact H2
    ipureintro
    unfold body_next.sl.H2_1 body_next.sl.v15
    rw [View.read_writes_full, Staging.load_landed]; rfl
  isplitl [HF_src]; · iexact HF_src
  isplitl [HF]; · iexists _; iexact HF
  iexists _; iexact HW

set_option maxHeartbeats 1000000 in
/-- In the last column nothing is left to start. -/
theorem body_last (h0 : Starts (grid0.coords t)) (h1 : ¬First (grid0.coords t)) (h2 : ¬More (grid0.coords t)) (q : PosShare TreeShare) (f : Held (F := F) c slot) (Wt : Waits sig Unit) (K : PUnit → sProp 𝕄) :
    iprop(owns (c : Thread nD τ) arg2 fullShare x ∗ (∃ d, owns (c : Thread nD τ) arg4 fullShare d)
        ∗ (∃ d, owns (c : Thread nD τ) kept fullShare d) ∗ flight c W q (col (t.val / 8)) f ∗ owes (c : Thread nD τ) 0 Wt
        ∗ (iprop(owns (c : Thread nD τ) arg2 fullShare x ∗ owns (c : Thread nD τ) arg4 fullShare (k0_pay2 x (k0_pay1 (entries c W (col (t.val / 8)))))
            ∗ owns (c : Thread nD τ) kept fullShare (k0_pay1 (entries c W (col (t.val / 8)))) ∗ colAt c W q (col (t.val / 8)) ∗ (∃ f, slotAt c f) ∗ cellAt c
            ∗ (∃ W', owes (c : Thread nD τ) 0 W')) -∗ K ⟨⟩))
      ⊢ wp frame (wpE (defs₀ (F := F)) Variants.none c none) Set.univ
          (cc0_inproj (grid0.coords t) arg2 harg2 weights (Memref.isWhole_whole _) arg4 harg4 slot (Memref.isWhole_whole _) kept (Memref.isWhole_whole _) cc0_scratch2) K := by
  haveI : Fact (Starts (grid0.coords t)) := ⟨h0⟩
  haveI : Fact (¬First (grid0.coords t)) := ⟨h1⟩
  haveI : Fact (¬More (grid0.coords t)) := ⟨h2⟩
  simp only [cc0_inproj_eq_skeleton]; unfold cc0_inproj_skel
  unfold owns
  iintro ⟨⟨%f0, %hf0, H0⟩, ⟨%d1, %f1, -, H1⟩, ⟨%d2, %f2, -, H2⟩, HF, HW, Hk⟩
  obtain rfl := harg2.eq_unread hf0
  sl_exec (disch := first | sl_exact h0 | sl_exact h1 | sl_exact h2)
  sl_step
  iapply Hk
  isplitl [H0]
  · iexists _; isplitr; · ipureintro; exact harg2.read_unread _
    iexact H0
  isplitl [H1]
  · iexists _; isplitr; swap; · iexact H1
    ipureintro
    rw [View.read_writes_full, View.readAt_full, hf0]
    unfold body_last.sl.v4 body_last.sl.H2_1 body_last.sl.v15
    rw [View.readCov_full, Staging.load_landed]; rfl
  isplitl [H2]
  · iexists _; isplitr; swap; · iexact H2
    ipureintro
    unfold body_last.sl.H2_1 body_last.sl.v15
    rw [View.read_writes_full, Staging.load_landed]; rfl
  isplitl [HF_src]; · iexact HF_src
  isplitl [HF_dst]; · iexists _; iexact HF_dst
  isplitl [HF]; · iexact HF
  iexists _; iexact HW

set_option maxHeartbeats 1000000 in
/-- In the first nothing is in flight yet, and the point starts two. -/
theorem body_first (h0 : Starts (grid0.coords t)) (h1 : First (grid0.coords t)) (h2 : More (grid0.coords t)) (q q' : PosShare TreeShare) (f : Held (F := F) c slot) (Wt : Waits sig Unit) (K : PUnit → sProp 𝕄) :
    iprop(owns (c : Thread nD τ) arg2 fullShare x ∗ (∃ d, owns (c : Thread nD τ) arg4 fullShare d)
        ∗ (∃ d, owns (c : Thread nD τ) kept fullShare d) ∗ slotAt c f ∗ cellAt c ∗ colAt c W q (col (t.val / 8)) ∗ colAt c W q' (col (t.val / 8 + 1)) ∗ owes (c : Thread nD τ) 0 Wt
        ∗ (iprop(owns (c : Thread nD τ) arg2 fullShare x ∗ owns (c : Thread nD τ) arg4 fullShare (k0_pay2 x (k0_pay1 (entries c W (col (t.val / 8)))))
            ∗ owns (c : Thread nD τ) kept fullShare (k0_pay1 (entries c W (col (t.val / 8)))) ∗ colAt c W q (col (t.val / 8)) ∗ (∃ f, flight c W q' (col (t.val / 8 + 1)) f)
            ∗ (∃ W', owes (c : Thread nD τ) 0 W')) -∗ K ⟨⟩))
      ⊢ wp frame (wpE (defs₀ (F := F)) Variants.none c none) Set.univ
          (cc0_inproj (grid0.coords t) arg2 harg2 weights (Memref.isWhole_whole _) arg4 harg4 slot (Memref.isWhole_whole _) kept (Memref.isWhole_whole _) cc0_scratch2) K := by
  haveI : Fact (Starts (grid0.coords t)) := ⟨h0⟩
  haveI : Fact (First (grid0.coords t)) := ⟨h1⟩
  haveI : Fact (More (grid0.coords t)) := ⟨h2⟩
  simp only [cc0_inproj_eq_skeleton]; unfold cc0_inproj_skel
  unfold owns
  iintro ⟨⟨%f0, %hf0, H0⟩, ⟨%d1, %f1, -, H1⟩, ⟨%d2, %f2, -, H2⟩, HS, HF, HC, HD, HW, Hk⟩
  obtain rfl := harg2.eq_unread hf0
  sl_exec (disch := first | sl_exact h0 | sl_exact h1 | sl_exact h2)
  sl_step
  iapply Hk
  isplitl [H0]
  · iexists _; isplitr; · ipureintro; exact harg2.read_unread _
    iexact H0
  isplitl [H1]
  · iexists _; isplitr; swap; · iexact H1
    ipureintro
    rw [View.read_writes_full, View.readAt_full, hf0]
    unfold body_first.sl.v4 body_first.sl.H2_1 body_first.sl.v15
    rw [View.readCov_full, Staging.load_landed]; rfl
  isplitl [H2]
  · iexists _; isplitr; swap; · iexact H2
    ipureintro
    unfold body_first.sl.H2_1 body_first.sl.v15
    rw [View.read_writes_full, Staging.load_landed]; rfl
  isplitl [HC]; · iexact HC
  isplitl [HF]; · iexists _; iexact HF
  iexists _; iexact HW

end Inproj

end
-- ==== Proof.InprojRun.lean ====
/- The run of the input projection: what holds between the points of its grid, and the kernel run from end to end. Written
   once, for any float values. -/
module

public import proofs.«01_k».proof.Proof.InprojBody
public import Idealize.ShloMosaic.Lib.Claim

@[expose] public section

set_option maxRecDepth 16384

noncomputable section

namespace Inproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-! ## Between two points -/

/-- The half of the share that column `k`'s transfer is lent. -/
def half (k : ℕ) : PosShare TreeShare := if k % 2 = 0 then fullShare.left else fullShare.right

theorem half_two (k : ℕ) : half (k + 1 + 1) = half k := by
  unfold half; rw [show (k + 1 + 1) % 2 = k % 2 by omega]

section Between
variable (c : Dev nD) (W : Held (F := F) c weights)

/-- Nothing in flight, the weights whole. -/
def idle (k : ℕ) : sProp 𝕄 := iprop((∃ f, slotAt c f) ∗ cellAt c ∗ wholeAt c W (half k) ∗ wholeAt c W (half (k + 1)))

/-- Column `k` in flight. -/
def flying (k : ℕ) : sProp 𝕄 :=
  iprop((∃ f, flight c W (half k) (col k) f) ∗ restAt c W (half k) (col k) ∗ wholeAt c W (half (k + 1)))

/-- Once `k` columns have been started and waited for: the last of them is kept, and the next is in flight if there is one. -/
def between (k : ℕ) : sProp 𝕄 :=
  if k = 0 then iprop((∃ d, owns (c : Thread nD τ) kept fullShare d) ∗ idle c W 0)
  else iprop(owns (c : Thread nD τ) kept fullShare (k0_pay1 (entries c W (col (k - 1)))) ∗ if k < 31 then flying c W k else idle c W k)

theorem between_zero : between c W 0 = iprop((∃ d, owns (c : Thread nD τ) kept fullShare d) ∗ idle c W 0) := if_pos rfl
theorem between_next (k : ℕ) (h : k + 1 < 31) :
    between c W (k + 1) = iprop(owns (c : Thread nD τ) kept fullShare (k0_pay1 (entries c W (col k))) ∗ flying c W (k + 1)) := by
  unfold between; rw [if_neg (Nat.succ_ne_zero k), if_pos h, Nat.add_sub_cancel]
theorem between_end : between c W 31 = iprop(owns (c : Thread nD τ) kept fullShare (k0_pay1 (entries c W (col 30))) ∗ idle c W 31) := by
  unfold between; rw [if_neg (by decide), if_neg (by decide)]

end Between

/-! ## The pipeline's data -/

variable (m : (ℓ : Loc nD τ sig) → Buf (Elt F) ℓ) (ρ : Dev nD → PrngReg)

/-- What a point leaves of the result: its tokens by its column of the weights. -/
def product (c : Dev nD) (t : Fin cfg0.N) : Vec F S1056x1024 .f32 :=
  k0_pay2 (iblk m c 0 t) (k0_pay1 (entries c (V m c main_arg1) (col (t.val / 8))))

def invariant (c : Dev nD) (p : ℕ) : sProp 𝕄 := iprop((∃ r, prngReg c r) ∗ between c (V m c main_arg1) ((p + 7) / 8))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => product m c t
  Φ t := invariant m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = product m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)

/-! ## The body at any point -/

abbrev tokens (t : Fin cfg0.N) : Memref sig .tc .vmem S1056x4096 .bf16 := win0_0.stage (cfg0.slots t 0)
abbrev result (t : Fin cfg0.N) : Memref sig .tc .vmem S1056x1024 .f32 := win0_1.stage (cfg0.slots t 1)

def bodyPre (c : Dev nD) (t : Fin cfg0.N) : sProp 𝕄 :=
  iprop((dats m 0 c).Φ t.castSucc ∗ (dats m 0 c).owesAt () t.castSucc
    ∗ (∃ d, owns (c : Thread nD τ) (tokens t) fullShare ((dats m 0 c).before 0 t d))
    ∗ (∃ d, owns (c : Thread nD τ) (result t) fullShare ((dats m 0 c).before 1 t d)))

def bodyPost (c : Dev nD) (t : Fin cfg0.N) : sProp 𝕄 :=
  iprop((dats m 0 c).Φ t.succ ∗ (dats m 0 c).owesAt () t.succ
    ∗ owns (c : Thread nD τ) (tokens t) fullShare ((dats m 0 c).after 0 t)
    ∗ owns (c : Thread nD τ) (result t) fullShare ((dats m 0 c).after 1 t))

/-- The invariant around a point's body, the rest of what the body is called with alongside. -/
theorem sound_of (c : Dev nD) (t : Fin cfg0.N)
    (run : ∀ (Wt : Waits sig Unit) (K : PUnit → sProp 𝕄),
      iprop(owns (c : Thread nD τ) (tokens t) fullShare (iblk m c 0 t) ∗ (∃ d, owns (c : Thread nD τ) (result t) fullShare d)
          ∗ between c (V m c main_arg1) ((t.val + 7) / 8) ∗ owes (c : Thread nD τ) 0 Wt
          ∗ (iprop(owns (c : Thread nD τ) (tokens t) fullShare (iblk m c 0 t) ∗ owns (c : Thread nD τ) (result t) fullShare (product m c t)
              ∗ between c (V m c main_arg1) ((t.val + 1 + 7) / 8) ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0]
  rw [after0, after1, show (dats m 0 c).Φ t.castSucc = invariant m c t.val from rfl,
    show (dats m 0 c).Φ t.succ = invariant m c (t.val + 1) from rfl]
  unfold Dat.owesAt Pipeline.owesWithin invariant
  rw [show (dats m 0 c).owed t.castSucc = 0 from rfl, show (dats m 0 c).owed t.succ = 0 from rfl]
  iintro ⟨⟨Hg, HB⟩, ⟨%Wt, -, HW⟩, ⟨%d0, H0⟩, ⟨%d1, H1⟩⟩
  iapply (run Wt _)
  isplitl [H0]; · iexact H0
  isplitl [H1]; · iexists _; iexact H1
  isplitl [HB]; · iexact HB
  isplitl [HW]; · iexact HW
  iintro ⟨H0, H1, HB, ⟨%W', HW'⟩⟩
  isplitl [Hg HB]
  · isplitl [Hg]; · iexact Hg
    iexact HB
  isplitl [HW']
  · iexists W'; isplitr; · ipureintro; exact fun _ _ => Or.inl trivial
    iexact HW'
  isplitl [H0]; · iexact H0
  iexact H1

set_option maxHeartbeats 1000000 in
theorem sound (c : Dev nD) (t : Fin cfg0.N) :
    bodyPre m c t ⊢ wp frame (wpE (defs₀ (F := F)) Variants.none c none) Set.univ (bodyAt0 t) (fun _ => bodyPost m c t) := by
  have hN : t.val < 248 := lt_of_lt_of_eq t.isLt N_0
  obtain ⟨k, hk⟩ : ∃ k, k = t.val / 8 := ⟨_, rfl⟩
  by_cases h0 : t.val % 8 = 0
  · have c0 := (starts_iff t).mpr h0
    by_cases h1 : t.val < 8
    · have c1 := (first_iff t).mpr h1
      have c2 := (more_iff t).mpr (by omega)
      refine sound_of m c t fun Wt K => ?_
      rw [show (t.val + 7) / 8 = 0 by omega, show (t.val + 1 + 7) / 8 = 0 + 1 by omega, between_zero, between_next _ _ 0 (by decide)]
      have B := fun f => body_first c (V m c main_arg1) t (tokens t) (hstage0_0 ((cfg0.slots t 0).cast nbuf0_0)) (result t) (hstage0_1 ((cfg0.slots t 1).cast nbuf0_1)) (iblk m c 0 t) c0 c1 c2 (half 0) (half 1) f Wt K
      unfold product
      rw [show t.val / 8 = 0 by omega] at B ⊢
      unfold idle flying
      iintro ⟨H0, H1, ⟨H2, ⟨%f, HS⟩, HC, HL, HR⟩, HW, Hk⟩
      ihave HL' := (column_split c (V m c main_arg1) (half 0) (col 0)).1 $$ HL
      icases HL' with ⟨HL, HL'⟩
      ihave HR' := (column_split c (V m c main_arg1) (half (0 + 1)) (col (0 + 1))).1 $$ HR
      icases HR' with ⟨HR, HR'⟩
      iapply (B f)
      isplitl [H0]; · iexact H0
      isplitl [H1]; · iexact H1
      isplitl [H2]; · iexact H2
      isplitl [HS]; · iexact HS
      isplitl [HC]; · iexact HC
      isplitl [HL]; · iexact HL
      isplitl [HR]; · iexact HR
      isplitl [HW]; · iexact HW
      iintro ⟨H0, H1, H2, HL, HF, HW⟩
      iapply Hk
      isplitl [H0]; · iexact H0
      isplitl [H1]; · iexact H1
      isplitl [H2 HF HR' HL HL']
      · isplitl [H2]; · iexact H2
        isplitl [HF]; · iexact HF
        isplitl [HR']; · iexact HR'
        rw [half_two]
        iapply (column_split c (V m c main_arg1) (half 0) (col 0)).2
        isplitl [HL]; · iexact HL
        iexact HL'
      iexact HW
    · have c1 := fun h => h1 ((first_iff t).mp h)
      by_cases h2 : t.val < 240
      · have c2 := (more_iff t).mpr h2
        refine sound_of m c t fun Wt K => ?_
        obtain ⟨j, hj⟩ : ∃ j, t.val / 8 = j + 1 := ⟨t.val / 8 - 1, by omega⟩
        rw [show (t.val + 7) / 8 = j + 1 by omega, show (t.val + 1 + 7) / 8 = j + 1 + 1 by omega, between_next _ _ j (by omega), between_next _ _ (j + 1) (by omega)]
        have B := fun f => body_next c (V m c main_arg1) t (tokens t) (hstage0_0 ((cfg0.slots t 0).cast nbuf0_0)) (result t) (hstage0_1 ((cfg0.slots t 1).cast nbuf0_1)) (iblk m c 0 t) c0 c1 c2 (half (j + 1)) (half (j + 1 + 1)) f Wt K
        unfold product
        rw [hj] at B ⊢
        unfold flying
        iintro ⟨H0, H1, ⟨H2, ⟨%f, HF⟩, HL', HR⟩, HW, Hk⟩
        ihave HR' := (column_split c (V m c main_arg1) (half (j + 1 + 1)) (col (j + 1 + 1))).1 $$ HR
        icases HR' with ⟨HR, HR'⟩
        iapply (B f)
        isplitl [H0]; · iexact H0
        isplitl [H1]; · iexact H1
        isplitl [H2]; · iexists _; iexact H2
        isplitl [HF]; · iexact HF
        isplitl [HR]; · iexact HR
        isplitl [HW]; · iexact HW
        iintro ⟨H0, H1, H2, HL, HF, HW⟩
        iapply Hk
        isplitl [H0]; · iexact H0
        isplitl [H1]; · iexact H1
        isplitl [H2 HF HR' HL HL']
        · isplitl [H2]; · iexact H2
          isplitl [HF]; · iexact HF
          isplitl [HR']; · iexact HR'
          rw [half_two (j + 1)]
          iapply (column_split c (V m c main_arg1) (half (j + 1)) (col (j + 1))).2
          isplitl [HL]; · iexact HL
          iexact HL'
        iexact HW
      · have c2 := fun h => h2 ((more_iff t).mp h)
        refine sound_of m c t fun Wt K => ?_
        have hj : t.val / 8 = 30 := by omega
        rw [show (t.val + 7) / 8 = 29 + 1 by omega, show (t.val + 1 + 7) / 8 = 31 by omega, between_next _ _ 29 (by omega), between_end]
        have B := fun f => body_last c (V m c main_arg1) t (tokens t) (hstage0_0 ((cfg0.slots t 0).cast nbuf0_0)) (result t) (hstage0_1 ((cfg0.slots t 1).cast nbuf0_1)) (iblk m c 0 t) c0 c1 c2 (half 30) f Wt K
        unfold product
        rw [hj] at B ⊢
        unfold flying idle
        iintro ⟨H0, H1, ⟨H2, ⟨%f, HF⟩, HL', HR⟩, HW, Hk⟩
        iapply (B f)
        isplitl [H0]; · iexact H0
        isplitl [H1]; · iexact H1
        isplitl [H2]; · iexists _; iexact H2
        isplitl [HF]; · iexact HF
        isplitl [HW]; · iexact HW
        iintro ⟨H0, H1, H2, HL, HS, HC, HW⟩
        iapply Hk
        isplitl [H0]; · iexact H0
        isplitl [H1]; · iexact H1
        isplitl [H2 HS HC HR HL HL']
        · isplitl [H2]; · iexact H2
          isplitl [HS]; · iexact HS
          isplitl [HC]; · iexact HC
          isplitl [HR]; · iexact HR
          rw [half_two 30]
          iapply (column_split c (V m c main_arg1) (half 30) (col 30)).2
          isplitl [HL]; · iexact HL
          iexact HL'
        iexact HW
  · have c0 := fun h => h0 ((starts_iff t).mp h)
    refine sound_of m c t fun Wt K => ?_
    obtain ⟨e, e'⟩ : (t.val + 7) / 8 = k + 1 ∧ (t.val + 1 + 7) / 8 = k + 1 := ⟨by omega, by omega⟩
    rw [e, e']
    unfold between product
    rw [if_neg (Nat.succ_ne_zero k), Nat.add_sub_cancel, hk]
    iintro ⟨H0, H1, ⟨H2, HB⟩, HW, Hk⟩
    iapply (body_later c t _ _ _ _ _ c0 _ Wt _)
    isplitl [H0]; · iexact H0
    isplitl [H1]; · iexact H1
    isplitl [H2]; · iexact H2
    isplitl [HW]; · iexact HW
    iintro ⟨H0, H1, H2, HW⟩
    iapply Hk
    isplitl [H0]; · iexact H0
    isplitl [H1]; · iexact H1
    isplitl [H2 HB]
    · isplitl [H2]; · iexact H2
      iexact HB
    iexact HW

/-! ## The launch -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

abbrev cells : Fin 1 → SemLoc sig := fun _ => SemLoc.dma 4
theorem cells_own : Pipeline.OwnSemFacts spec0 cells := by decide
theorem weights_rest : ({main_arg1} : Finset (Ref sig .tc)) ⊆ Pipeline.restRefs sig spec0 := by decide

theorem launch_eq (c : Dev nD) :
    (Pipeline.ΦD cells spec0 {main_arg1} (V m) c : sProp 𝕄)
      = iprop(iprop((∃ d, owns (c : Thread nD τ) slot fullShare d) ∗ (∃ d, owns (c : Thread nD τ) kept fullShare d)) ∗ (∃ r, prngReg c r)
          ∗ cellAt c ∗ (((c : Thread nD τ).loc main_arg1) ↦{fullShare} V m c main_arg1)) := by
  rw [Pipeline.ΦD_eq, scopedRest0_eq, Pipeline.ownSems0_eq_of_list c cells [0] (by decide) (by decide),
    BI.bigSep_eq_bigSepL_of_eq [main_arg1] (by decide) (by decide)]
  simp only [slot, kept, owns_whole]; rfl

theorem slot_in (c : Dev nD) : iprop(∃ d, owns (c : Thread nD τ) slot fullShare d) ⊢ (iprop(∃ f, slotAt c f) : sProp 𝕄) := by
  unfold owns
  iintro ⟨%d, %f, -, H⟩
  iexists f; iexact H

theorem slot_out (c : Dev nD) : (iprop(∃ f, slotAt c f) : sProp 𝕄) ⊢ iprop(∃ d, owns (c : Thread nD τ) slot fullShare d) := by
  unfold owns
  iintro ⟨%f, H⟩
  iexists _, f
  isplitr; · ipureintro; rfl
  iexact H

theorem start (c : Dev nD) : Pipeline.ΦD cells spec0 {main_arg1} (V m) c ⊢ (dats m 0 c).Φ 0 := by
  rw [launch_eq, show (dats m 0 c).Φ 0 = invariant m c 0 from rfl]
  unfold invariant
  rw [show (0 + 7) / 8 = 0 from rfl, between_zero]
  unfold idle
  rw [show half 0 = fullShare.left from rfl, show half (0 + 1) = fullShare.right from rfl]
  iintro ⟨⟨HS, HK⟩, Hg, HC, HW⟩
  ihave HW' := (halves c (V m c main_arg1)).1 $$ HW
  icases HW' with ⟨HL, HR⟩
  ihave HS' := (slot_in c) $$ HS
  isplitl [Hg]; · iexact Hg
  isplitl [HK]; · iexact HK
  isplitl [HS']; · iexact HS'
  isplitl [HC]; · iexact HC
  isplitl [HL]; · iexact HL
  iexact HR

theorem finish (c : Dev nD) : (dats m 0 c).Φ (Fin.last cfg0.N) ⊢ Pipeline.ΦD cells spec0 {main_arg1} (V m) c := by
  rw [launch_eq, show (dats m 0 c).Φ (Fin.last cfg0.N) = invariant m c grid0.N from rfl]
  unfold invariant
  rw [N_0, show (248 + 7) / 8 = 31 from rfl, between_end]
  unfold idle
  rw [show half 31 = fullShare.right from rfl, show half (31 + 1) = fullShare.left from rfl]
  iintro ⟨Hg, HK, HS, HC, HR, HL⟩
  ihave HS' := (slot_out c) $$ HS
  isplitl [HS' HK]
  · isplitl [HS']; · iexact HS'
    iexists _; iexact HK
  isplitl [Hg]; · iexact Hg
  isplitl [HC]; · iexact HC
  iapply (halves c (V m c main_arg1)).2
  isplitl [HL]; · iexact HL
  iexact HR

-- the launch theorem's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cells defs₀ Variants.none cells_own {main_arg1} weights_rest m ρ main
    (hbody := fun c => (obligation m c).loose) (hshare := fun c => (dats m 0 c).share_full fun _ => rfl)
    (howed := fun _ _ => rfl) (V := V m) (hmain := Pipeline.hmain_region cfgs 0 defs₀ Variants.none m main fun c => (main_chain c).trans rfl)
    (hA := A_eq m) (hin := start m) (hout := finish m)

/-- Every run ends with the result at what the points left, the arguments as they were and nothing in flight. -/
theorem run : θ_run defs (onTc (τ := τ) (main (F := F))) ⟨m, fun _ => 0, ρ⟩ (fun r => (∀ c : Dev nD,
      r.2.mem ((c.tc : Thread nD τ).loc main_v0) = (dats m 0 c).arrAt 1 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 1,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

/-- The arguments as they were and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

end Inproj

end
-- ==== Proof.InprojValue.lean ====
/- The input projection over the extended reals: what the points leave, put together, is the product of the tokens and the
   weights. -/
module

public import proofs.«01_k».proof.Proof.InprojRun
public import proofs.«01_k».proof.Proof.Gen.Reference2Ideal.Run
public import Idealize.ShloMosaic.Lib.Pipeline.ValueKit
public import Idealize.ShloMosaic.Lib.ValueLayout

@[expose] public section

set_option maxRecDepth 16384

noncomputable section

namespace Inproj

open Idealize.ShloMosaic Idealize.ShloMosaic.TcCoe Idealize.SL.Sem
open Cert.Kernel2Ideal Cert.Kernel2Ideal.Gen

variable (m : (ℓ : Loc nD τ sig) → Buf (Elt Ideal) ℓ)

/-- Where the windows' blocks lie: 8 points for a column of the weights, one for each 1056 tokens. -/
theorem idx : ∀ t : Fin cfg0.N, win0_0.index t = ![t.val % 8, 0] ∧ win0_1.index t = ![t.val % 8, t.val / 8] :=
  (by decide +kernel : ∀ t : Fin grid0.N, _)

/-- Tokens by a column of weights, at an index. -/
theorem product_at (x : FVec Ideal S1056x4096 .bf16) (w : FVec Ideal S4096x1024 .f32) (i : Fin 1056) (n : Fin 1024) :
    k0_pay2 (F := Ideal) x (k0_pay1 (F := Ideal) w) (ix2 i n) = ∑ k : Fin 4096, (show EReal from x (ix2 i k)) * w (ix2 k n) := by
  pointwise [k0_pay2, k0_pay1]

/-- The tokens of a point. -/
theorem tokens_at (c : Dev nD) (t : Fin cfg0.N) (i : Fin 1056) (k : Fin 4096) (r : Fin 8448) (hr : r.val = t.val % 8 * 1056 + i.val) :
    iblk m c 0 t (ix2 i k) = m ((c : Thread nD τ).loc main_arg0) (ix2 r k) := by
  have h := idx t
  blk_ext [iblk, V, h]

/-- The entries of a column of the weights. -/
theorem entries_at (c : Dev nD) (W : Held (F := Ideal) c weights) (b : Fin 31) (k : Fin 4096) (n : Fin 1024) (j : Fin 31744)
    (hj : j.val = 1024 * b.val + n.val) : entries c W b (ix2 k n) = W (ix3 0 k j) := by
  unfold entries column
  refine (congrFun (Memref.read_squeeze_slice weights _ (fun _ => rfl) squeezes_S1x4096x1024_S4096x1024
    (show S1x4096x1024.ShapeCasts S4096x1024 by decide) W) (ix2 k n)).trans ?_
  refine (ValueIdx.shapeCast_1ab_ab_apply _ _ k n).trans ?_
  refine congrArg W (funext fun a => Fin.ext ?_)
  fin_cases a
  · rfl
  · show 0 + 1 * k.val = k.val; omega
  · show 1024 * b.val + 1 * n.val = j.val; omega

/-- The reference's result. -/
abbrev projected (x : FVec Ideal Cert.Reference2Ideal.S8448x4096 .bf16) (w : FVec Ideal Cert.Reference2Ideal.S4x4096x31744 .f32) :
    FVec Ideal Cert.Reference2Ideal.S8448x31744 .f32 :=
  Host.dotGeneral Cert.Reference2Ideal.dot_S8448x4096_S4096x31744_S8448x31744_1_0_0_1_n_n none (extf .f32 x Cert.Reference2Ideal.Gen.bitsLt_bf16_f32)
    (shapeCast _ (extractStridedSlice Cert.Reference2Ideal.S1x4096x31744 ![0, 0, 0] w Cert.Reference2Ideal.Gen.slices_S4x4096x31744_S1x4096x31744_0_0_0)
      Cert.Reference2Ideal.Gen.shapeCasts_S1x4096x31744_S4096x31744)

theorem projected_at (x : FVec Ideal Cert.Reference2Ideal.S8448x4096 .bf16) (w : FVec Ideal Cert.Reference2Ideal.S4x4096x31744 .f32) (r : Fin 8448) (j : Fin 31744) :
    projected x w (ix2 r j) = ∑ k : Fin 4096, (show EReal from x (ix2 r k)) * w (ix3 0 k j) := by
  pointwise []

/-- The array of projected activations. -/
theorem final (c : Dev nD) : (dats m 0 c).arrAt 1 cfg0.N
    = projected (m ((c : Thread nD τ).loc main_arg0)) (m ((c : Thread nD τ).loc main_arg1)) := by
  refine (dats m 0 c).arrAt_eq_of_covers 1 _ (by decide +kernel) fun t hf y => ?_
  blk_simp
  rw [after1]
  have hx := idx t
  obtain ⟨i, n, rfl⟩ : ∃ (i : Fin 1056) (n : Fin 1024), y = ix2 i n := ⟨y 0, y 1, funext fun a => by fin_cases a <;> rfl⟩
  have l : t.val < 248 := t.isLt
  refine Eq.trans (b := projected (m ((c : Thread nD τ).loc main_arg0)) (m ((c : Thread nD τ).loc main_arg1))
    (ix2 ⟨t.val % 8 * 1056 + i.val, by omega⟩ ⟨1024 * (t.val / 8) + n.val, by omega⟩)) ?_ ?_
  · rw [projected_at]
    refine (product_at (iblk m c 0 t) (entries c (V m c main_arg1) (col (t.val / 8))) i n).trans ?_
    refine Finset.sum_congr rfl fun k _ => ?_
    rw [tokens_at m c t i k ⟨t.val % 8 * 1056 + i.val, by omega⟩ rfl, entries_at c _ (col (t.val / 8)) k n ⟨1024 * (t.val / 8) + n.val, by omega⟩
      (by show _ = 1024 * (t.val / 8 % 31) + n.val; rw [Nat.mod_eq_of_lt (by omega)])]
  · refine congrArg (projected _ _) ?_
    blk_ext [hx]

end Inproj

end
-- ==== Proof.Norm.lean ====
/- The run of the last norm: its body at a point with a block of the sequences' tokens and at the one with the block of the
   sample's, and the kernel run from end to end. The first result is written back at the last point too, where the body leaves
   it alone: what is written there is what the point before stored. Written once, for any float values. -/
module

public import proofs.«01_k».proof.Proof.Gen.Kernel3Ideal.Frame
public import proofs.«01_k».proof.Proof.Gen.Kernel3Ideal.Skeleton
public import Idealize.ShloMosaic.Lib.Claim
public import Idealize.ShloMosaic.Lib.VecWindow

@[expose] public section

set_option maxRecDepth 16384

noncomputable section

namespace Norm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

theorem first_iff : ∀ t : Fin cfg0.N, k0_cond1 (grid0.coords t) = 1#1 ↔ t.val < 32 :=
  (by decide +kernel : ∀ t : Fin grid0.N, k0_cond1 (grid0.coords t) = 1#1 ↔ t.val < 32)
theorem second_iff : ∀ t : Fin cfg0.N, k0_cond2 (grid0.coords t) = 1#1 ↔ t.val = 32 :=
  (by decide +kernel : ∀ t : Fin grid0.N, k0_cond2 (grid0.coords t) = 1#1 ↔ t.val = 32)
theorem flush2_not : ∀ t : Fin cfg0.N, t.val = 31 → (cfg0.win 2).flush t = false :=
  (by decide +kernel : ∀ t : Fin grid0.N, t.val = 31 → win0_2.flush t = false)
theorem flush2_last : ∀ t : Fin cfg0.N, t.val = 32 → (cfg0.win 2).flush t = true :=
  (by decide +kernel : ∀ t : Fin grid0.N, t.val = 32 → win0_2.flush t = true)
theorem flush3_not : ∀ t : Fin cfg0.N, t.val < 32 → (cfg0.win 3).flush t = false :=
  (by decide +kernel : ∀ t : Fin grid0.N, t.val < 32 → win0_3.flush t = false)
theorem idle2_iff : ∀ t : Fin cfg0.N, cfg0.idle 2 (cfg0.grid.coords t) = true ↔ t.val = 32 :=
  (by decide +kernel : ∀ t : Fin grid0.N, idle0 2 (grid0.coords t) = true ↔ t.val = 32)
theorem idle3_iff : ∀ t : Fin cfg0.N, cfg0.idle 3 (cfg0.grid.coords t) = true ↔ t.val < 32 :=
  (by decide +kernel : ∀ t : Fin grid0.N, idle0 3 (grid0.coords t) = true ↔ t.val < 32)

/-! ## The body -/

variable (c : Dev nD) (i : grid0.Coords) (arg1 : Memref sig .tc .vmem S256x4096 .f32) (harg1 : arg1.IsWhole)
  (arg2 : Memref sig .tc .vmem S1x4096 .f32) (harg2 : arg2.IsWhole) (arg3 : Memref sig .tc .vmem S256x4096 .f32) (harg3 : arg3.IsWhole)
  (arg4 : Memref sig .tc .vmem S256x4096 .f32) (harg4 : arg4.IsWhole) (x : Vec F S256x4096 .f32) (g : Vec F S1x4096 .f32)

set_option maxHeartbeats 1000000 in
/-- With a block of the sequences' tokens: the first result is stored, the second left alone. -/
theorem body_first (h1 : k0_cond1 i = 1#1) (h2 : ¬k0_cond2 i = 1#1) (d : Vec F S256x4096 .f32) (K : PUnit → sProp 𝕄) :
    iprop(owns (c : Thread nD τ) arg1 fullShare x ∗ owns (c : Thread nD τ) arg2 fullShare g
        ∗ (∃ d, owns (c : Thread nD τ) arg3 fullShare d) ∗ owns (c : Thread nD τ) arg4 fullShare d
        ∗ (iprop(owns (c : Thread nD τ) arg1 fullShare x ∗ owns (c : Thread nD τ) arg2 fullShare g
            ∗ owns (c : Thread nD τ) arg3 fullShare (k0_pay1 x g) ∗ owns (c : Thread nD τ) arg4 fullShare d) -∗ K ⟨⟩))
      ⊢ wp frame (wpE (defs₀ (F := F)) Variants.none c none) Set.univ (cc0_final_norm i arg1 harg1 arg2 harg2 arg3 harg3 arg4 harg4) K := by
  haveI : Fact (k0_cond1 i = 1#1) := ⟨h1⟩
  haveI : Fact (¬k0_cond2 i = 1#1) := ⟨h2⟩
  simp only [cc0_final_norm_eq_skeleton]; unfold cc0_final_norm_skel
  unfold owns
  iintro ⟨⟨%f0, %hf0, H0⟩, ⟨%f1, %hf1, H1⟩, ⟨%d2, %f2, -, H2⟩, ⟨%f3, %hf3, H3⟩, Hk⟩
  obtain rfl := harg1.eq_unread hf0
  obtain rfl := harg2.eq_unread hf1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    rw [View.read_writes_full, View.readAt_full, View.readAt_full, hf0, hf1]
  iexists _; isplitr; · ipureintro; exact hf3
  iexact H3

set_option maxHeartbeats 1000000 in
/-- With the sample's: the second is stored, the first left alone. -/
theorem body_second (h1 : ¬k0_cond1 i = 1#1) (h2 : k0_cond2 i = 1#1) (d : Vec F S256x4096 .f32) (K : PUnit → sProp 𝕄) :
    iprop(owns (c : Thread nD τ) arg1 fullShare x ∗ owns (c : Thread nD τ) arg2 fullShare g
        ∗ owns (c : Thread nD τ) arg3 fullShare d ∗ (∃ d, owns (c : Thread nD τ) arg4 fullShare d)
        ∗ (iprop(owns (c : Thread nD τ) arg1 fullShare x ∗ owns (c : Thread nD τ) arg2 fullShare g
            ∗ owns (c : Thread nD τ) arg3 fullShare d ∗ owns (c : Thread nD τ) arg4 fullShare (k0_pay1 x g)) -∗ K ⟨⟩))
      ⊢ wp frame (wpE (defs₀ (F := F)) Variants.none c none) Set.univ (cc0_final_norm i arg1 harg1 arg2 harg2 arg3 harg3 arg4 harg4) K := by
  haveI : Fact (¬k0_cond1 i = 1#1) := ⟨h1⟩
  haveI : Fact (k0_cond2 i = 1#1) := ⟨h2⟩
  simp only [cc0_final_norm_eq_skeleton]; unfold cc0_final_norm_skel
  unfold owns
  iintro ⟨⟨%f0, %hf0, H0⟩, ⟨%f1, %hf1, H1⟩, ⟨%f2, %hf2, H2⟩, ⟨%d3, %f3, -, H3⟩, Hk⟩
  obtain rfl := harg1.eq_unread hf0
  obtain rfl := harg2.eq_unread hf1
  sl_exec (disch := first | sl_exact h1 | sl_exact h2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact hf2
    iexact H2
  iexists _; isplitr; swap; · iexact H3
  ipureintro
  rw [View.read_writes_full, View.readAt_full, View.readAt_full, hf0, hf1]

/-! ## The pipeline's data -/

variable (m : (ℓ : Loc nD τ sig) → Buf (Elt F) ℓ) (ρ : Dev nD → PrngReg)

/-- The last point of the sequences' tokens that is not after `t`. -/
def upto (t : Fin cfg0.N) : Fin cfg0.N := ⟨min t.val 31, lt_of_le_of_lt (min_le_left _ _) t.isLt⟩

/-- The norm of a point's block of tokens. -/
def normed (c : Dev nD) (t : Fin cfg0.N) : Vec F S256x4096 .f32 := k0_pay1 (iblk m c 0 t) (iblk m c 1 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => normed m c (upto t)
    | ⟨3, _⟩ => normed m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = normed m c (upto t) := by dsimp only [dats]
theorem after3 (c : Dev nD) (t : Fin cfg0.N) : (dats m 0 c).after 3 t = normed m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At the last point the first result still holds what the point before stored. -/
theorem before2_last (c : Dev nD) (t : Fin cfg0.N) (h : t.val = 32) (d) : (dats m 0 c).before 2 t d = normed m c (upto t) := by
  obtain ⟨u, hu⟩ : ∃ u : Fin cfg0.N, u = ⟨t.val - 1, Nat.lt_of_le_of_lt (Nat.sub_le _ _) t.isLt⟩ := ⟨_, rfl⟩
  have u31 : u.val = 31 := by rw [hu]; show t.val - 1 = 31; omega
  rw [(dats m 0 c).before_of_pos 2 t (by omega) ((cfg0.win 2).fetch_out rfl t), ← hu, flush2_not u u31, if_neg Bool.false_ne_true]
  unfold Dat.left
  rw [show cfg0.idle 2 (cfg0.grid.coords u) = false from Bool.eq_false_iff.mpr fun e => by have := (idle2_iff u).mp e; omega]
  show (dats m 0 c).kept 2 u d = _
  unfold Dat.kept
  rw [Pipeline.fill_of_clip_none (cfg := cfg0) 2 _ (fun _ => rfl) d ((dats m 0 c).after 2 u), Window.fill_cut, after2]
  congr 1
  exact Fin.ext (by show min u.val 31 = min t.val 31; omega)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (normed m c (upto t)) := by
  have hN : t.val < 33 := lt_of_lt_of_eq t.isLt N_0
  unfold Dat.leavesExact
  by_cases h : t.val = 32
  · rw [(idle2_iff t).mpr h, flush2_last t h, after2]
  · rw [show cfg0.idle 2 (cfg0.grid.coords t) = false from Bool.eq_false_iff.mpr fun e => h ((idle2_iff t).mp e), after2]
theorem leaves3_last (c : Dev nD) (t : Fin cfg0.N) (h : t.val = 32) :
    (dats m 0 c).leavesExact 3 t = owns (c : Thread nD τ) (st0_3 t) fullShare (normed m c t) := by
  unfold Dat.leavesExact
  rw [show cfg0.idle 3 (cfg0.grid.coords t) = false from Bool.eq_false_iff.mpr fun e => by have := (idle3_iff t).mp e; omega, after3]

set_option maxHeartbeats 1000000 in
theorem sound (c : Dev nD) (t : Fin cfg0.N) :
    bodyPre m c t ⊢ wp frame (wpE (defs₀ (F := F)) Variants.none c none) Set.univ (bodyAt0 t) (fun _ => bodyPost m c t) := by
  have hN : t.val < 33 := lt_of_lt_of_eq t.isLt N_0
  unfold bodyPre bodyPost
  simp only [before0, before1]
  rw [leaves0, leaves1, leaves2, show (dats m 0 c).Φ t.castSucc = Pipeline.ΦA spec0 c from rfl, show (dats m 0 c).Φ t.succ = Pipeline.ΦA spec0 c from rfl,
    show (dats m 0 c).owesAt () t.succ = (dats m 0 c).owesAt () t.castSucc from rfl]
  by_cases h : t.val = 32
  · simp only [before2_last m c t h]
    rw [leaves3_last m c t h]
    iintro ⟨HP, Ho, ⟨%d0, H0⟩, ⟨%d1, H1⟩, ⟨%d2, H2⟩, ⟨%d3, H3⟩⟩
    iapply (body_second c (grid0.coords t) _ _ _ _ _ _ _ _ (iblk m c 0 t) (iblk m c 1 t) (fun e => by have := (first_iff t).mp e; omega) ((second_iff t).mpr h) (normed m c (upto t)) _)
    isplitl [H0]; · iexact H0
    isplitl [H1]; · iexact H1
    isplitl [H2]; · iexact H2
    isplitl [H3]; · iexists _; iexact H3
    iintro ⟨H0, H1, H2, H3⟩
    isplitl [HP]; · iexact HP
    isplitl [Ho]; · iexact Ho
    isplitl [H0]; · iexact H0
    isplitl [H1]; · iexact H1
    isplitl [H2]; · iexact H2
    iexact H3
  · have hu : upto t = t := Fin.ext (by show min t.val 31 = t.val; omega)
    rw [hu, (dats m 0 c).leavesExact_idle 3 t ((idle3_iff t).mpr (by omega)) (flush3_not t (by omega))]
    iintro ⟨HP, Ho, ⟨%d0, H0⟩, ⟨%d1, H1⟩, ⟨%d2, H2⟩, ⟨%d3, H3⟩⟩
    iapply (body_first c (grid0.coords t) _ _ _ _ _ _ _ _ (iblk m c 0 t) (iblk m c 1 t) ((first_iff t).mpr (by omega)) (fun e => h ((second_iff t).mp e)) ((dats m 0 c).before 3 t d3) _)
    isplitl [H0]; · iexact H0
    isplitl [H1]; · iexact H1
    isplitl [H2]; · iexists _; iexact H2
    isplitl [H3]; · iexact H3
    iintro ⟨H0, H1, H2, H3⟩
    isplitl [HP]; · iexact HP
    isplitl [Ho]; · iexact Ho
    isplitl [H0]; · iexact H0
    isplitl [H1]; · iexact H1
    isplitl [H2]; · iexact H2
    iexists d3; iexact H3

/-! ## The launch -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

-- the launch theorem's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- Every run ends with the results at what the points left, the arguments as they were and nothing in flight. -/
theorem run : θ_run defs (onTc (τ := τ) (main (F := F))) ⟨m, fun _ => 0, ρ⟩ (fun r => (∀ c : Dev nD,
      r.2.mem ((c.tc : Thread nD τ).loc main_v1_0) = (dats m 0 c).arrAt 2 cfg0.N
      ∧ r.2.mem ((c.tc : Thread nD τ).loc main_v1_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 2, (h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c)⟩, h.2⟩) (run_main m ρ)

/-- The arguments as they were and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2.2, h.2⟩) (run m ρ)

end Norm

end
-- ==== Proof.NormValue.lean ====
/- The last norm over the extended reals: what the points leave, put together, are the two parts of the normed activations. -/
module

public import proofs.«01_k».proof.Proof.Norm
public import proofs.«01_k».proof.Proof.Gen.Reference3Ideal.Run
public import Idealize.ShloMosaic.Lib.Pipeline.ValueKit
public import Idealize.ShloMosaic.Lib.ValueLayout

@[expose] public section

set_option maxRecDepth 16384

noncomputable section

namespace Norm

open Idealize.ShloMosaic Idealize.ShloMosaic.TcCoe Idealize.SL.Sem

/-- A token's norm: its entries over the root of their mean square, by the weights. -/
def entry (x g : Fin 4096 → EReal) (j : Fin 4096) : EReal :=
  x j * Ideal.rsqrt (Ideal.div (∑ k, x k * x k) (Ideal.ofBits .f32 0x45800000#32) + Ideal.ofBits .f32 0x358637BD#32) * g j

/-! ## The reference's results -/

section
open Cert.Reference3Ideal Cert.Reference3Ideal.Gen

variable (x : FVec Ideal S8448x4096 .f32) (g : FVec Ideal S4096 .f32)

abbrev ofSequences : FVec Ideal S8192x4096 .f32 :=
    mulf (mulf (extractStridedSlice S8192x4096 ![0, 0] x slices_S8448x4096_S8192x4096_0_0) (broadcastInDim S8192x4096 ![0, 1]
      bcast_S8192x1_S8192x4096_0_1 (Host.rsqrt (addf (Host.divf (broadcastInDim S8192x1 ![0] bcast_S8192_S8192x1_0 (Host.reduceAdd (mulf
      (extractStridedSlice S8192x4096 ![0, 0] x slices_S8448x4096_S8192x4096_0_0) (extractStridedSlice S8192x4096 ![0, 0] x
      slices_S8448x4096_S8192x4096_0_0)) (constant S_ .f32 0x00000000#32) reducesTo_S8192x4096_S8192_d1 h_S_)) (broadcastInDim S8192x1 ![]
      bcast_S_S8192x1 (constant S_ .f32 0x45800000#32))) (broadcastInDim S8192x1 ![] bcast_S_S8192x1 (constant S_ .f32 0x358637BD#32))))))
      (broadcastInDim S8192x4096 ![0, 1] bcast_S1x4096_S8192x4096_0_1 (broadcastInDim S1x4096 ![1] bcast_S4096_S1x4096_1 g))

abbrev ofSample : FVec Ideal S256x4096 .f32 :=
    mulf (mulf (extractStridedSlice S256x4096 ![8192, 0] x slices_S8448x4096_S256x4096_8192_0) (broadcastInDim S256x4096 ![0, 1]
      bcast_S256x1_S256x4096_0_1 (Host.rsqrt (addf (Host.divf (broadcastInDim S256x1 ![0] bcast_S256_S256x1_0 (Host.reduceAdd (mulf
      (extractStridedSlice S256x4096 ![8192, 0] x slices_S8448x4096_S256x4096_8192_0) (extractStridedSlice S256x4096 ![8192, 0] x
      slices_S8448x4096_S256x4096_8192_0)) (constant S_ .f32 0x00000000#32) reducesTo_S256x4096_S256_d1 h_S_)) (broadcastInDim S256x1 ![]
      bcast_S_S256x1 (constant S_ .f32 0x45800000#32))) (broadcastInDim S256x1 ![] bcast_S_S256x1 (constant S_ .f32 0x358637BD#32))))))
      (broadcastInDim S256x4096 ![0, 1] bcast_S1x4096_S256x4096_0_1 (broadcastInDim S1x4096 ![1] bcast_S4096_S1x4096_1 g))

theorem ofSequences_at (r : Fin 8192) (q : Fin 8448) (hq : q.val = r.val) (j : Fin 4096) :
    ofSequences x g (ix2 r j) = entry (fun k => x (ix2 q k)) (fun k => g (ix1 k)) j := by
  obtain ⟨q, lq⟩ := q
  subst hq
  pointwise [entry]

theorem ofSample_at (r : Fin 256) (q : Fin 8448) (hq : q.val = 8192 + r.val) (j : Fin 4096) :
    ofSample x g (ix2 r j) = entry (fun k => x (ix2 q k)) (fun k => g (ix1 k)) j := by
  obtain ⟨q, lq⟩ := q
  subst hq
  pointwise [entry]

end

/-! ## The kernel's -/

open Cert.Kernel3Ideal Cert.Kernel3Ideal.Gen

variable (m : (ℓ : Loc nD τ sig) → Buf (Elt Ideal) ℓ)

theorem idx : ∀ t : Fin cfg0.N, win0_0.index t = ![t.val, 0] ∧ win0_1.index t = ![0, 0] ∧ win0_2.index t = ![min t.val 31, 0] ∧ win0_3.index t = ![t.val - 32, 0] :=
  (by decide +kernel : ∀ t : Fin grid0.N, _)

theorem payload_at (x : FVec Ideal S256x4096 .f32) (g : FVec Ideal S1x4096 .f32) (i : Fin 256) (j : Fin 4096) :
    k0_pay1 (F := Ideal) x g (ix2 i j) = entry (fun k => x (ix2 i k)) (fun k => g (ix2 0 k)) j := by
  pointwise [k0_pay1, entry]

/-- The weights as the kernel finds them. -/
theorem V_main_v0 (c : Dev nD) (j : Fin 4096) : (V m c main_v0 : FVec Ideal S1x4096 .f32) (ix2 0 j) = m ((c : Thread nD τ).loc main_arg1) (ix1 j) := by
  have e : V m c main_v0 = shapeCast S1x4096 (m ((c : Thread nD τ).loc main_arg1) : FVec Ideal S4096 .f32) shapeCasts_S4096_S1x4096 := by
    simp only [V, hostOps0]
    entry_read
    rfl
  rw [e]
  exact ValueIdx.shapeCast_a_1a_apply _ _ 0 j

theorem weights_at (c : Dev nD) (t : Fin cfg0.N) (j : Fin 4096) : iblk m c 1 t (ix2 0 j) = m ((c : Thread nD τ).loc main_arg1) (ix1 j) := by
  refine Eq.trans ?_ (V_main_v0 m c j)
  have h := idx t
  blk_ext [iblk, h]

theorem tokens_at (c : Dev nD) (t : Fin cfg0.N) (i : Fin 256) (k : Fin 4096) (q : Fin 8448) (hq : q.val = t.val * 256 + i.val) :
    iblk m c 0 t (ix2 i k) = m ((c : Thread nD τ).loc main_arg0) (ix2 q k) := by
  rw [← V_main_arg0 m c]
  have h := idx t
  blk_ext [iblk, h]

theorem normed_at (c : Dev nD) (t : Fin cfg0.N) (i : Fin 256) (j : Fin 4096) (q : Fin 8448) (hq : q.val = t.val * 256 + i.val) :
    normed m c t (ix2 i j) = entry (fun k => m ((c : Thread nD τ).loc main_arg0) (ix2 q k)) (fun k => m ((c : Thread nD τ).loc main_arg1) (ix1 k)) j := by
  refine (payload_at (iblk m c 0 t) (iblk m c 1 t) i j).trans ?_
  exact congrArg₂ (fun a b => entry a b j) (funext fun k => tokens_at m c t i k q hq) (funext fun k => weights_at m c t k)

/-- The sequences' part. -/
theorem final2 (c : Dev nD) : (dats m 0 c).arrAt 2 cfg0.N
    = ofSequences (m ((c : Thread nD τ).loc main_arg0)) (m ((c : Thread nD τ).loc main_arg1)) := by
  refine (dats m 0 c).arrAt_eq_of_covers 2 _ (by decide +kernel) fun t hf y => ?_
  blk_simp
  rw [after2]
  have hx := idx t
  have hu : (upto t).val = min t.val 31 := rfl
  obtain ⟨i, j, rfl⟩ : ∃ (i : Fin 256) (j : Fin 4096), y = ix2 i j := ⟨y 0, y 1, funext fun a => by fin_cases a <;> rfl⟩
  refine Eq.trans (b := ofSequences (m ((c : Thread nD τ).loc main_arg0)) (m ((c : Thread nD τ).loc main_arg1)) (ix2 ⟨min t.val 31 * 256 + i.val, by omega⟩ j)) ?_ ?_
  · rw [ofSequences_at _ _ _ ⟨min t.val 31 * 256 + i.val, by omega⟩ rfl]
    exact normed_at m c (upto t) i j ⟨min t.val 31 * 256 + i.val, by omega⟩ rfl
  · refine congrArg (ofSequences _ _) ?_
    blk_ext [hx]

/-- The sample's. -/
theorem final3 (c : Dev nD) : (dats m 0 c).arrAt 3 cfg0.N
    = ofSample (m ((c : Thread nD τ).loc main_arg0)) (m ((c : Thread nD τ).loc main_arg1)) := by
  refine (dats m 0 c).arrAt_eq_of_covers 3 _ (by decide +kernel) fun t hf y => ?_
  blk_simp
  rw [after3]
  have hx := idx t
  have ht : t.val = 32 := by
    have := (flush0_3 t).mp hf
    have l : t.val < 33 := t.isLt
    omega
  obtain ⟨i, j, rfl⟩ : ∃ (i : Fin 256) (j : Fin 4096), y = ix2 i j := ⟨y 0, y 1, funext fun a => by fin_cases a <;> rfl⟩
  refine Eq.trans (b := ofSample (m ((c : Thread nD τ).loc main_arg0)) (m ((c : Thread nD τ).loc main_arg1)) (ix2 i j)) ?_ ?_
  · rw [ofSample_at _ _ _ ⟨8192 + i.val, by omega⟩ rfl]
    exact normed_at m c t i j ⟨8192 + i.val, by omega⟩ (by show 8192 + i.val = t.val * 256 + i.val; omega)
  · refine congrArg (ofSample _ _) ?_
    blk_ext [hx, ht]

end Norm

end
-- ==== Proof.OutprojBody.lean ====
/- The output projection's body at one point of its grid, run from what the points before it left: the column of weights
   that is in flight, the column that is cast and kept, and the blocks of tokens and activations. -/
module

public import proofs.«01_k».proof.Proof.Gen.Kernel4Ideal.Frame
public import proofs.«01_k».proof.Proof.Gen.Kernel4Ideal.Skeleton
public import proofs.«01_k».proof.Proof.Staging
public import Idealize.ShloMosaic.Lib.VecWindow

@[expose] public section

set_option maxRecDepth 16384

noncomputable section

namespace Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

/-! ## Where a point is: its column starts, its column is the first, a column is left to start -/

abbrev Starts (i : grid0.Coords) : Prop := k0_cond1 i = 1#1
abbrev First (i : grid0.Coords) : Prop :=
  Scalar.cmpi .ne (Scalar.extui (Scalar.cmpi .eq (BitVec.ofNat 32 (i 0).val) 0#32)) 0#32 = 1#1
abbrev More (i : grid0.Coords) : Prop := k0_cond3 i = 1#1

theorem starts_iff : ∀ t : Fin cfg0.N, Starts (grid0.coords t) ↔ t.val % 11 = 0 :=
  (by decide +kernel : ∀ t : Fin grid0.N, Starts (grid0.coords t) ↔ t.val % 11 = 0)
theorem first_iff : ∀ t : Fin cfg0.N, First (grid0.coords t) ↔ t.val < 11 :=
  (by decide +kernel : ∀ t : Fin grid0.N, First (grid0.coords t) ↔ t.val < 11)
theorem more_iff : ∀ t : Fin cfg0.N, More (grid0.coords t) ↔ t.val < 33 :=
  (by decide +kernel : ∀ t : Fin grid0.N, More (grid0.coords t) ↔ t.val < 33)

/-! ## The columns of the weights, and what holds them -/

def col (k : ℕ) : Fin 4 := ⟨k % 4, Nat.mod_lt _ (by decide)⟩

abbrev weights : Memref sig .tc .hbm S4x4096x4096 .f32 := Memref.whole main_arg1
abbrev slot : Memref sig .tc .vmem S4096x1024 .f32 := Memref.whole cc0_scratch0
abbrev kept : Memref sig .tc .vmem S4096x1024 .bf16 := Memref.whole cc0_scratch1

theorem inb_col (b : Fin 4) : ∀ a, (![0, 0, 1024 * b.val] : Fin 3 → Nat) a + S1x4096x1024.size a ≤ S4x4096x4096.size a := by
  have := b.isLt; intro a; fin_cases a <;> simp <;> omega

/-- Column `b` of the weights, as the transfers name it. -/
def column (b : Fin 4) : Memref sig .tc .hbm S4096x1024 .f32 :=
  (weights.slice (Rect.unit (s := S4x4096x4096) ![0, 0, 1024 * b.val] S1x4096x1024.size (inb_col b)) (fun _ => rfl)).squeeze
    S4096x1024 squeezes_S1x4096x1024_S4096x1024

abbrev Held (c : Dev nD) {sp : Space} {S : Shape} {e : EltTy} (M : Memref sig .tc sp S e) : Type := Buf (Elt F) (M.view.loc (c : Thread nD τ))

variable (c : Dev nD) (W : Held (F := F) c weights)

/-- The entries of column `b`. -/
def entries (b : Fin 4) : Vec F S4096x1024 .f32 := (column b).view.read (Elt F) W

abbrev slotAt (f : Held (F := F) c slot) : sProp 𝕄 := slot.view.loc (c : Thread nD τ) ↦[slot.view.set]{fullShare} f
abbrev cellAt : sProp 𝕄 := semVal ((c : Thread nD τ), SemLoc.dma 8) 0
abbrev colAt (q : PosShare TreeShare) (b : Fin 4) : sProp 𝕄 := (column b).view.loc (c : Thread nD τ) ↦[(column b).view.set]{q} W
def restAt (q : PosShare TreeShare) (b : Fin 4) : sProp 𝕄 := ((c : Thread nD τ).loc main_arg1) ↦[Finset.univ \ (column b).view.set]{q} W
abbrev wholeAt (q : PosShare TreeShare) : sProp 𝕄 := ((c : Thread nD τ).loc main_arg1) ↦[Finset.univ]{q} W
abbrev landed (b : Fin 4) (f : Held (F := F) c slot) : Held (F := F) c slot :=
  slot.view.writes (Elt F) f [⟨Rect.whole S4096x1024, ReadAs.same.apply ((column b).view.read (Elt F) W)⟩]
abbrev flight (q : PosShare TreeShare) (b : Fin 4) (f : Held (F := F) c slot) : sProp 𝕄 :=
  Transfers.Flight countersEmb (c : Thread nD τ) (SemLoc.dma 8) default (slot.view.amount (SemLoc.dma (sig := sig) 8))
    iprop(slotAt c (landed c W b f) ∗ colAt c W q b)

theorem column_split (q : PosShare TreeShare) (b : Fin 4) : wholeAt c W q ⊣⊢ iprop(colAt c W q b ∗ restAt c W q b) := by
  unfold restAt; exact pointsTo_split_subset (Finset.subset_univ _)

theorem halves : (((c : Thread nD τ).loc main_arg1) ↦{fullShare} W : sProp 𝕄)
    ⊣⊢ iprop(wholeAt c W fullShare.left ∗ wholeAt c W fullShare.right) :=
  pointsTo_share (PosShare.mem_left_op_right fullShare)

section Canon
omit [FloatOps F]

theorem off_first : ∀ t : Fin grid0.N, Starts (grid0.coords t) → First (grid0.coords t) → (![0, 0, 0] : Fin 3 → Nat) = ![0, 0, 1024 * (col (t.val / 11)).val] := by
  decide +kernel
theorem off_this : ∀ t : Fin grid0.N, Starts (grid0.coords t) → k0_off1 (grid0.coords t) = ![0, 0, 1024 * (col (t.val / 11)).val] := by
  decide +kernel
theorem off_next : ∀ t : Fin grid0.N, Starts (grid0.coords t) → More (grid0.coords t) → k0_off2 (grid0.coords t) = ![0, 0, 1024 * (col (t.val / 11 + 1)).val] := by
  decide +kernel

@[sl_canon] theorem canon_first (t : Fin grid0.N) (h0 : Starts (grid0.coords t)) (h1 : First (grid0.coords t)) :
    (weights.slice (Rect.unit (s := S4x4096x4096) ![0, 0, 0] S1x4096x1024.size inb_S4x4096x4096_S1x4096x1024_0_0_0) (fun _ => rfl)).squeeze
      S4096x1024 squeezes_S1x4096x1024_S4096x1024 = column (col (t.val / 11)) :=
  congrArg (fun M : Memref sig .tc .hbm S1x4096x1024 .f32 => M.squeeze S4096x1024 squeezes_S1x4096x1024_S4096x1024)
    (Memref.slice_unit_congr _ (off_first t h0 h1) _ _ (fun _ => rfl) (fun _ => rfl))
@[sl_canon] theorem canon_this (t : Fin grid0.N) (h0 : Starts (grid0.coords t)) :
    (weights.slice (Rect.unit (s := S4x4096x4096) (k0_off1 (grid0.coords t)) S1x4096x1024.size (k0_off1_inb (grid0.coords t) h0)) (fun _ => rfl)).squeeze
      S4096x1024 squeezes_S1x4096x1024_S4096x1024 = column (col (t.val / 11)) :=
  congrArg (fun M : Memref sig .tc .hbm S1x4096x1024 .f32 => M.squeeze S4096x1024 squeezes_S1x4096x1024_S4096x1024)
    (Memref.slice_unit_congr _ (off_this t h0) _ _ (fun _ => rfl) (fun _ => rfl))
@[sl_canon] theorem canon_next (t : Fin grid0.N) (h0 : Starts (grid0.coords t)) (h2 : More (grid0.coords t)) :
    (weights.slice (Rect.unit (s := S4x4096x4096) (k0_off2 (grid0.coords t)) S1x4096x1024.size (k0_off2_inb (grid0.coords t) h0 h2)) (fun _ => rfl)).squeeze
      S4096x1024 squeezes_S1x4096x1024_S4096x1024 = column (col (t.val / 11 + 1)) :=
  congrArg (fun M : Memref sig .tc .hbm S1x4096x1024 .f32 => M.squeeze S4096x1024 squeezes_S1x4096x1024_S4096x1024)
    (Memref.slice_unit_congr _ (off_next t h0 h2) _ _ (fun _ => rfl) (fun _ => rfl))

end Canon

/-! ## What the body takes and gives back -/

/-- The parts of the weights, as the library of staged weights names them. -/
abbrev parts : Staging.Parts 𝕄 where
  buffer := iprop(∃ f, slotAt c f)
  cell := cellAt c
  scratch := iprop(∃ d, owns (c : Thread nD τ) kept fullShare d)
  kept k := owns (c : Thread nD τ) kept fullShare (k0_pay1 (entries c W (col k)))
  flight q k := iprop(∃ f, flight c W q (col k) f)
  column q k := colAt c W q (col k)
  rest q k := restAt c W q (col k)
  whole q := wholeAt c W q
  split q k := column_split c W q (col k)
  forget k := by iintro H; iexists _; iexact H

variable (t : Fin cfg0.N) (arg2 : Memref sig .tc .vmem S768x4096 .bf16) (harg2 : arg2.IsWhole)
  (arg4 : Memref sig .tc .vmem S768x1024 .f32) (harg4 : arg4.IsWhole) (arg5 : Memref sig .tc .vmem S768x1024 .f32) (harg5 : arg5.IsWhole)
  (arg6 : Memref sig .tc .vmem S768x1024 .bf16) (harg6 : arg6.IsWhole) (x : Vec F S768x4096 .bf16) (y : Vec F S768x1024 .f32)

/-- The blocks before the body, -/
def given : sProp 𝕄 := iprop(owns (c : Thread nD τ) arg2 fullShare x ∗ owns (c : Thread nD τ) arg4 fullShare y
  ∗ (∃ d, owns (c : Thread nD τ) arg5 fullShare d) ∗ (∃ d, owns (c : Thread nD τ) arg6 fullShare d))

/-- and after it, from the column kept. -/
def left (w : Vec F S4096x1024 .bf16) : sProp 𝕄 := iprop(owns (c : Thread nD τ) arg2 fullShare x ∗ owns (c : Thread nD τ) arg4 fullShare y
  ∗ owns (c : Thread nD τ) arg5 fullShare (k0_pay2 y x w) ∗ owns (c : Thread nD τ) arg6 fullShare (k0_pay3 y x w))

set_option maxHeartbeats 1000000 in
/-- At a point that does not start a column the one kept is used. -/
theorem body_later (h0 : ¬Starts (grid0.coords t)) (w : Vec F S4096x1024 .bf16) (Wt : Waits sig Unit) (K : PUnit → sProp 𝕄) :
    iprop(given c arg2 arg4 arg5 arg6 x y ∗ owns (c : Thread nD τ) kept fullShare w ∗ owes (c : Thread nD τ) 0 Wt
        ∗ (iprop(left c arg2 arg4 arg5 arg6 x y w ∗ owns (c : Thread nD τ) kept fullShare w ∗ (∃ W', owes (c : Thread nD τ) 0 W')) -∗ K ⟨⟩))
      ⊢ wp frame (wpE (defs₀ (F := F)) Variants.none c none) Set.univ
          (cc0_outproj (grid0.coords t) arg2 harg2 weights (Memref.isWhole_whole _) arg4 harg4 arg5 harg5 arg6 harg6 slot (Memref.isWhole_whole _) kept (Memref.isWhole_whole _) cc0_scratch2) K := by
  haveI : Fact (¬Starts (grid0.coords t)) := ⟨h0⟩
  simp only [cc0_outproj_eq_skeleton]; unfold cc0_outproj_skel
  unfold given left
  unfold owns
  iintro ⟨⟨⟨%f0, %hf0, H0⟩, ⟨%f1, %hf1, H1⟩, ⟨%d4, %f4, -, H4⟩, ⟨%d5, %f5, -, H5⟩⟩, ⟨%f2, %hf2, H2⟩, HW, Hk⟩
  obtain rfl := harg2.eq_unread hf0
  obtain rfl := harg4.eq_unread hf1
  obtain rfl := (Memref.isWhole_whole (sig := sig) cc0_scratch1).eq_unread hf2
  sl_exec (disch := sl_exact h0)
  sl_step
  iapply Hk
  isplitl [H0 H1 H4 H5]
  · isplitl [H0]
    · iexists _; isplitr; · ipureintro; exact harg2.read_unread _
      iexact H0
    isplitl [H1]
    · iexists _; isplitr; · ipureintro; exact harg4.read_unread _
      iexact H1
    isplitl [H4]
    · iexists _; isplitr; swap; · iexact H4
      ipureintro
      rw [View.read_writes_full, View.readAt_full, View.readAt_full, View.readAt_full, hf0, hf1, hf2]
    iexists _; isplitr; swap; · iexact H5
    ipureintro
    rw [View.read_writes_full, View.readAt_full, View.readAt_full, View.readAt_full, hf0, hf1, hf2]
  isplitl [H2]
  · iexists _; isplitr; · ipureintro; exact (Memref.isWhole_whole (sig := sig) cc0_scratch1).read_unread _
    iexact H2
  iexists _; iexact HW

set_option maxHeartbeats 1000000 in
/-- At one that starts a column, neither the first nor the last, the one in flight lands and is kept, and the next one is started. -/
theorem body_next (h0 : Starts (grid0.coords t)) (h1 : ¬First (grid0.coords t)) (h2 : More (grid0.coords t)) (q q' : PosShare TreeShare) (Wt : Waits sig Unit) (K : PUnit → sProp 𝕄) :
    iprop(given c arg2 arg4 arg5 arg6 x y ∗ (∃ d, owns (c : Thread nD τ) kept fullShare d) ∗ (∃ f, flight c W q (col (t.val / 11)) f) ∗ colAt c W q' (col (t.val / 11 + 1)) ∗ owes (c : Thread nD τ) 0 Wt
        ∗ (iprop(left c arg2 arg4 arg5 arg6 x y (k0_pay1 (entries c W (col (t.val / 11)))) ∗ owns (c : Thread nD τ) kept fullShare (k0_pay1 (entries c W (col (t.val / 11)))) ∗ colAt c W q (col (t.val / 11)) ∗ (∃ f, flight c W q' (col (t.val / 11 + 1)) f) ∗ (∃ W', owes (c : Thread nD τ) 0 W')) -∗ K ⟨⟩))
      ⊢ wp frame (wpE (defs₀ (F := F)) Variants.none c none) Set.univ
          (cc0_outproj (grid0.coords t) arg2 harg2 weights (Memref.isWhole_whole _) arg4 harg4 arg5 harg5 arg6 harg6 slot (Memref.isWhole_whole _) kept (Memref.isWhole_whole _) cc0_scratch2) K := by
  haveI : Fact (Starts (grid0.coords t)) := ⟨h0⟩
  haveI : Fact (¬First (grid0.coords t)) := ⟨h1⟩
  haveI : Fact (More (grid0.coords t)) := ⟨h2⟩
  simp only [cc0_outproj_eq_skeleton]; unfold cc0_outproj_skel
  unfold given left
  unfold owns
  iintro ⟨⟨⟨%f0, %hf0, H0⟩, ⟨%f1, %hf1, H1⟩, ⟨%d4, %f4, -, H4⟩, ⟨%d5, %f5, -, H5⟩⟩, ⟨%d2, %f2, -, H2⟩, ⟨%f, HF⟩, HC, HW, Hk⟩
  obtain rfl := harg2.eq_unread hf0
  obtain rfl := harg4.eq_unread hf1
  sl_exec (disch := first | sl_exact h0 | sl_exact h1 | sl_exact h2)
  sl_step
  iapply Hk
  isplitl [H0 H1 H4 H5]
  · isplitl [H0]
    · iexists _; isplitr; · ipureintro; exact harg2.read_unread _
      iexact H0
    isplitl [H1]
    · iexists _; isplitr; · ipureintro; exact harg4.read_unread _
      iexact H1
    isplitl [H4]
    · iexists _; isplitr; swap; · iexact H4
      ipureintro
      rw [View.read_writes_full, View.readAt_full, View.readAt_full, hf0, hf1]
      unfold body_next.sl.v5 body_next.sl.H2_1 body_next.sl.v19
      rw [View.readCov_full, Staging.load_landed]; rfl
    iexists _; isplitr; swap; · iexact H5
    ipureintro
    rw [View.read_writes_full, View.readAt_full, View.readAt_full, hf0, hf1]
    unfold body_next.sl.v5 body_next.sl.H2_1 body_next.sl.v19
    rw [View.readCov_full, Staging.load_landed]; rfl
  isplitl [H2]
  · iexists _; isplitr; swap; · iexact H2
    ipureintro
    unfold body_next.sl.H2_1 body_next.sl.v19
    rw [View.read_writes_full, Staging.load_landed]; rfl
  isplitl [HF_src]; · iexact HF_src
  isplitl [HF]; · iexists _; iexact HF
  iexists _; iexact HW

set_option maxHeartbeats 1000000 in
/-- At the one that starts the last column nothing is left to start. -/
theorem body_last (h0 : Starts (grid0.coords t)) (h1 : ¬First (grid0.coords t)) (h2 : ¬More (grid0.coords t)) (q : PosShare TreeShare) (Wt : Waits sig Unit) (K : PUnit → sProp 𝕄) :
    iprop(given c arg2 arg4 arg5 arg6 x y ∗ (∃ d, owns (c : Thread nD τ) kept fullShare d) ∗ (∃ f, flight c W q (col (t.val / 11)) f) ∗ owes (c : Thread nD τ) 0 Wt
        ∗ (iprop(left c arg2 arg4 arg5 arg6 x y (k0_pay1 (entries c W (col (t.val / 11)))) ∗ owns (c : Thread nD τ) kept fullShare (k0_pay1 (entries c W (col (t.val / 11)))) ∗ colAt c W q (col (t.val / 11)) ∗ (∃ f, slotAt c f) ∗ cellAt c ∗ (∃ W', owes (c : Thread nD τ) 0 W')) -∗ K ⟨⟩))
      ⊢ wp frame (wpE (defs₀ (F := F)) Variants.none c none) Set.univ
          (cc0_outproj (grid0.coords t) arg2 harg2 weights (Memref.isWhole_whole _) arg4 harg4 arg5 harg5 arg6 harg6 slot (Memref.isWhole_whole _) kept (Memref.isWhole_whole _) cc0_scratch2) K := by
  haveI : Fact (Starts (grid0.coords t)) := ⟨h0⟩
  haveI : Fact (¬First (grid0.coords t)) := ⟨h1⟩
  haveI : Fact (¬More (grid0.coords t)) := ⟨h2⟩
  simp only [cc0_outproj_eq_skeleton]; unfold cc0_outproj_skel
  unfold given left
  unfold owns
  iintro ⟨⟨⟨%f0, %hf0, H0⟩, ⟨%f1, %hf1, H1⟩, ⟨%d4, %f4, -, H4⟩, ⟨%d5, %f5, -, H5⟩⟩, ⟨%d2, %f2, -, H2⟩, ⟨%f, HF⟩, HW, Hk⟩
  obtain rfl := harg2.eq_unread hf0
  obtain rfl := harg4.eq_unread hf1
  sl_exec (disch := first | sl_exact h0 | sl_exact h1 | sl_exact h2)
  sl_step
  iapply Hk
  isplitl [H0 H1 H4 H5]
  · isplitl [H0]
    · iexists _; isplitr; · ipureintro; exact harg2.read_unread _
      iexact H0
    isplitl [H1]
    · iexists _; isplitr; · ipureintro; exact harg4.read_unread _
      iexact H1
    isplitl [H4]
    · iexists _; isplitr; swap; · iexact H4
      ipureintro
      rw [View.read_writes_full, View.readAt_full, View.readAt_full, hf0, hf1]
      unfold body_last.sl.v5 body_last.sl.H2_1 body_last.sl.v19
      rw [View.readCov_full, Staging.load_landed]; rfl
    iexists _; isplitr; swap; · iexact H5
    ipureintro
    rw [View.read_writes_full, View.readAt_full, View.readAt_full, hf0, hf1]
    unfold body_last.sl.v5 body_last.sl.H2_1 body_last.sl.v19
    rw [View.readCov_full, Staging.load_landed]; rfl
  isplitl [H2]
  · iexists _; isplitr; swap; · iexact H2
    ipureintro
    unfold body_last.sl.H2_1 body_last.sl.v19
    rw [View.read_writes_full, Staging.load_landed]; rfl
  isplitl [HF_src]; · iexact HF_src
  isplitl [HF_dst]; · iexists _; iexact HF_dst
  isplitl [HF]; · iexact HF
  iexists _; iexact HW

set_option maxHeartbeats 1000000 in
/-- At the first point nothing is in flight yet, and it starts two columns. -/
theorem body_first (h0 : Starts (grid0.coords t)) (h1 : First (grid0.coords t)) (h2 : More (grid0.coords t)) (q q' : PosShare TreeShare) (Wt : Waits sig Unit) (K : PUnit → sProp 𝕄) :
    iprop(given c arg2 arg4 arg5 arg6 x y ∗ (∃ d, owns (c : Thread nD τ) kept fullShare d) ∗ (∃ f, slotAt c f) ∗ cellAt c ∗ colAt c W q (col (t.val / 11)) ∗ colAt c W q' (col (t.val / 11 + 1)) ∗ owes (c : Thread nD τ) 0 Wt
        ∗ (iprop(left c arg2 arg4 arg5 arg6 x y (k0_pay1 (entries c W (col (t.val / 11)))) ∗ owns (c : Thread nD τ) kept fullShare (k0_pay1 (entries c W (col (t.val / 11)))) ∗ colAt c W q (col (t.val / 11)) ∗ (∃ f, flight c W q' (col (t.val / 11 + 1)) f) ∗ (∃ W', owes (c : Thread nD τ) 0 W')) -∗ K ⟨⟩))
      ⊢ wp frame (wpE (defs₀ (F := F)) Variants.none c none) Set.univ
          (cc0_outproj (grid0.coords t) arg2 harg2 weights (Memref.isWhole_whole _) arg4 harg4 arg5 harg5 arg6 harg6 slot (Memref.isWhole_whole _) kept (Memref.isWhole_whole _) cc0_scratch2) K := by
  haveI : Fact (Starts (grid0.coords t)) := ⟨h0⟩
  haveI : Fact (First (grid0.coords t)) := ⟨h1⟩
  haveI : Fact (More (grid0.coords t)) := ⟨h2⟩
  simp only [cc0_outproj_eq_skeleton]; unfold cc0_outproj_skel
  unfold given left
  unfold owns
  iintro ⟨⟨⟨%f0, %hf0, H0⟩, ⟨%f1, %hf1, H1⟩, ⟨%d4, %f4, -, H4⟩, ⟨%d5, %f5, -, H5⟩⟩, ⟨%d2, %f2, -, H2⟩, ⟨%f, HS⟩, HF, HC, HD, HW, Hk⟩
  obtain rfl := harg2.eq_unread hf0
  obtain rfl := harg4.eq_unread hf1
  sl_exec (disch := first | sl_exact h0 | sl_exact h1 | sl_exact h2)
  sl_step
  iapply Hk
  isplitl [H0 H1 H4 H5]
  · isplitl [H0]
    · iexists _; isplitr; · ipureintro; exact harg2.read_unread _
      iexact H0
    isplitl [H1]
    · iexists _; isplitr; · ipureintro; exact harg4.read_unread _
      iexact H1
    isplitl [H4]
    · iexists _; isplitr; swap; · iexact H4
      ipureintro
      rw [View.read_writes_full, View.readAt_full, View.readAt_full, hf0, hf1]
      unfold body_first.sl.v5 body_first.sl.H2_1 body_first.sl.v19
      rw [View.readCov_full, Staging.load_landed]; rfl
    iexists _; isplitr; swap; · iexact H5
    ipureintro
    rw [View.read_writes_full, View.readAt_full, View.readAt_full, hf0, hf1]
    unfold body_first.sl.v5 body_first.sl.H2_1 body_first.sl.v19
    rw [View.readCov_full, Staging.load_landed]; rfl
  isplitl [H2]
  · iexists _; isplitr; swap; · iexact H2
    ipureintro
    unfold body_first.sl.H2_1 body_first.sl.v19
    rw [View.read_writes_full, Staging.load_landed]; rfl
  isplitl [HC]; · iexact HC
  isplitl [HF]; · iexists _; iexact HF
  iexists _; iexact HW

end Outproj

end
-- ==== Proof.OutprojRun.lean ====
/- The run of the output projection: what holds between the points of its grid, and the kernel run from end to end. Written
   once, for any float values. -/
module

public import proofs.«01_k».proof.Proof.OutprojBody
public import Idealize.ShloMosaic.Lib.Claim

@[expose] public section

set_option maxRecDepth 16384

noncomputable section

namespace Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Staging (between half)
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (Pipeline.UD sig nD τ) ℕ

/-! ## The pipeline's data -/

variable (m : (ℓ : Loc nD τ sig) → Buf (Elt F) ℓ) (ρ : Dev nD → PrngReg)

/-- What a point has of the weights: its column, cast. -/
def weightsAt (c : Dev nD) (t : Fin cfg0.N) : Vec F S4096x1024 .bf16 := k0_pay1 (entries c (V m c main_arg1) (col (t.val / 11)))

/-- What holds once `k` columns have been started and waited for. -/
abbrev held (c : Dev nD) (k : ℕ) : sProp 𝕄 := between (parts c (V m c main_arg1)) 4 k

def invariant (c : Dev nD) (p : ℕ) : sProp 𝕄 := iprop((∃ r, prngReg c r) ∗ held m c ((p + 10) / 11))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => k0_pay2 (iblk m c 1 t) (iblk m c 0 t) (weightsAt m c t)
    | ⟨3, _⟩ => k0_pay3 (iblk m c 1 t) (iblk m c 0 t) (weightsAt m c t)
  Φ t := invariant m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = k0_pay2 (iblk m c 1 t) (iblk m c 0 t) (weightsAt m c t) := by dsimp only [dats]
theorem after3 (c : Dev nD) (t : Fin cfg0.N) :
    (dats m 0 c).after 3 t = k0_pay3 (iblk m c 1 t) (iblk m c 0 t) (weightsAt m c t) := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)

/-! ## The body at any point -/

abbrev tokens (t : Fin cfg0.N) : Memref sig .tc .vmem S768x4096 .bf16 := win0_0.stage (cfg0.slots t 0)
abbrev acts (t : Fin cfg0.N) : Memref sig .tc .vmem S768x1024 .f32 := win0_1.stage (cfg0.slots t 1)
abbrev wide (t : Fin cfg0.N) : Memref sig .tc .vmem S768x1024 .f32 := win0_2.stage (cfg0.slots t 2)
abbrev narrow (t : Fin cfg0.N) : Memref sig .tc .vmem S768x1024 .bf16 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (tokens t) fullShare ((dats m 0 c).before 0 t d))
    ∗ (∃ d, owns (c : Thread nD τ) (acts t) fullShare ((dats m 0 c).before 1 t d))
    ∗ (∃ d, owns (c : Thread nD τ) (wide t) fullShare ((dats m 0 c).before 2 t d))
    ∗ (∃ d, owns (c : Thread nD τ) (narrow t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (tokens t) fullShare ((dats m 0 c).after 0 t)
    ∗ owns (c : Thread nD τ) (acts t) fullShare ((dats m 0 c).after 1 t)
    ∗ owns (c : Thread nD τ) (wide t) fullShare ((dats m 0 c).after 2 t)
    ∗ owns (c : Thread nD τ) (narrow t) fullShare ((dats m 0 c).after 3 t))

/-- The blocks at a point before its body, and after it. -/
abbrev givenAt (c : Dev nD) (t : Fin cfg0.N) : sProp 𝕄 :=
  given c (tokens t) (acts t) (wide t) (narrow t) (iblk m c 0 t) (iblk m c 1 t)
abbrev leftAt (c : Dev nD) (t : Fin cfg0.N) : sProp 𝕄 :=
  left c (tokens t) (acts t) (wide t) (narrow t) (iblk m c 0 t) (iblk m c 1 t) (weightsAt m c t)

/-- The invariant around a point's body, the rest of what the body is called with alongside. -/
theorem sound_of (c : Dev nD) (t : Fin cfg0.N)
    (run : ∀ (Wt : Waits sig Unit) (K : PUnit → sProp 𝕄),
      iprop(givenAt m c t ∗ held m c ((t.val + 10) / 11) ∗ owes (c : Thread nD τ) 0 Wt
          ∗ (iprop(leftAt m c t ∗ held m c ((t.val + 1 + 10) / 11) ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1]
  rw [after0, after1, after2, after3, show (dats m 0 c).Φ t.castSucc = invariant m c t.val from rfl,
    show (dats m 0 c).Φ t.succ = invariant m c (t.val + 1) from rfl]
  unfold Dat.owesAt Pipeline.owesWithin invariant
  rw [show (dats m 0 c).owed t.castSucc = 0 from rfl, show (dats m 0 c).owed t.succ = 0 from rfl]
  unfold givenAt leftAt given left at run
  iintro ⟨⟨Hg, HB⟩, ⟨%Wt, -, HW⟩, ⟨%d0, H0⟩, ⟨%d1, H1⟩, ⟨%d2, H2⟩, ⟨%d3, H3⟩⟩
  iapply (run Wt _)
  isplitl [H0 H1 H2 H3]
  · isplitl [H0]; · iexact H0
    isplitl [H1]; · iexact H1
    isplitl [H2]; · iexists _; iexact H2
    iexists _; iexact H3
  isplitl [HB]; · iexact HB
  isplitl [HW]; · iexact HW
  iintro ⟨HO, HB, ⟨%W', HW'⟩⟩
  isplitl [Hg HB]
  · isplitl [Hg]; · iexact Hg
    iexact HB
  isplitl [HW']
  · iexists W'; isplitr; · ipureintro; exact fun _ _ => Or.inl trivial
    iexact HW'
  iexact HO

set_option maxHeartbeats 1000000 in
theorem sound (c : Dev nD) (t : Fin cfg0.N) :
    bodyPre m c t ⊢ wp frame (wpE (defs₀ (F := F)) Variants.none c none) Set.univ (bodyAt0 t) (fun _ => bodyPost m c t) := by
  have hN : t.val < 44 := lt_of_lt_of_eq t.isLt N_0
  obtain ⟨k, hk⟩ : ∃ k, t.val / 11 = k := ⟨_, rfl⟩
  refine sound_of m c t fun Wt K => ?_
  unfold leftAt weightsAt
  by_cases h0 : t.val % 11 = 0
  · have c0 := (starts_iff t).mpr h0
    rw [show (t.val + 10) / 11 = k by omega, show (t.val + 1 + 10) / 11 = k + 1 by omega]
    rcases k with _ | j
    · have B := body_first c (V m c main_arg1) t (tokens t) (hstage0_0 ((cfg0.slots t 0).cast nbuf0_0)) (acts t) (hstage0_1 ((cfg0.slots t 1).cast nbuf0_1)) (wide t) (hstage0_2 ((cfg0.slots t 2).cast nbuf0_2)) (narrow t) (hstage0_3 ((cfg0.slots t 3).cast nbuf0_3)) (iblk m c 0 t) (iblk m c 1 t) c0 ((first_iff t).mpr (by omega)) ((more_iff t).mpr (by omega)) (half 0) (half 1) Wt K
      rw [hk] at B ⊢
      iintro ⟨HI, HB, HW, Hk⟩
      ihave HB' := (Staging.first (parts c (V m c main_arg1)) 4 (by decide)) $$ HB
      icases HB' with ⟨HS, HU, HC, HL, HR, Hback⟩
      iapply B
      isplitl [HI]; · iexact HI
      isplitl [HS]; · iexact HS
      isplitl [HU]; · iexact HU
      isplitl [HC]; · iexact HC
      isplitl [HL]; · iexact HL
      isplitl [HR]; · iexact HR
      isplitl [HW]; · iexact HW
      iintro ⟨HO, HK, HL, HF, HW⟩
      iapply Hk
      isplitl [HO]; · iexact HO
      isplitl [Hback HK HL HF]
      · iapply Hback
        isplitl [HK]; · iexact HK
        isplitl [HL]; · iexact HL
        iexact HF
      iexact HW
    · have c1 : ¬First (grid0.coords t) := fun h => absurd ((first_iff t).mp h) (by omega)
      by_cases h2 : t.val < 33
      · have B := body_next c (V m c main_arg1) t (tokens t) (hstage0_0 ((cfg0.slots t 0).cast nbuf0_0)) (acts t) (hstage0_1 ((cfg0.slots t 1).cast nbuf0_1)) (wide t) (hstage0_2 ((cfg0.slots t 2).cast nbuf0_2)) (narrow t) (hstage0_3 ((cfg0.slots t 3).cast nbuf0_3)) (iblk m c 0 t) (iblk m c 1 t) c0 c1 ((more_iff t).mpr h2) (half (j + 1)) (half (j + 1 + 1)) Wt K
        rw [hk] at B ⊢
        iintro ⟨HI, HB, HW, Hk⟩
        ihave HB' := (Staging.next (parts c (V m c main_arg1)) 4 j (by omega)) $$ HB
        icases HB' with ⟨HS, HF, HR, Hback⟩
        iapply B
        isplitl [HI]; · iexact HI
        isplitl [HS]; · iexact HS
        isplitl [HF]; · iexact HF
        isplitl [HR]; · iexact HR
        isplitl [HW]; · iexact HW
        iintro ⟨HO, HK, HL, HF, HW⟩
        iapply Hk
        isplitl [HO]; · iexact HO
        isplitl [Hback HK HL HF]
        · iapply Hback
          isplitl [HK]; · iexact HK
          isplitl [HL]; · iexact HL
          iexact HF
        iexact HW
      · obtain rfl : j = 2 := by omega
        have B := body_last c (V m c main_arg1) t (tokens t) (hstage0_0 ((cfg0.slots t 0).cast nbuf0_0)) (acts t) (hstage0_1 ((cfg0.slots t 1).cast nbuf0_1)) (wide t) (hstage0_2 ((cfg0.slots t 2).cast nbuf0_2)) (narrow t) (hstage0_3 ((cfg0.slots t 3).cast nbuf0_3)) (iblk m c 0 t) (iblk m c 1 t) c0 c1 (fun h => h2 ((more_iff t).mp h)) (half 3) Wt K
        rw [hk] at B ⊢
        iintro ⟨HI, HB, HW, Hk⟩
        ihave HB' := (Staging.last (parts c (V m c main_arg1)) 2) $$ HB
        icases HB' with ⟨HS, HF, Hback⟩
        iapply B
        isplitl [HI]; · iexact HI
        isplitl [HS]; · iexact HS
        isplitl [HF]; · iexact HF
        isplitl [HW]; · iexact HW
        iintro ⟨HO, HK, HL, HS, HC, HW⟩
        iapply Hk
        isplitl [HO]; · iexact HO
        isplitl [Hback HK HL HS HC]
        · iapply Hback
          isplitl [HK]; · iexact HK
          isplitl [HL]; · iexact HL
          isplitl [HS]; · iexact HS
          iexact HC
        iexact HW
  · rw [show (t.val + 10) / 11 = k + 1 by omega, show (t.val + 1 + 10) / 11 = k + 1 by omega, hk]
    iintro ⟨HI, HB, HW, Hk⟩
    ihave HB' := (Staging.later (parts c (V m c main_arg1)) 4 k) $$ HB
    icases HB' with ⟨HS, Hback⟩
    iapply (body_later c t (tokens t) (hstage0_0 ((cfg0.slots t 0).cast nbuf0_0)) (acts t) (hstage0_1 ((cfg0.slots t 1).cast nbuf0_1)) (wide t) (hstage0_2 ((cfg0.slots t 2).cast nbuf0_2)) (narrow t) (hstage0_3 ((cfg0.slots t 3).cast nbuf0_3)) (iblk m c 0 t) (iblk m c 1 t) (fun h => h0 ((starts_iff t).mp h)) (k0_pay1 (entries c (V m c main_arg1) (col k))) Wt K)
    isplitl [HI]; · iexact HI
    isplitl [HS]; · iexact HS
    isplitl [HW]; · iexact HW
    iintro ⟨HO, HK, HW⟩
    iapply Hk
    isplitl [HO]; · iexact HO
    isplitl [Hback HK]
    · iapply Hback
      iexact HK
    iexact HW

/-! ## The launch -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

abbrev cells : Fin 1 → SemLoc sig := fun _ => SemLoc.dma 8
theorem cells_own : Pipeline.OwnSemFacts spec0 cells := by decide
theorem weights_rest : ({main_arg1} : Finset (Ref sig .tc)) ⊆ Pipeline.restRefs sig spec0 := by decide

theorem launch_eq (c : Dev nD) :
    (Pipeline.ΦD cells spec0 {main_arg1} (V m) c : sProp 𝕄)
      = iprop(iprop((∃ d, owns (c : Thread nD τ) slot fullShare d) ∗ (∃ d, owns (c : Thread nD τ) kept fullShare d)) ∗ (∃ r, prngReg c r)
          ∗ cellAt c ∗ (((c : Thread nD τ).loc main_arg1) ↦{fullShare} V m c main_arg1)) := by
  rw [Pipeline.ΦD_eq, scopedRest0_eq, Pipeline.ownSems0_eq_of_list c cells [0] (by decide) (by decide),
    BI.bigSep_eq_bigSepL_of_eq [main_arg1] (by decide) (by decide)]
  simp only [slot, kept, owns_whole]; rfl

theorem slot_in (c : Dev nD) : iprop(∃ d, owns (c : Thread nD τ) slot fullShare d) ⊢ (iprop(∃ f, slotAt c f) : sProp 𝕄) := by
  unfold owns
  iintro ⟨%d, %f, -, H⟩
  iexists f; iexact H

theorem slot_out (c : Dev nD) : (iprop(∃ f, slotAt c f) : sProp 𝕄) ⊢ iprop(∃ d, owns (c : Thread nD τ) slot fullShare d) := by
  unfold owns
  iintro ⟨%f, H⟩
  iexists _, f
  isplitr; · ipureintro; rfl
  iexact H

theorem start (c : Dev nD) : Pipeline.ΦD cells spec0 {main_arg1} (V m) c ⊢ (dats m 0 c).Φ 0 := by
  rw [launch_eq, show (dats m 0 c).Φ 0 = invariant m c 0 from rfl]
  unfold invariant
  iintro ⟨⟨HS, HK⟩, Hg, HC, HW⟩
  ihave HW' := (halves c (V m c main_arg1)).1 $$ HW
  icases HW' with ⟨HL, HR⟩
  ihave HS' := (slot_in c) $$ HS
  isplitl [Hg]; · iexact Hg
  iapply (Staging.start (parts c (V m c main_arg1)) 4)
  isplitl [HK]; · iexact HK
  isplitl [HS']; · iexact HS'
  isplitl [HC]; · iexact HC
  isplitl [HL]; · iexact HL
  iexact HR

theorem finish (c : Dev nD) : (dats m 0 c).Φ (Fin.last cfg0.N) ⊢ Pipeline.ΦD cells spec0 {main_arg1} (V m) c := by
  rw [launch_eq, show (dats m 0 c).Φ (Fin.last cfg0.N) = invariant m c grid0.N from rfl]
  unfold invariant
  rw [N_0, show (44 + 10) / 11 = 3 + 1 from rfl]
  iintro ⟨Hg, HB⟩
  ihave HB' := (Staging.finish (parts c (V m c main_arg1)) 3 rfl) $$ HB
  icases HB' with ⟨HK, HS, HC, HL, HR⟩
  ihave HS' := (slot_out c) $$ HS
  isplitl [HS' HK]
  · isplitl [HS']; · iexact HS'
    iexact HK
  isplitl [Hg]; · iexact Hg
  isplitl [HC]; · iexact HC
  iapply (halves c (V m c main_arg1)).2
  isplitl [HL]; · iexact HL
  iexact HR

-- the launch theorem's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cells defs₀ Variants.none cells_own {main_arg1} weights_rest m ρ main
    (hbody := fun c => (obligation m c).loose) (hshare := fun c => (dats m 0 c).share_full fun _ => rfl)
    (howed := fun _ _ => rfl) (V := V m) (hmain := Pipeline.hmain_region cfgs 0 defs₀ Variants.none m main fun c => (main_chain c).trans rfl)
    (hA := A_eq m) (hin := start m) (hout := finish m)

/-- Every run ends with the results at what the points left, the arguments as they were and nothing in flight. -/
theorem run : θ_run defs (onTc (τ := τ) (main (F := F))) ⟨m, fun _ => 0, ρ⟩ (fun r => (∀ c : Dev nD,
      r.2.mem ((c.tc : Thread nD τ).loc main_v0_0) = (dats m 0 c).arrAt 2 cfg0.N
      ∧ r.2.mem ((c.tc : Thread nD τ).loc main_v0_1) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 2, (h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c)))⟩, h.2⟩) (run_main m ρ)

/-- The arguments as they were and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2, h.2⟩) (run m ρ)

end Outproj

end
-- ==== Proof.OutprojValue.lean ====
/- The output projection over the extended reals: what the points leave, put together, is the activations and the product of
   the tokens and the weights added to them. -/
module

public import proofs.«01_k».proof.Proof.OutprojRun
public import proofs.«01_k».proof.Proof.Gen.Reference4Ideal.Run
public import Idealize.ShloMosaic.Lib.Pipeline.ValueKit
public import Idealize.ShloMosaic.Lib.ValueLayout

@[expose] public section

set_option maxRecDepth 16384

noncomputable section

namespace Outproj

open Idealize.ShloMosaic Idealize.ShloMosaic.TcCoe Idealize.SL.Sem
open Cert.Kernel4Ideal Cert.Kernel4Ideal.Gen

variable (m : (ℓ : Loc nD τ sig) → Buf (Elt Ideal) ℓ)

/-- Where the windows' blocks lie: 11 points for a column of the weights, one for each 768 tokens. -/
theorem idx : ∀ t : Fin cfg0.N, win0_0.index t = ![t.val % 11, 0] ∧ win0_1.index t = ![t.val % 11, t.val / 11]
    ∧ win0_2.index t = ![t.val % 11, t.val / 11] ∧ win0_3.index t = ![t.val % 11, t.val / 11] :=
  (by decide +kernel : ∀ t : Fin grid0.N, _)

/-- Activations and tokens by a column of weights, at an index. -/
theorem updated_at (y : FVec Ideal S768x1024 .f32) (x : FVec Ideal S768x4096 .bf16) (w : FVec Ideal S4096x1024 .f32) (i : Fin 768) (n : Fin 1024) :
    k0_pay2 (F := Ideal) y x (k0_pay1 (F := Ideal) w) (ix2 i n)
      = (show EReal from y (ix2 i n)) + ∑ k : Fin 4096, (show EReal from x (ix2 i k)) * w (ix2 k n) := by
  pointwise [k0_pay2, k0_pay1]

/-- The tokens of a point, -/
theorem tokens_at (c : Dev nD) (t : Fin cfg0.N) (i : Fin 768) (k : Fin 4096) (r : Fin 8448) (hr : r.val = t.val % 11 * 768 + i.val) :
    iblk m c 0 t (ix2 i k) = m ((c : Thread nD τ).loc main_arg0) (ix2 r k) := by
  have h := idx t
  blk_ext [iblk, V, h]

/-- and its activations. -/
theorem acts_at (c : Dev nD) (t : Fin cfg0.N) (i : Fin 768) (n : Fin 1024) (r : Fin 8448) (j : Fin 4096)
    (hr : r.val = t.val % 11 * 768 + i.val) (hj : j.val = 1024 * (t.val / 11) + n.val) :
    iblk m c 1 t (ix2 i n) = m ((c : Thread nD τ).loc main_arg2) (ix2 r j) := by
  have h := idx t
  blk_ext [iblk, V, h]

/-- The entries of a column of the weights. -/
theorem entries_at (c : Dev nD) (W : Held (F := Ideal) c weights) (b : Fin 4) (k : Fin 4096) (n : Fin 1024) (j : Fin 4096)
    (hj : j.val = 1024 * b.val + n.val) : entries c W b (ix2 k n) = W (ix3 0 k j) := by
  unfold entries column
  refine (congrFun (Memref.read_squeeze_slice weights _ (fun _ => rfl) squeezes_S1x4096x1024_S4096x1024
    (show S1x4096x1024.ShapeCasts S4096x1024 by decide) W) (ix2 k n)).trans ?_
  refine (ValueIdx.shapeCast_1ab_ab_apply _ _ k n).trans ?_
  refine congrArg W (funext fun a => Fin.ext ?_)
  fin_cases a
  · rfl
  · show 0 + 1 * k.val = k.val; omega
  · show 1024 * b.val + 1 * n.val = j.val; omega

/-- The reference's results. -/
abbrev updated (x : FVec Ideal Cert.Reference4Ideal.S8448x4096 .bf16) (w : FVec Ideal Cert.Reference4Ideal.S4x4096x4096 .f32)
    (y : FVec Ideal Cert.Reference4Ideal.S8448x4096 .f32) : FVec Ideal Cert.Reference4Ideal.S8448x4096 .f32 :=
  addf y (Host.dotGeneral Cert.Reference4Ideal.dot_S8448x4096_S4096x4096_S8448x4096_1_0_0_1_n_n none (extf .f32 x Cert.Reference4Ideal.Gen.bitsLt_bf16_f32)
    (shapeCast _ (extractStridedSlice Cert.Reference4Ideal.S1x4096x4096 ![0, 0, 0] w Cert.Reference4Ideal.Gen.slices_S4x4096x4096_S1x4096x4096_0_0_0)
      Cert.Reference4Ideal.Gen.shapeCasts_S1x4096x4096_S4096x4096))
abbrev narrowed (x : FVec Ideal Cert.Reference4Ideal.S8448x4096 .bf16) (w : FVec Ideal Cert.Reference4Ideal.S4x4096x4096 .f32)
    (y : FVec Ideal Cert.Reference4Ideal.S8448x4096 .f32) : FVec Ideal Cert.Reference4Ideal.S8448x4096 .bf16 :=
  truncf .bf16 (updated x w y) Cert.Reference4Ideal.Gen.bitsLt_bf16_f32

theorem reference_at (x : FVec Ideal Cert.Reference4Ideal.S8448x4096 .bf16) (w : FVec Ideal Cert.Reference4Ideal.S4x4096x4096 .f32)
    (y : FVec Ideal Cert.Reference4Ideal.S8448x4096 .f32) (r : Fin 8448) (j : Fin 4096) :
    updated x w y (ix2 r j) = (show EReal from y (ix2 r j)) + ∑ k : Fin 4096, (show EReal from x (ix2 r k)) * w (ix3 0 k j) := by
  pointwise []

/-- A point's activations are the reference's at its tokens and columns. -/
theorem point_at (c : Dev nD) (t : Fin cfg0.N) (i : Fin 768) (n : Fin 1024) (r : Fin 8448) (j : Fin 4096)
    (hr : r.val = t.val % 11 * 768 + i.val) (hj : j.val = 1024 * (t.val / 11) + n.val) :
    k0_pay2 (F := Ideal) (iblk m c 1 t) (iblk m c 0 t) (weightsAt m c t) (ix2 i n)
      = updated (m ((c : Thread nD τ).loc main_arg0)) (m ((c : Thread nD τ).loc main_arg1)) (m ((c : Thread nD τ).loc main_arg2)) (ix2 r j) := by
  have l : t.val < 44 := t.isLt
  rw [reference_at]
  refine (updated_at (iblk m c 1 t) (iblk m c 0 t) (entries c (V m c main_arg1) (col (t.val / 11))) i n).trans ?_
  rw [acts_at m c t i n r j hr hj]
  refine congrArg _ (Finset.sum_congr rfl fun k _ => ?_)
  rw [tokens_at m c t i k r hr, entries_at c _ (col (t.val / 11)) k n j
    (by show _ = 1024 * (t.val / 11 % 4) + n.val; rw [Nat.mod_eq_of_lt (by omega), hj])]

/-- The array of activations, -/
theorem final_wide (c : Dev nD) : (dats m 0 c).arrAt 2 cfg0.N
    = updated (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after2]
  have hx := idx t
  obtain ⟨i, n, rfl⟩ : ∃ (i : Fin 768) (n : Fin 1024), y = ix2 i n := ⟨y 0, y 1, funext fun a => by fin_cases a <;> rfl⟩
  have l : t.val < 44 := t.isLt
  refine (point_at m c t i n ⟨t.val % 11 * 768 + i.val, by omega⟩ ⟨1024 * (t.val / 11) + n.val, by omega⟩ rfl rfl).trans (congrArg (updated _ _ _) ?_)
  blk_ext [hx]

/-- and that of the same cast. -/
theorem final_narrow (c : Dev nD) : (dats m 0 c).arrAt 3 cfg0.N
    = narrowed (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after3]
  have hx := idx t
  obtain ⟨i, n, rfl⟩ : ∃ (i : Fin 768) (n : Fin 1024), y = ix2 i n := ⟨y 0, y 1, funext fun a => by fin_cases a <;> rfl⟩
  have l : t.val < 44 := t.isLt
  refine (point_at m c t i n ⟨t.val % 11 * 768 + i.val, by omega⟩ ⟨1024 * (t.val / 11) + n.val, by omega⟩ rfl rfl).trans (congrArg (updated _ _ _) ?_)
  blk_ext [hx]

end Outproj

end
-- ==== Proof.PleBody.lean ====
/- The embedding gate's body at one point of its grid, run from what the points before it left: of its two arrays of
   weights, the gate's and the embedding's, the columns that are in flight and those cast and kept, and the blocks of
   tokens, embeddings and activations. -/
module

public import proofs.«01_k».proof.Proof.Gen.Kernel5Ideal.Frame
public import proofs.«01_k».proof.Proof.Gen.Kernel5Ideal.Skeleton
public import proofs.«01_k».proof.Proof.Staging
public import Idealize.ShloMosaic.Lib.VecWindow

@[expose] public section

set_option maxRecDepth 16384

noncomputable section

namespace Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

/-! ## Where a point is: its column starts, its column is the first, a column is left to start -/

abbrev Starts (i : grid0.Coords) : Prop := k0_cond1 i = 1#1
abbrev First (i : grid0.Coords) : Prop :=
  Scalar.cmpi .ne (Scalar.extui (Scalar.cmpi .eq (BitVec.ofNat 32 (i 0).val) 0#32)) 0#32 = 1#1
abbrev More (i : grid0.Coords) : Prop := k0_cond3 i = 1#1

theorem starts_iff : ∀ t : Fin cfg0.N, Starts (grid0.coords t) ↔ t.val % 11 = 0 :=
  (by decide +kernel : ∀ t : Fin grid0.N, Starts (grid0.coords t) ↔ t.val % 11 = 0)
theorem first_iff : ∀ t : Fin cfg0.N, First (grid0.coords t) ↔ t.val < 11 :=
  (by decide +kernel : ∀ t : Fin grid0.N, First (grid0.coords t) ↔ t.val < 11)
theorem more_iff : ∀ t : Fin cfg0.N, More (grid0.coords t) ↔ t.val < 33 :=
  (by decide +kernel : ∀ t : Fin grid0.N, More (grid0.coords t) ↔ t.val < 33)

/-! ## The columns of the weights, and what holds them -/

def col (k : ℕ) : Fin 4 := ⟨k % 4, Nat.mod_lt _ (by decide)⟩

abbrev Held (c : Dev nD) {sp : Space} {S : Shape} {e : EltTy} (M : Memref sig .tc sp S e) : Type := Buf (Elt F) (M.view.loc (c : Thread nD τ))

/-! Both arrays' columns are cut out at the same places. -/
theorem off_first : ∀ t : Fin grid0.N, Starts (grid0.coords t) → First (grid0.coords t) → (![0, 0, 0] : Fin 3 → Nat) = ![0, 0, 1024 * (col (t.val / 11)).val] := by
  decide +kernel
theorem off_this : ∀ t : Fin grid0.N, Starts (grid0.coords t) → k0_off1 (grid0.coords t) = ![0, 0, 1024 * (col (t.val / 11)).val] := by
  decide +kernel
theorem off_next : ∀ t : Fin grid0.N, Starts (grid0.coords t) → More (grid0.coords t) → k0_off3 (grid0.coords t) = ![0, 0, 1024 * (col (t.val / 11 + 1)).val] := by
  decide +kernel

/-! ### The gate's -/

namespace Gate

abbrev weights : Memref sig .tc .hbm S4x4096x4096 .f32 := Memref.whole main_arg1
abbrev slot : Memref sig .tc .vmem S4096x1024 .f32 := Memref.whole cc0_scratch0
abbrev kept : Memref sig .tc .vmem S4096x1024 .bf16 := Memref.whole cc0_scratch1

theorem inb_col (b : Fin 4) : ∀ a, (![0, 0, 1024 * b.val] : Fin 3 → Nat) a + S1x4096x1024.size a ≤ S4x4096x4096.size a := by
  have := b.isLt; intro a; fin_cases a <;> simp <;> omega

/-- Column `b` of them, as the transfers name it. -/
def column (b : Fin 4) : Memref sig .tc .hbm S4096x1024 .f32 :=
  (weights.slice (Rect.unit (s := S4x4096x4096) ![0, 0, 1024 * b.val] S1x4096x1024.size (inb_col b)) (fun _ => rfl)).squeeze
    S4096x1024 squeezes_S1x4096x1024_S4096x1024

variable (c : Dev nD) (W : Held (F := F) c weights)

/-- The entries of column `b`. -/
def entries (b : Fin 4) : Vec F S4096x1024 .f32 := (column b).view.read (Elt F) W

abbrev slotAt (f : Held (F := F) c slot) : sProp 𝕄 := slot.view.loc (c : Thread nD τ) ↦[slot.view.set]{fullShare} f
abbrev cellAt : sProp 𝕄 := semVal ((c : Thread nD τ), SemLoc.dma 8) 0
abbrev colAt (q : PosShare TreeShare) (b : Fin 4) : sProp 𝕄 := (column b).view.loc (c : Thread nD τ) ↦[(column b).view.set]{q} W
abbrev landed (b : Fin 4) (f : Held (F := F) c slot) : Held (F := F) c slot :=
  slot.view.writes (Elt F) f [⟨Rect.whole S4096x1024, ReadAs.same.apply ((column b).view.read (Elt F) W)⟩]
abbrev flight (q : PosShare TreeShare) (b : Fin 4) (f : Held (F := F) c slot) : sProp 𝕄 :=
  Transfers.Flight countersEmb (c : Thread nD τ) (SemLoc.dma 8) default (slot.view.amount (SemLoc.dma (sig := sig) 8))
    iprop(slotAt c (landed c W b f) ∗ colAt c W q b)

abbrev parts : Staging.Parts 𝕄 where
  buffer := iprop(∃ f, slotAt c f)
  cell := cellAt c
  scratch := iprop(∃ d, owns (c : Thread nD τ) kept fullShare d)
  kept k := owns (c : Thread nD τ) kept fullShare (k0_pay1 (entries c W (col k)))
  flight q k := iprop(∃ f, flight c W q (col k) f)
  column q k := colAt c W q (col k)
  rest q k := ((c : Thread nD τ).loc main_arg1) ↦[Finset.univ \ (column (col k)).view.set]{q} W
  whole q := ((c : Thread nD τ).loc main_arg1) ↦[Finset.univ]{q} W
  split q k := pointsTo_split_subset (Finset.subset_univ _)
  forget k := by iintro H; iexists _; iexact H

section Canon
omit [FloatOps F]

@[sl_canon] theorem canon_first (t : Fin grid0.N) (h0 : Starts (grid0.coords t)) (h1 : First (grid0.coords t)) :
    (weights.slice (Rect.unit (s := S4x4096x4096) ![0, 0, 0] S1x4096x1024.size inb_S4x4096x4096_S1x4096x1024_0_0_0) (fun _ => rfl)).squeeze
      S4096x1024 squeezes_S1x4096x1024_S4096x1024 = column (col (t.val / 11)) :=
  congrArg (fun M : Memref sig .tc .hbm S1x4096x1024 .f32 => M.squeeze S4096x1024 squeezes_S1x4096x1024_S4096x1024)
    (Memref.slice_unit_congr _ (off_first t h0 h1) _ _ (fun _ => rfl) (fun _ => rfl))
@[sl_canon] theorem canon_this (t : Fin grid0.N) (h0 : Starts (grid0.coords t)) :
    (weights.slice (Rect.unit (s := S4x4096x4096) (k0_off1 (grid0.coords t)) S1x4096x1024.size (k0_off1_inb (grid0.coords t) h0)) (fun _ => rfl)).squeeze
      S4096x1024 squeezes_S1x4096x1024_S4096x1024 = column (col (t.val / 11)) :=
  congrArg (fun M : Memref sig .tc .hbm S1x4096x1024 .f32 => M.squeeze S4096x1024 squeezes_S1x4096x1024_S4096x1024)
    (Memref.slice_unit_congr _ (off_this t h0) _ _ (fun _ => rfl) (fun _ => rfl))
@[sl_canon] theorem canon_next (t : Fin grid0.N) (h0 : Starts (grid0.coords t)) (h2 : More (grid0.coords t)) :
    (weights.slice (Rect.unit (s := S4x4096x4096) (k0_off3 (grid0.coords t)) S1x4096x1024.size (k0_off3_inb (grid0.coords t) h0 h2)) (fun _ => rfl)).squeeze
      S4096x1024 squeezes_S1x4096x1024_S4096x1024 = column (col (t.val / 11 + 1)) :=
  congrArg (fun M : Memref sig .tc .hbm S1x4096x1024 .f32 => M.squeeze S4096x1024 squeezes_S1x4096x1024_S4096x1024)
    (Memref.slice_unit_congr _ (off_next t h0 h2) _ _ (fun _ => rfl) (fun _ => rfl))

end Canon

end Gate

/-! ### The embedding's -/

namespace Emb

abbrev weights : Memref sig .tc .hbm S4x256x4096 .f32 := Memref.whole main_arg3
abbrev slot : Memref sig .tc .vmem S256x1024 .f32 := Memref.whole cc0_scratch2
abbrev kept : Memref sig .tc .vmem S256x1024 .bf16 := Memref.whole cc0_scratch3

theorem inb_col (b : Fin 4) : ∀ a, (![0, 0, 1024 * b.val] : Fin 3 → Nat) a + S1x256x1024.size a ≤ S4x256x4096.size a := by
  have := b.isLt; intro a; fin_cases a <;> simp <;> omega

/-- Column `b` of them, as the transfers name it. -/
def column (b : Fin 4) : Memref sig .tc .hbm S256x1024 .f32 :=
  (weights.slice (Rect.unit (s := S4x256x4096) ![0, 0, 1024 * b.val] S1x256x1024.size (inb_col b)) (fun _ => rfl)).squeeze
    S256x1024 squeezes_S1x256x1024_S256x1024

variable (c : Dev nD) (W : Held (F := F) c weights)

/-- The entries of column `b`. -/
def entries (b : Fin 4) : Vec F S256x1024 .f32 := (column b).view.read (Elt F) W

abbrev slotAt (f : Held (F := F) c slot) : sProp 𝕄 := slot.view.loc (c : Thread nD τ) ↦[slot.view.set]{fullShare} f
abbrev cellAt : sProp 𝕄 := semVal ((c : Thread nD τ), SemLoc.dma 9) 0
abbrev colAt (q : PosShare TreeShare) (b : Fin 4) : sProp 𝕄 := (column b).view.loc (c : Thread nD τ) ↦[(column b).view.set]{q} W
abbrev landed (b : Fin 4) (f : Held (F := F) c slot) : Held (F := F) c slot :=
  slot.view.writes (Elt F) f [⟨Rect.whole S256x1024, ReadAs.same.apply ((column b).view.read (Elt F) W)⟩]
abbrev flight (q : PosShare TreeShare) (b : Fin 4) (f : Held (F := F) c slot) : sProp 𝕄 :=
  Transfers.Flight countersEmb (c : Thread nD τ) (SemLoc.dma 9) default (slot.view.amount (SemLoc.dma (sig := sig) 9))
    iprop(slotAt c (landed c W b f) ∗ colAt c W q b)

abbrev parts : Staging.Parts 𝕄 where
  buffer := iprop(∃ f, slotAt c f)
  cell := cellAt c
  scratch := iprop(∃ d, owns (c : Thread nD τ) kept fullShare d)
  kept k := owns (c : Thread nD τ) kept fullShare (k0_pay2 (entries c W (col k)))
  flight q k := iprop(∃ f, flight c W q (col k) f)
  column q k := colAt c W q (col k)
  rest q k := ((c : Thread nD τ).loc main_arg3) ↦[Finset.univ \ (column (col k)).view.set]{q} W
  whole q := ((c : Thread nD τ).loc main_arg3) ↦[Finset.univ]{q} W
  split q k := pointsTo_split_subset (Finset.subset_univ _)
  forget k := by iintro H; iexists _; iexact H

section Canon
omit [FloatOps F]

@[sl_canon] theorem canon_first (t : Fin grid0.N) (h0 : Starts (grid0.coords t)) (h1 : First (grid0.coords t)) :
    (weights.slice (Rect.unit (s := S4x256x4096) ![0, 0, 0] S1x256x1024.size inb_S4x256x4096_S1x256x1024_0_0_0) (fun _ => rfl)).squeeze
      S256x1024 squeezes_S1x256x1024_S256x1024 = column (col (t.val / 11)) :=
  congrArg (fun M : Memref sig .tc .hbm S1x256x1024 .f32 => M.squeeze S256x1024 squeezes_S1x256x1024_S256x1024)
    (Memref.slice_unit_congr _ (off_first t h0 h1) _ _ (fun _ => rfl) (fun _ => rfl))
@[sl_canon] theorem canon_this (t : Fin grid0.N) (h0 : Starts (grid0.coords t)) :
    (weights.slice (Rect.unit (s := S4x256x4096) (k0_off2 (grid0.coords t)) S1x256x1024.size (k0_off2_inb (grid0.coords t) h0)) (fun _ => rfl)).squeeze
      S256x1024 squeezes_S1x256x1024_S256x1024 = column (col (t.val / 11)) :=
  congrArg (fun M : Memref sig .tc .hbm S1x256x1024 .f32 => M.squeeze S256x1024 squeezes_S1x256x1024_S256x1024)
    (Memref.slice_unit_congr _ (off_this t h0) _ _ (fun _ => rfl) (fun _ => rfl))
@[sl_canon] theorem canon_next (t : Fin grid0.N) (h0 : Starts (grid0.coords t)) (h2 : More (grid0.coords t)) :
    (weights.slice (Rect.unit (s := S4x256x4096) (k0_off4 (grid0.coords t)) S1x256x1024.size (k0_off4_inb (grid0.coords t) h0 h2)) (fun _ => rfl)).squeeze
      S256x1024 squeezes_S1x256x1024_S256x1024 = column (col (t.val / 11 + 1)) :=
  congrArg (fun M : Memref sig .tc .hbm S1x256x1024 .f32 => M.squeeze S256x1024 squeezes_S1x256x1024_S256x1024)
    (Memref.slice_unit_congr _ (off_next t h0 h2) _ _ (fun _ => rfl) (fun _ => rfl))

end Canon

end Emb

/-! ## What the body takes and gives back -/

variable (c : Dev nD) (W : Held (F := F) c Gate.weights) (V : Held (F := F) c Emb.weights)

/-- Both arrays' parts. -/
abbrev parts : Staging.Parts 𝕄 := Staging.both (Gate.parts c W) (Emb.parts c V)

variable (t : Fin cfg0.N) (arg2 : Memref sig .tc .vmem S768x4096 .bf16) (harg2 : arg2.IsWhole)
  (arg4 : Memref sig .tc .vmem S768x256 .bf16) (harg4 : arg4.IsWhole) (arg6 : Memref sig .tc .vmem S768x1024 .f32) (harg6 : arg6.IsWhole)
  (arg7 : Memref sig .tc .vmem S768x1024 .f32) (harg7 : arg7.IsWhole) (x : Vec F S768x4096 .bf16) (e : Vec F S768x256 .bf16) (y : Vec F S768x1024 .f32)

/-- The blocks before the body, -/
def given : sProp 𝕄 := iprop(owns (c : Thread nD τ) arg2 fullShare x ∗ owns (c : Thread nD τ) arg4 fullShare e
  ∗ owns (c : Thread nD τ) arg6 fullShare y ∗ (∃ d, owns (c : Thread nD τ) arg7 fullShare d))

/-- and after it, from the columns kept. -/
def left (w : Vec F S4096x1024 .bf16) (v : Vec F S256x1024 .bf16) : sProp 𝕄 := iprop(owns (c : Thread nD τ) arg2 fullShare x
  ∗ owns (c : Thread nD τ) arg4 fullShare e ∗ owns (c : Thread nD τ) arg6 fullShare y ∗ owns (c : Thread nD τ) arg7 fullShare (k0_pay3 x w e v y))

set_option maxHeartbeats 2000000 in
/-- At a point that does not start a column those kept are used. -/
theorem body_later (h0 : ¬Starts (grid0.coords t)) (w : Vec F S4096x1024 .bf16) (v : Vec F S256x1024 .bf16) (Wt : Waits sig Unit) (K : PUnit → sProp 𝕄) :
    iprop(given c arg2 arg4 arg6 arg7 x e y ∗ iprop(owns (c : Thread nD τ) Gate.kept fullShare w ∗ owns (c : Thread nD τ) Emb.kept fullShare v) ∗ owes (c : Thread nD τ) 0 Wt
        ∗ (iprop(left c arg2 arg4 arg6 arg7 x e y w v ∗ iprop(owns (c : Thread nD τ) Gate.kept fullShare w ∗ owns (c : Thread nD τ) Emb.kept fullShare v) ∗ (∃ W', owes (c : Thread nD τ) 0 W')) -∗ K ⟨⟩))
      ⊢ wp frame (wpE (defs₀ (F := F)) Variants.none c none) Set.univ
          (cc0_ple (grid0.coords t) arg2 harg2 Gate.weights (Memref.isWhole_whole _) arg4 harg4 Emb.weights (Memref.isWhole_whole _) arg6 harg6 arg7 harg7
            Gate.slot (Memref.isWhole_whole _) Gate.kept (Memref.isWhole_whole _) Emb.slot (Memref.isWhole_whole _) Emb.kept (Memref.isWhole_whole _) cc0_scratch4) K := by
  haveI : Fact (¬Starts (grid0.coords t)) := ⟨h0⟩
  dsimp only [parts, Staging.both, Gate.parts, Emb.parts]
  simp only [cc0_ple_eq_skeleton]; unfold cc0_ple_skel
  unfold given left
  unfold owns
  iintro ⟨⟨⟨%f0, %hf0, H0⟩, ⟨%f1, %hf1, H1⟩, ⟨%f3, %hf3, H3⟩, ⟨%d4, %f4, -, H4⟩⟩, ⟨⟨%f2, %hf2, H2⟩, ⟨%f5, %hf5, H5⟩⟩, HW, Hk⟩
  obtain rfl := harg2.eq_unread hf0
  obtain rfl := harg4.eq_unread hf1
  obtain rfl := harg6.eq_unread hf3
  obtain rfl := (Memref.isWhole_whole (sig := sig) cc0_scratch1).eq_unread hf2
  obtain rfl := (Memref.isWhole_whole (sig := sig) cc0_scratch3).eq_unread hf5
  sl_exec (disch := sl_exact h0)
  sl_step
  iapply Hk
  isplitl [H0 H1 H3 H4]
  · isplitl [H0]
    · iexists _; isplitr; · ipureintro; exact harg2.read_unread _
      iexact H0
    isplitl [H1]
    · iexists _; isplitr; · ipureintro; exact harg4.read_unread _
      iexact H1
    isplitl [H3]
    · iexists _; isplitr; · ipureintro; exact harg6.read_unread _
      iexact H3
    iexists _; isplitr; swap; · iexact H4
    ipureintro
    rw [View.read_writes_full, View.readAt_full, View.readAt_full, View.readAt_full, View.readAt_full, View.readAt_full, hf0, hf1, hf3, hf2, hf5]
  isplitl [H2 H5]
  · isplitl [H2]
    · iexists _; isplitr; · ipureintro; exact (Memref.isWhole_whole (sig := sig) cc0_scratch1).read_unread _
      iexact H2
    iexists _; isplitr; · ipureintro; exact (Memref.isWhole_whole (sig := sig) cc0_scratch3).read_unread _
    iexact H5
  iexists _; iexact HW

set_option maxHeartbeats 2000000 in
/-- At one that starts a column, neither the first nor the last, those in flight land and are kept, and the next ones are started. -/
theorem body_next (h0 : Starts (grid0.coords t)) (h1 : ¬First (grid0.coords t)) (h2 : More (grid0.coords t)) (q q' : PosShare TreeShare) (Wt : Waits sig Unit) (K : PUnit → sProp 𝕄) :
    iprop(given c arg2 arg4 arg6 arg7 x e y ∗ (parts c W V).scratch ∗ (parts c W V).flight q (t.val / 11) ∗ (parts c W V).column q' (t.val / 11 + 1) ∗ owes (c : Thread nD τ) 0 Wt
        ∗ (iprop(left c arg2 arg4 arg6 arg7 x e y (k0_pay1 (Gate.entries c W (col (t.val / 11)))) (k0_pay2 (Emb.entries c V (col (t.val / 11)))) ∗ (parts c W V).kept (t.val / 11) ∗ (parts c W V).column q (t.val / 11) ∗ (parts c W V).flight q' (t.val / 11 + 1) ∗ (∃ W', owes (c : Thread nD τ) 0 W')) -∗ K ⟨⟩))
      ⊢ wp frame (wpE (defs₀ (F := F)) Variants.none c none) Set.univ
          (cc0_ple (grid0.coords t) arg2 harg2 Gate.weights (Memref.isWhole_whole _) arg4 harg4 Emb.weights (Memref.isWhole_whole _) arg6 harg6 arg7 harg7
            Gate.slot (Memref.isWhole_whole _) Gate.kept (Memref.isWhole_whole _) Emb.slot (Memref.isWhole_whole _) Emb.kept (Memref.isWhole_whole _) cc0_scratch4) K := by
  haveI : Fact (Starts (grid0.coords t)) := ⟨h0⟩
  haveI : Fact (¬First (grid0.coords t)) := ⟨h1⟩
  haveI : Fact (More (grid0.coords t)) := ⟨h2⟩
  dsimp only [parts, Staging.both, Gate.parts, Emb.parts]
  simp only [cc0_ple_eq_skeleton]; unfold cc0_ple_skel
  unfold given left
  unfold owns
  iintro ⟨⟨⟨%f0, %hf0, H0⟩, ⟨%f1, %hf1, H1⟩, ⟨%f3, %hf3, H3⟩, ⟨%d4, %f4, -, H4⟩⟩, ⟨⟨%d2, %f2, -, H2⟩, ⟨%d5, %f5, -, H5⟩⟩, ⟨⟨%f, HF⟩, ⟨%g, HG⟩⟩, ⟨HC, HD⟩, HW, Hk⟩
  obtain rfl := harg2.eq_unread hf0
  obtain rfl := harg4.eq_unread hf1
  obtain rfl := harg6.eq_unread hf3
  sl_exec (disch := first | sl_exact h0 | sl_exact h1 | sl_exact h2)
  sl_step
  iapply Hk
  isplitl [H0 H1 H3 H4]
  · isplitl [H0]
    · iexists _; isplitr; · ipureintro; exact harg2.read_unread _
      iexact H0
    isplitl [H1]
    · iexists _; isplitr; · ipureintro; exact harg4.read_unread _
      iexact H1
    isplitl [H3]
    · iexists _; isplitr; · ipureintro; exact harg6.read_unread _
      iexact H3
    iexists _; isplitr; swap; · iexact H4
    ipureintro
    rw [View.read_writes_full, View.readAt_full, View.readAt_full, View.readAt_full, hf0, hf1, hf3]
    unfold body_next.sl.v4 body_next.sl.v8 body_next.sl.H2_1 body_next.sl.H5_1 body_next.sl.v22 body_next.sl.v32
    rw [View.readCov_full, View.readCov_full, Staging.load_landed, Staging.load_landed]; rfl
  isplitl [H2 H5]
  · isplitl [H2]
    · iexists _; isplitr; swap; · iexact H2
      ipureintro
      unfold body_next.sl.H2_1 body_next.sl.v22
      rw [View.read_writes_full, Staging.load_landed]; rfl
    iexists _; isplitr; swap; · iexact H5
    ipureintro
    unfold body_next.sl.H5_1 body_next.sl.v32
    rw [View.read_writes_full, Staging.load_landed]; rfl
  isplitl [HF_src HG_src]
  · isplitl [HF_src]; · iexact HF_src
    iexact HG_src
  isplitl [HF HG]
  · isplitl [HF]; · iexists _; iexact HF
    iexists _; iexact HG
  iexists _; iexact HW

set_option maxHeartbeats 2000000 in
/-- At the one that starts the last column nothing is left to start. -/
theorem body_last (h0 : Starts (grid0.coords t)) (h1 : ¬First (grid0.coords t)) (h2 : ¬More (grid0.coords t)) (q : PosShare TreeShare) (Wt : Waits sig Unit) (K : PUnit → sProp 𝕄) :
    iprop(given c arg2 arg4 arg6 arg7 x e y ∗ (parts c W V).scratch ∗ (parts c W V).flight q (t.val / 11) ∗ owes (c : Thread nD τ) 0 Wt
        ∗ (iprop(left c arg2 arg4 arg6 arg7 x e y (k0_pay1 (Gate.entries c W (col (t.val / 11)))) (k0_pay2 (Emb.entries c V (col (t.val / 11)))) ∗ (parts c W V).kept (t.val / 11) ∗ (parts c W V).column q (t.val / 11) ∗ (parts c W V).buffer ∗ (parts c W V).cell ∗ (∃ W', owes (c : Thread nD τ) 0 W')) -∗ K ⟨⟩))
      ⊢ wp frame (wpE (defs₀ (F := F)) Variants.none c none) Set.univ
          (cc0_ple (grid0.coords t) arg2 harg2 Gate.weights (Memref.isWhole_whole _) arg4 harg4 Emb.weights (Memref.isWhole_whole _) arg6 harg6 arg7 harg7
            Gate.slot (Memref.isWhole_whole _) Gate.kept (Memref.isWhole_whole _) Emb.slot (Memref.isWhole_whole _) Emb.kept (Memref.isWhole_whole _) cc0_scratch4) K := by
  haveI : Fact (Starts (grid0.coords t)) := ⟨h0⟩
  haveI : Fact (¬First (grid0.coords t)) := ⟨h1⟩
  haveI : Fact (¬More (grid0.coords t)) := ⟨h2⟩
  dsimp only [parts, Staging.both, Gate.parts, Emb.parts]
  simp only [cc0_ple_eq_skeleton]; unfold cc0_ple_skel
  unfold given left
  unfold owns
  iintro ⟨⟨⟨%f0, %hf0, H0⟩, ⟨%f1, %hf1, H1⟩, ⟨%f3, %hf3, H3⟩, ⟨%d4, %f4, -, H4⟩⟩, ⟨⟨%d2, %f2, -, H2⟩, ⟨%d5, %f5, -, H5⟩⟩, ⟨⟨%f, HF⟩, ⟨%g, HG⟩⟩, HW, Hk⟩
  obtain rfl := harg2.eq_unread hf0
  obtain rfl := harg4.eq_unread hf1
  obtain rfl := harg6.eq_unread hf3
  sl_exec (disch := first | sl_exact h0 | sl_exact h1 | sl_exact h2)
  sl_step
  iapply Hk
  isplitl [H0 H1 H3 H4]
  · isplitl [H0]
    · iexists _; isplitr; · ipureintro; exact harg2.read_unread _
      iexact H0
    isplitl [H1]
    · iexists _; isplitr; · ipureintro; exact harg4.read_unread _
      iexact H1
    isplitl [H3]
    · iexists _; isplitr; · ipureintro; exact harg6.read_unread _
      iexact H3
    iexists _; isplitr; swap; · iexact H4
    ipureintro
    rw [View.read_writes_full, View.readAt_full, View.readAt_full, View.readAt_full, hf0, hf1, hf3]
    unfold body_last.sl.v4 body_last.sl.v8 body_last.sl.H2_1 body_last.sl.H5_1 body_last.sl.v22 body_last.sl.v32
    rw [View.readCov_full, View.readCov_full, Staging.load_landed, Staging.load_landed]; rfl
  isplitl [H2 H5]
  · isplitl [H2]
    · iexists _; isplitr; swap; · iexact H2
      ipureintro
      unfold body_last.sl.H2_1 body_last.sl.v22
      rw [View.read_writes_full, Staging.load_landed]; rfl
    iexists _; isplitr; swap; · iexact H5
    ipureintro
    unfold body_last.sl.H5_1 body_last.sl.v32
    rw [View.read_writes_full, Staging.load_landed]; rfl
  isplitl [HF_src HG_src]
  · isplitl [HF_src]; · iexact HF_src
    iexact HG_src
  isplitl [HF_dst HG_dst]
  · isplitl [HF_dst]; · iexists _; iexact HF_dst
    iexists _; iexact HG_dst
  isplitl [HF HG]
  · isplitl [HF]; · iexact HF
    iexact HG
  iexists _; iexact HW

set_option maxHeartbeats 2000000 in
/-- At the first point nothing is in flight yet, and it starts two columns of either array. -/
theorem body_first (h0 : Starts (grid0.coords t)) (h1 : First (grid0.coords t)) (h2 : More (grid0.coords t)) (q q' : PosShare TreeShare) (Wt : Waits sig Unit) (K : PUnit → sProp 𝕄) :
    iprop(given c arg2 arg4 arg6 arg7 x e y ∗ (parts c W V).scratch ∗ (parts c W V).buffer ∗ (parts c W V).cell ∗ (parts c W V).column q (t.val / 11) ∗ (parts c W V).column q' (t.val / 11 + 1) ∗ owes (c : Thread nD τ) 0 Wt
        ∗ (iprop(left c arg2 arg4 arg6 arg7 x e y (k0_pay1 (Gate.entries c W (col (t.val / 11)))) (k0_pay2 (Emb.entries c V (col (t.val / 11)))) ∗ (parts c W V).kept (t.val / 11) ∗ (parts c W V).column q (t.val / 11) ∗ (parts c W V).flight q' (t.val / 11 + 1) ∗ (∃ W', owes (c : Thread nD τ) 0 W')) -∗ K ⟨⟩))
      ⊢ wp frame (wpE (defs₀ (F := F)) Variants.none c none) Set.univ
          (cc0_ple (grid0.coords t) arg2 harg2 Gate.weights (Memref.isWhole_whole _) arg4 harg4 Emb.weights (Memref.isWhole_whole _) arg6 harg6 arg7 harg7
            Gate.slot (Memref.isWhole_whole _) Gate.kept (Memref.isWhole_whole _) Emb.slot (Memref.isWhole_whole _) Emb.kept (Memref.isWhole_whole _) cc0_scratch4) K := by
  haveI : Fact (Starts (grid0.coords t)) := ⟨h0⟩
  haveI : Fact (First (grid0.coords t)) := ⟨h1⟩
  haveI : Fact (More (grid0.coords t)) := ⟨h2⟩
  dsimp only [parts, Staging.both, Gate.parts, Emb.parts]
  simp only [cc0_ple_eq_skeleton]; unfold cc0_ple_skel
  unfold given left
  unfold owns
  iintro ⟨⟨⟨%f0, %hf0, H0⟩, ⟨%f1, %hf1, H1⟩, ⟨%f3, %hf3, H3⟩, ⟨%d4, %f4, -, H4⟩⟩, ⟨⟨%d2, %f2, -, H2⟩, ⟨%d5, %f5, -, H5⟩⟩, ⟨⟨%f, HS⟩, ⟨%g, HU⟩⟩, ⟨HF, HG⟩, ⟨HC, HD⟩, ⟨HC', HD'⟩, HW, Hk⟩
  obtain rfl := harg2.eq_unread hf0
  obtain rfl := harg4.eq_unread hf1
  obtain rfl := harg6.eq_unread hf3
  sl_exec (disch := first | sl_exact h0 | sl_exact h1 | sl_exact h2)
  sl_step
  iapply Hk
  isplitl [H0 H1 H3 H4]
  · isplitl [H0]
    · iexists _; isplitr; · ipureintro; exact harg2.read_unread _
      iexact H0
    isplitl [H1]
    · iexists _; isplitr; · ipureintro; exact harg4.read_unread _
      iexact H1
    isplitl [H3]
    · iexists _; isplitr; · ipureintro; exact harg6.read_unread _
      iexact H3
    iexists _; isplitr; swap; · iexact H4
    ipureintro
    rw [View.read_writes_full, View.readAt_full, View.readAt_full, View.readAt_full, hf0, hf1, hf3]
    unfold body_first.sl.v4 body_first.sl.v8 body_first.sl.H2_1 body_first.sl.H5_1 body_first.sl.v22 body_first.sl.v32
    rw [View.readCov_full, View.readCov_full, Staging.load_landed, Staging.load_landed]; rfl
  isplitl [H2 H5]
  · isplitl [H2]
    · iexists _; isplitr; swap; · iexact H2
      ipureintro
      unfold body_first.sl.H2_1 body_first.sl.v22
      rw [View.read_writes_full, Staging.load_landed]; rfl
    iexists _; isplitr; swap; · iexact H5
    ipureintro
    unfold body_first.sl.H5_1 body_first.sl.v32
    rw [View.read_writes_full, Staging.load_landed]; rfl
  isplitl [HC HD]
  · isplitl [HC]; · iexact HC
    iexact HD
  isplitl [HF HG]
  · isplitl [HF]; · iexists _; iexact HF
    iexists _; iexact HG
  iexists _; iexact HW

end Ple

end
-- ==== Proof.PleRun.lean ====
/- The run of the embedding gate: what holds between the points of its grid, and the kernel run from end to end. Written
   once, for any float values. -/
module

public import proofs.«01_k».proof.Proof.PleBody
public import Idealize.ShloMosaic.Lib.Claim

@[expose] public section

set_option maxRecDepth 16384

noncomputable section

namespace Ple

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Staging (between half)
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (Pipeline.UD sig nD τ) ℕ

/-! ## The pipeline's data -/

variable (m : (ℓ : Loc nD τ sig) → Buf (Elt F) ℓ) (ρ : Dev nD → PrngReg)

/-- What a point has of the weights: its columns, cast. -/
abbrev gateAt (c : Dev nD) (t : Fin cfg0.N) : Vec F S4096x1024 .bf16 := k0_pay1 (Gate.entries c (V m c main_arg1) (col (t.val / 11)))
abbrev embAt (c : Dev nD) (t : Fin cfg0.N) : Vec F S256x1024 .bf16 := k0_pay2 (Emb.entries c (V m c main_arg3) (col (t.val / 11)))

/-- Both arrays of weights. -/
abbrev staged (c : Dev nD) : Staging.Parts 𝕄 := parts c (V m c main_arg1) (V m c main_arg3)

/-- What holds before point `p`. -/
def invariant (c : Dev nD) (p : ℕ) : sProp 𝕄 := iprop((∃ r, prngReg c r) ∗ between (staged m c) 4 ((p + 10) / 11))

/-- What a point leaves of the result. -/
def gated (c : Dev nD) (t : Fin cfg0.N) : Vec F S768x1024 .f32 :=
  k0_pay3 (iblk m c 0 t) (gateAt m c t) (iblk m c 1 t) (embAt m c t) (iblk m c 2 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => gated m c t
  Φ t := invariant m c t.val
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = gated m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans (by unfold Dat.fetched Dat.blockOf iblk; rw [A_eq]; rfl)

/-! ## The body at any point -/

abbrev tokens (t : Fin cfg0.N) : Memref sig .tc .vmem S768x4096 .bf16 := win0_0.stage (cfg0.slots t 0)
abbrev embeds (t : Fin cfg0.N) : Memref sig .tc .vmem S768x256 .bf16 := win0_1.stage (cfg0.slots t 1)
abbrev acts (t : Fin cfg0.N) : Memref sig .tc .vmem S768x1024 .f32 := win0_2.stage (cfg0.slots t 2)
abbrev result (t : Fin cfg0.N) : Memref sig .tc .vmem S768x1024 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (tokens t) fullShare ((dats m 0 c).before 0 t d))
    ∗ (∃ d, owns (c : Thread nD τ) (embeds t) fullShare ((dats m 0 c).before 1 t d))
    ∗ (∃ d, owns (c : Thread nD τ) (acts t) fullShare ((dats m 0 c).before 2 t d))
    ∗ (∃ d, owns (c : Thread nD τ) (result t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (tokens t) fullShare ((dats m 0 c).after 0 t)
    ∗ owns (c : Thread nD τ) (embeds t) fullShare ((dats m 0 c).after 1 t)
    ∗ owns (c : Thread nD τ) (acts t) fullShare ((dats m 0 c).after 2 t)
    ∗ owns (c : Thread nD τ) (result t) fullShare ((dats m 0 c).after 3 t))

/-- The blocks at a point before its body, and after it. -/
abbrev givenAt (c : Dev nD) (t : Fin cfg0.N) : sProp 𝕄 :=
  given c (tokens t) (embeds t) (acts t) (result t) (iblk m c 0 t) (iblk m c 1 t) (iblk m c 2 t)
abbrev leftAt (c : Dev nD) (t : Fin cfg0.N) : sProp 𝕄 :=
  left c (tokens t) (embeds t) (acts t) (result t) (iblk m c 0 t) (iblk m c 1 t) (iblk m c 2 t) (gateAt m c t) (embAt m c t)

/-- The invariant around a point's body, the rest of what the body is called with alongside. -/
theorem sound_of (c : Dev nD) (t : Fin cfg0.N)
    (run : ∀ (Wt : Waits sig Unit) (K : PUnit → sProp 𝕄),
      iprop(givenAt m c t ∗ between (staged m c) 4 ((t.val + 10) / 11) ∗ owes (c : Thread nD τ) 0 Wt
          ∗ (iprop(leftAt m c t ∗ between (staged m c) 4 ((t.val + 1 + 10) / 11) ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1, before2]
  rw [after0, after1, after2, after3, show (dats m 0 c).Φ t.castSucc = invariant m c t.val from rfl,
    show (dats m 0 c).Φ t.succ = invariant m c (t.val + 1) from rfl]
  unfold Dat.owesAt Pipeline.owesWithin invariant
  rw [show (dats m 0 c).owed t.castSucc = 0 from rfl, show (dats m 0 c).owed t.succ = 0 from rfl]
  unfold givenAt leftAt given left at run
  unfold gated
  iintro ⟨⟨Hg, HB⟩, ⟨%Wt, -, HW⟩, ⟨%d0, H0⟩, ⟨%d1, H1⟩, ⟨%d2, H2⟩, ⟨%d3, H3⟩⟩
  iapply (run Wt _)
  isplitl [H0 H1 H2 H3]
  · isplitl [H0]; · iexact H0
    isplitl [H1]; · iexact H1
    isplitl [H2]; · iexact H2
    iexists _; iexact H3
  isplitl [HB]; · iexact HB
  isplitl [HW]; · iexact HW
  iintro ⟨HO, HB, ⟨%W', HW'⟩⟩
  isplitl [Hg HB]
  · isplitl [Hg]; · iexact Hg
    iexact HB
  isplitl [HW']
  · iexists W'; isplitr; · ipureintro; exact fun _ _ => Or.inl trivial
    iexact HW'
  iexact HO

set_option maxHeartbeats 1000000 in
theorem sound (c : Dev nD) (t : Fin cfg0.N) :
    bodyPre m c t ⊢ wp frame (wpE (defs₀ (F := F)) Variants.none c none) Set.univ (bodyAt0 t) (fun _ => bodyPost m c t) := by
  have hN : t.val < 44 := lt_of_lt_of_eq t.isLt N_0
  obtain ⟨k, hk⟩ : ∃ k, t.val / 11 = k := ⟨_, rfl⟩
  refine sound_of m c t fun Wt K => ?_
  by_cases h0 : t.val % 11 = 0
  · have c0 := (starts_iff t).mpr h0
    rw [show (t.val + 10) / 11 = k by omega, show (t.val + 1 + 10) / 11 = k + 1 by omega]
    rcases k with _ | j
    · have B := body_first c (V m c main_arg1) (V m c main_arg3) t (tokens t) (hstage0_0 ((cfg0.slots t 0).cast nbuf0_0)) (embeds t) (hstage0_1 ((cfg0.slots t 1).cast nbuf0_1)) (acts t) (hstage0_2 ((cfg0.slots t 2).cast nbuf0_2)) (result t) (hstage0_3 ((cfg0.slots t 3).cast nbuf0_3)) (iblk m c 0 t) (iblk m c 1 t) (iblk m c 2 t)
        c0 ((first_iff t).mpr (by omega)) ((more_iff t).mpr (by omega)) (half 0) (half 1) Wt K
      unfold leftAt gateAt embAt
      rw [hk] at B ⊢
      exact Staging.run_first (staged m c) 4 (by decide) B
    · have c1 : ¬First (grid0.coords t) := fun h => absurd ((first_iff t).mp h) (by omega)
      by_cases h2 : t.val < 33
      · have B := body_next c (V m c main_arg1) (V m c main_arg3) t (tokens t) (hstage0_0 ((cfg0.slots t 0).cast nbuf0_0)) (embeds t) (hstage0_1 ((cfg0.slots t 1).cast nbuf0_1)) (acts t) (hstage0_2 ((cfg0.slots t 2).cast nbuf0_2)) (result t) (hstage0_3 ((cfg0.slots t 3).cast nbuf0_3)) (iblk m c 0 t) (iblk m c 1 t) (iblk m c 2 t)
          c0 c1 ((more_iff t).mpr h2) (half (j + 1)) (half (j + 1 + 1)) Wt K
        unfold leftAt gateAt embAt
        rw [hk] at B ⊢
        exact Staging.run_next (staged m c) 4 j (by omega) B
      · obtain rfl : j = 2 := by omega
        have B := body_last c (V m c main_arg1) (V m c main_arg3) t (tokens t) (hstage0_0 ((cfg0.slots t 0).cast nbuf0_0)) (embeds t) (hstage0_1 ((cfg0.slots t 1).cast nbuf0_1)) (acts t) (hstage0_2 ((cfg0.slots t 2).cast nbuf0_2)) (result t) (hstage0_3 ((cfg0.slots t 3).cast nbuf0_3)) (iblk m c 0 t) (iblk m c 1 t) (iblk m c 2 t)
          c0 c1 (fun h => h2 ((more_iff t).mp h)) (half (2 + 1)) Wt K
        unfold leftAt gateAt embAt
        rw [hk] at B ⊢
        exact Staging.run_last (staged m c) 2 B
  · rw [show (t.val + 10) / 11 = k + 1 by omega, show (t.val + 1 + 10) / 11 = k + 1 by omega]
    have B := body_later c t (tokens t) (hstage0_0 ((cfg0.slots t 0).cast nbuf0_0)) (embeds t) (hstage0_1 ((cfg0.slots t 1).cast nbuf0_1)) (acts t) (hstage0_2 ((cfg0.slots t 2).cast nbuf0_2)) (result t) (hstage0_3 ((cfg0.slots t 3).cast nbuf0_3)) (iblk m c 0 t) (iblk m c 1 t) (iblk m c 2 t)
      (fun h => h0 ((starts_iff t).mp h)) (gateAt m c t) (embAt m c t) Wt K
    unfold leftAt
    unfold gateAt embAt at B ⊢
    rw [hk] at B ⊢
    exact Staging.run_later (staged m c) 4 k B

/-! ## The launch -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

abbrev cells : Fin 2 → SemLoc sig := ![SemLoc.dma 8, SemLoc.dma 9]
theorem cells_own : Pipeline.OwnSemFacts spec0 cells := by decide
theorem weights_rest : ({main_arg1, main_arg3} : Finset (Ref sig .tc)) ⊆ Pipeline.restRefs sig spec0 := by decide

theorem launch_eq (c : Dev nD) :
    (Pipeline.ΦD cells spec0 {main_arg1, main_arg3} (V m) c : sProp 𝕄)
      = iprop(iprop((∃ d, owns (c : Thread nD τ) Gate.slot fullShare d) ∗ (∃ d, owns (c : Thread nD τ) Gate.kept fullShare d)
            ∗ (∃ d, owns (c : Thread nD τ) Emb.slot fullShare d) ∗ (∃ d, owns (c : Thread nD τ) Emb.kept fullShare d)) ∗ (∃ r, prngReg c r)
          ∗ iprop(Gate.cellAt c ∗ Emb.cellAt c)
          ∗ iprop((((c : Thread nD τ).loc main_arg1) ↦{fullShare} V m c main_arg1) ∗ (((c : Thread nD τ).loc main_arg3) ↦{fullShare} V m c main_arg3))) := by
  rw [Pipeline.ΦD_eq, scopedRest0_eq, Pipeline.ownSems0_eq_of_list c cells [0, 1] (by decide) (by decide),
    BI.bigSep_eq_bigSepL_of_eq [main_arg1, main_arg3] (by decide) (by decide)]
  simp only [Gate.slot, Gate.kept, Emb.slot, Emb.kept, owns_whole]; rfl

/-- A whole buffer at anything, and its elements at anything. -/
theorem slot_in (c : Dev nD) {S : Shape} {e : EltTy} (M : Memref sig .tc .vmem S e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists f; iexact H

theorem slot_out (c : Dev nD) {S : Shape} {e : EltTy} (M : Memref sig .tc .vmem S e) :
    (iprop(∃ f, M.view.loc (c : Thread nD τ) ↦[M.view.set]{fullShare} f) : sProp 𝕄) ⊢ iprop(∃ d, owns (c : Thread nD τ) M fullShare d) := by
  unfold owns
  iintro ⟨%f, H⟩
  iexists _, f
  isplitr; · ipureintro; rfl
  iexact H

theorem halves (c : Dev nD) (r : Ref sig .tc) (W : Buf (Elt F) ((c : Thread nD τ).loc r)) : (((c : Thread nD τ).loc r) ↦{fullShare} W : sProp 𝕄)
    ⊣⊢ iprop((((c : Thread nD τ).loc r) ↦[Finset.univ]{fullShare.left} W) ∗ (((c : Thread nD τ).loc r) ↦[Finset.univ]{fullShare.right} W)) :=
  pointsTo_share (PosShare.mem_left_op_right fullShare)

theorem start (c : Dev nD) : Pipeline.ΦD cells spec0 {main_arg1, main_arg3} (V m) c ⊢ (dats m 0 c).Φ 0 := by
  rw [launch_eq, show (dats m 0 c).Φ 0 = invariant m c 0 from rfl]
  unfold invariant
  iintro ⟨⟨HS, HK, HT, HJ⟩, Hg, HC, HW, HV⟩
  ihave HW' := (halves c main_arg1 (V m c main_arg1)).1 $$ HW
  icases HW' with ⟨HL, HR⟩
  ihave HV' := (halves c main_arg3 (V m c main_arg3)).1 $$ HV
  icases HV' with ⟨HM, HN⟩
  ihave HS' := (slot_in c Gate.slot) $$ HS
  ihave HT' := (slot_in c Emb.slot) $$ HT
  isplitl [Hg]; · iexact Hg
  iapply (Staging.start (staged m c) 4)
  isplitl [HK HJ]
  · isplitl [HK]; · iexact HK
    iexact HJ
  isplitl [HS' HT']
  · isplitl [HS']; · iexact HS'
    iexact HT'
  isplitl [HC]; · iexact HC
  isplitl [HL HM]
  · isplitl [HL]; · iexact HL
    iexact HM
  isplitl [HR]; · iexact HR
  iexact HN

theorem finish (c : Dev nD) : (dats m 0 c).Φ (Fin.last cfg0.N) ⊢ Pipeline.ΦD cells spec0 {main_arg1, main_arg3} (V m) c := by
  rw [launch_eq, show (dats m 0 c).Φ (Fin.last cfg0.N) = invariant m c grid0.N from rfl]
  unfold invariant
  rw [N_0, show (44 + 10) / 11 = 3 + 1 from rfl]
  iintro ⟨Hg, HB⟩
  ihave HB' := (Staging.finish (staged m c) 3 rfl) $$ HB
  icases HB' with ⟨⟨HK, HJ⟩, ⟨HS, HT⟩, HC, ⟨HL, HM⟩, HR, HN⟩
  ihave HS' := (slot_out c Gate.slot) $$ HS
  ihave HT' := (slot_out c Emb.slot) $$ HT
  isplitl [HS' HK HT' HJ]
  · isplitl [HS']; · iexact HS'
    isplitl [HK]; · iexact HK
    isplitl [HT']; · iexact HT'
    iexact HJ
  isplitl [Hg]; · iexact Hg
  isplitl [HC]; · iexact HC
  isplitl [HL HR]
  · iapply (halves c main_arg1 (V m c main_arg1)).2
    isplitl [HL]; · iexact HL
    iexact HR
  iapply (halves c main_arg3 (V m c main_arg3)).2
  isplitl [HM]; · iexact HM
  iexact HN

-- the launch theorem's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 cells defs₀ Variants.none cells_own {main_arg1, main_arg3} weights_rest m ρ main
    (hbody := fun c => (obligation m c).loose) (hshare := fun c => (dats m 0 c).share_full fun _ => rfl)
    (howed := fun _ _ => rfl) (V := V m) (hmain := Pipeline.hmain_region cfgs 0 defs₀ Variants.none m main fun c => (main_chain c).trans rfl)
    (hA := A_eq m) (hin := start m) (hout := finish m)

/-- Every run ends with the result at what the points left, the arguments as they were and nothing in flight. -/
theorem run : θ_run defs (onTc (τ := τ) (main (F := F))) ⟨m, fun _ => 0, ρ⟩ (fun r => (∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).1 1).trans (((dats m 0 c).arrAt_in 1 rfl _).trans ((A_eq m c 1).trans (V_main_arg2 m c))),
      ((h.1 c).2 main_arg3 (Pipeline.mem_restRefs_of main_arg3 (by decide) (by decide))).trans (V_main_arg3 m c),
      ((h.1 c).1 2).trans (((dats m 0 c).arrAt_in 2 rfl _).trans ((A_eq m c 2).trans (V_main_arg4 m c)))⟩, h.2⟩) (run_main m ρ)

/-- The arguments as they were and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Ple

end
-- ==== Proof.PleValue.lean ====
/- The embedding gate over the extended reals: what the points leave, put together, is the activations and, added to them, the
   product of the embeddings and their weights times the sigmoid of that of the tokens and theirs. -/
module

public import proofs.«01_k».proof.Proof.PleRun
public import proofs.«01_k».proof.Proof.Gen.Reference5Ideal.Run
public import Idealize.ShloMosaic.Lib.Pipeline.ValueKit
public import Idealize.ShloMosaic.Lib.ValueLayout

@[expose] public section

set_option maxRecDepth 16384

noncomputable section

namespace Ple

open Idealize.ShloMosaic Idealize.ShloMosaic.TcCoe Idealize.SL.Sem
open Cert.Kernel5Ideal Cert.Kernel5Ideal.Gen

variable (m : (ℓ : Loc nD τ sig) → Buf (Elt Ideal) ℓ)

/-- Where the windows' blocks lie: 11 points for a column of the weights, one for each 768 tokens. -/
theorem idx : ∀ t : Fin cfg0.N, win0_0.index t = ![t.val % 11, 0] ∧ win0_1.index t = ![t.val % 11, 0]
    ∧ win0_2.index t = ![t.val % 11, t.val / 11] ∧ win0_3.index t = ![t.val % 11, t.val / 11] :=
  (by decide +kernel : ∀ t : Fin grid0.N, _)

/-- A block of the result at an index. -/
theorem gated_at (x : FVec Ideal S768x4096 .bf16) (w : FVec Ideal S4096x1024 .f32) (e : FVec Ideal S768x256 .bf16) (v : FVec Ideal S256x1024 .f32)
    (y : FVec Ideal S768x1024 .f32) (i : Fin 768) (n : Fin 1024) :
    k0_pay3 (F := Ideal) x (k0_pay1 (F := Ideal) w) e (k0_pay2 (F := Ideal) v) y (ix2 i n)
      = (show EReal from y (ix2 i n)) + Ideal.logistic (∑ k : Fin 4096, (show EReal from x (ix2 i k)) * w (ix2 k n))
          * ∑ k : Fin 256, (show EReal from e (ix2 i k)) * v (ix2 k n) := by
  pointwise [k0_pay3, k0_pay1, k0_pay2]

/-- The tokens of a point, -/
theorem tokens_at (c : Dev nD) (t : Fin cfg0.N) (i : Fin 768) (k : Fin 4096) (r : Fin 8448) (hr : r.val = t.val % 11 * 768 + i.val) :
    iblk m c 0 t (ix2 i k) = m ((c : Thread nD τ).loc main_arg0) (ix2 r k) := by
  have h := idx t
  blk_ext [iblk, V, h]

/-- its embeddings, -/
theorem embeds_at (c : Dev nD) (t : Fin cfg0.N) (i : Fin 768) (k : Fin 256) (r : Fin 8448) (hr : r.val = t.val % 11 * 768 + i.val) :
    iblk m c 1 t (ix2 i k) = m ((c : Thread nD τ).loc main_arg2) (ix2 r k) := by
  have h := idx t
  blk_ext [iblk, V, h]

/-- and its activations. -/
theorem acts_at (c : Dev nD) (t : Fin cfg0.N) (i : Fin 768) (n : Fin 1024) (r : Fin 8448) (j : Fin 4096)
    (hr : r.val = t.val % 11 * 768 + i.val) (hj : j.val = 1024 * (t.val / 11) + n.val) :
    iblk m c 2 t (ix2 i n) = m ((c : Thread nD τ).loc main_arg4) (ix2 r j) := by
  have h := idx t
  blk_ext [iblk, V, h]

/-! The entries of a column of either array of weights. -/
theorem Gate.entries_at (c : Dev nD) (W : Held (F := Ideal) c Gate.weights) (b : Fin 4) (k : Fin 4096) (n : Fin 1024) (j : Fin 4096)
    (hj : j.val = 1024 * b.val + n.val) : Gate.entries c W b (ix2 k n) = W (ix3 0 k j) := by
  unfold Gate.entries Gate.column
  refine (congrFun (Memref.read_squeeze_slice Gate.weights _ (fun _ => rfl) squeezes_S1x4096x1024_S4096x1024
    (show S1x4096x1024.ShapeCasts S4096x1024 by decide) W) (ix2 k n)).trans ?_
  refine (ValueIdx.shapeCast_1ab_ab_apply _ _ k n).trans ?_
  refine congrArg W (funext fun a => Fin.ext ?_)
  fin_cases a
  · rfl
  · show 0 + 1 * k.val = k.val; omega
  · show 1024 * b.val + 1 * n.val = j.val; omega

theorem Emb.entries_at (c : Dev nD) (W : Held (F := Ideal) c Emb.weights) (b : Fin 4) (k : Fin 256) (n : Fin 1024) (j : Fin 4096)
    (hj : j.val = 1024 * b.val + n.val) : Emb.entries c W b (ix2 k n) = W (ix3 0 k j) := by
  unfold Emb.entries Emb.column
  refine (congrFun (Memref.read_squeeze_slice Emb.weights _ (fun _ => rfl) squeezes_S1x256x1024_S256x1024
    (show S1x256x1024.ShapeCasts S256x1024 by decide) W) (ix2 k n)).trans ?_
  refine (ValueIdx.shapeCast_1ab_ab_apply _ _ k n).trans ?_
  refine congrArg W (funext fun a => Fin.ext ?_)
  fin_cases a
  · rfl
  · show 0 + 1 * k.val = k.val; omega
  · show 1024 * b.val + 1 * n.val = j.val; omega

/-- The reference's result. -/
abbrev embedded (x : FVec Ideal Cert.Reference5Ideal.S8448x4096 .bf16) (w : FVec Ideal Cert.Reference5Ideal.S4x4096x4096 .f32) (e : FVec Ideal Cert.Reference5Ideal.S8448x256 .bf16)
    (v : FVec Ideal Cert.Reference5Ideal.S4x256x4096 .f32) (y : FVec Ideal Cert.Reference5Ideal.S8448x4096 .f32) : FVec Ideal Cert.Reference5Ideal.S8448x4096 .f32 :=
  addf y (mulf
    (Host.divf (broadcastInDim Cert.Reference5Ideal.S8448x4096 ![] Cert.Reference5Ideal.Gen.bcast_S_S8448x4096 (constant Cert.Reference5Ideal.S_ .f32 0x3F800000#32))
      (addf (broadcastInDim Cert.Reference5Ideal.S8448x4096 ![] Cert.Reference5Ideal.Gen.bcast_S_S8448x4096 (constant Cert.Reference5Ideal.S_ .f32 0x3F800000#32))
        (Host.exp (Host.negf (Host.dotGeneral Cert.Reference5Ideal.dot_S8448x4096_S4096x4096_S8448x4096_1_0_0_1_n_n none (extf .f32 x Cert.Reference5Ideal.Gen.bitsLt_bf16_f32)
          (shapeCast _ (extractStridedSlice Cert.Reference5Ideal.S1x4096x4096 ![0, 0, 0] w Cert.Reference5Ideal.Gen.slices_S4x4096x4096_S1x4096x4096_0_0_0)
            Cert.Reference5Ideal.Gen.shapeCasts_S1x4096x4096_S4096x4096))))))
    (Host.dotGeneral Cert.Reference5Ideal.dot_S8448x256_S256x4096_S8448x4096_1_0_0_1_n_n none (extf .f32 e Cert.Reference5Ideal.Gen.bitsLt_bf16_f32)
      (shapeCast _ (extractStridedSlice Cert.Reference5Ideal.S1x256x4096 ![0, 0, 0] v Cert.Reference5Ideal.Gen.slices_S4x256x4096_S1x256x4096_0_0_0)
        Cert.Reference5Ideal.Gen.shapeCasts_S1x256x4096_S256x4096)))

theorem reference_at (x : FVec Ideal Cert.Reference5Ideal.S8448x4096 .bf16) (w : FVec Ideal Cert.Reference5Ideal.S4x4096x4096 .f32) (e : FVec Ideal Cert.Reference5Ideal.S8448x256 .bf16)
    (v : FVec Ideal Cert.Reference5Ideal.S4x256x4096 .f32) (y : FVec Ideal Cert.Reference5Ideal.S8448x4096 .f32) (r : Fin 8448) (j : Fin 4096) :
    embedded x w e v y (ix2 r j)
      = (show EReal from y (ix2 r j)) + Ideal.logistic (∑ k : Fin 4096, (show EReal from x (ix2 r k)) * w (ix3 0 k j))
          * ∑ k : Fin 256, (show EReal from e (ix2 r k)) * v (ix3 0 k j) := by
  unfold Ideal.logistic
  pointwise []

/-- A point's block is the reference's at its tokens and columns. -/
theorem point_at (c : Dev nD) (t : Fin cfg0.N) (i : Fin 768) (n : Fin 1024) (r : Fin 8448) (j : Fin 4096)
    (hr : r.val = t.val % 11 * 768 + i.val) (hj : j.val = 1024 * (t.val / 11) + n.val) :
    gated m c t (ix2 i n) = embedded (m ((c : Thread nD τ).loc main_arg0)) (m ((c : Thread nD τ).loc main_arg1))
      (m ((c : Thread nD τ).loc main_arg2)) (m ((c : Thread nD τ).loc main_arg3)) (m ((c : Thread nD τ).loc main_arg4)) (ix2 r j) := by
  have l : t.val < 44 := t.isLt
  have hc : j.val = 1024 * (col (t.val / 11)).val + n.val := by
    show _ = 1024 * (t.val / 11 % 4) + n.val; rw [Nat.mod_eq_of_lt (by omega), hj]
  rw [reference_at]
  refine (gated_at (iblk m c 0 t) (Gate.entries c (V m c main_arg1) (col (t.val / 11))) (iblk m c 1 t)
    (Emb.entries c (V m c main_arg3) (col (t.val / 11))) (iblk m c 2 t) i n).trans ?_
  rw [acts_at m c t i n r j hr hj]
  refine congrArg _ (congrArg₂ _ (congrArg Ideal.logistic (Finset.sum_congr rfl fun k _ => ?_)) (Finset.sum_congr rfl fun k _ => ?_))
  · rw [tokens_at m c t i k r hr, Gate.entries_at c _ _ k n j hc]
  · rw [embeds_at m c t i k r hr, Emb.entries_at c _ _ k n j hc]

/-- The whole array. -/
theorem final (c : Dev nD) : (dats m 0 c).arrAt 3 cfg0.N
    = embedded (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 3 _ (by decide +kernel) fun t hf y => ?_
  blk_simp
  rw [after3]
  have hx := idx t
  obtain ⟨i, n, rfl⟩ : ∃ (i : Fin 768) (n : Fin 1024), y = ix2 i n := ⟨y 0, y 1, funext fun a => by fin_cases a <;> rfl⟩
  have l : t.val < 44 := t.isLt
  refine (point_at m c t i n ⟨t.val % 11 * 768 + i.val, by omega⟩ ⟨1024 * (t.val / 11) + n.val, by omega⟩ rfl rfl).trans (congrArg (embedded _ _ _ _ _) ?_)
  blk_ext [hx]

end Ple

end
-- ==== Proof.MergeParts.lean ====
/- What a point of the gated merge has: of the three branches' arrays of weights, the columns that are in flight and those cast
   and kept, and the blocks of the branches and of their gates. -/
module

public import proofs.«01_k».proof.Proof.Gen.Kernel6Ideal.Frame
public import proofs.«01_k».proof.Proof.Gen.Kernel6Ideal.Skeleton
public import proofs.«01_k».proof.Proof.Staging
public import Idealize.ShloMosaic.Lib.VecWindow

@[expose] public section

set_option maxRecDepth 16384

noncomputable section

namespace Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (Pipeline.UD sig nD τ) ℕ

/-! ## Where a point is: its column starts, its column is the first, a column is left to start -/

abbrev Starts (i : grid0.Coords) : Prop := k0_cond1 i = 1#1
abbrev First (i : grid0.Coords) : Prop :=
  Scalar.cmpi .ne (Scalar.extui (Scalar.cmpi .eq (BitVec.ofNat 32 (i 0).val) 0#32)) 0#32 = 1#1
abbrev More (i : grid0.Coords) : Prop := k0_cond3 i = 1#1

theorem starts_iff : ∀ t : Fin cfg0.N, Starts (grid0.coords t) ↔ t.val % 11 = 0 :=
  (by decide +kernel : ∀ t : Fin grid0.N, Starts (grid0.coords t) ↔ t.val % 11 = 0)
theorem first_iff : ∀ t : Fin cfg0.N, First (grid0.coords t) ↔ t.val < 11 :=
  (by decide +kernel : ∀ t : Fin grid0.N, First (grid0.coords t) ↔ t.val < 11)
theorem more_iff : ∀ t : Fin cfg0.N, More (grid0.coords t) ↔ t.val < 77 :=
  (by decide +kernel : ∀ t : Fin grid0.N, More (grid0.coords t) ↔ t.val < 77)

/-! ## The columns of the weights, and what holds them -/

def col (k : ℕ) : Fin 8 := ⟨k % 8, Nat.mod_lt _ (by decide)⟩

abbrev Held (c : Dev nD) {sp : Space} {S : Shape} {e : EltTy} (M : Memref sig .tc sp S e) : Type := Buf (Elt F) (M.view.loc (c : Thread nD τ))

theorem off_first : ∀ t : Fin grid0.N, Starts (grid0.coords t) → First (grid0.coords t) → (![0, 0, 0] : Fin 3 → Nat) = ![0, 0, 512 * (col (t.val / 11)).val] := by
  decide +kernel
theorem off_this : ∀ t : Fin grid0.N, Starts (grid0.coords t) → k0_off1 (grid0.coords t) = ![0, 0, 512 * (col (t.val / 11)).val] := by
  decide +kernel
theorem off_next : ∀ t : Fin grid0.N, Starts (grid0.coords t) → More (grid0.coords t) → k0_off2 (grid0.coords t) = ![0, 0, 512 * (col (t.val / 11 + 1)).val] := by
  decide +kernel

theorem inb_col (b : Fin 8) : ∀ a, (![0, 0, 512 * b.val] : Fin 3 → Nat) a + S1x2048x512.size a ≤ S4x2048x4096.size a := by
  have := b.isLt; intro a; fin_cases a <;> simp <;> omega

section Branch

/-! Of any of the three arrays of weights, the slot its columns land in, the buffer they are kept in, cast, and the semaphore. -/
variable (weights : Memref sig .tc .hbm S4x2048x4096 .f32) (slot : Memref sig .tc .vmem S2048x512 .f32)
  (kept : Memref sig .tc .vmem S2048x512 .bf16) (sem : SemLoc sig)

/-- Column `b` of them, as the transfers name it. -/
def column (b : Fin 8) : Memref sig .tc .hbm S2048x512 .f32 :=
  (weights.slice (Rect.unit (s := S4x2048x4096) ![0, 0, 512 * b.val] S1x2048x512.size (inb_col b)) (fun _ => rfl)).squeeze
    S2048x512 squeezes_S1x2048x512_S2048x512

variable (c : Dev nD) (W : Buf (Elt F) ((column weights 0).view.loc (c : Thread nD τ)))

/-- The entries of column `b`. -/
def entries (b : Fin 8) : Vec F S2048x512 .f32 := (column weights b).view.read (Elt F) W

abbrev slotAt (f : Held (F := F) c slot) : sProp 𝕄 := slot.view.loc (c : Thread nD τ) ↦[slot.view.set]{fullShare} f
abbrev cellAt : sProp 𝕄 := semVal ((c : Thread nD τ), sem) 0
abbrev colAt (q : PosShare TreeShare) (b : Fin 8) : sProp 𝕄 := (column weights b).view.loc (c : Thread nD τ) ↦[(column weights b).view.set]{q} W
abbrev landed (b : Fin 8) (f : Held (F := F) c slot) : Held (F := F) c slot :=
  slot.view.writes (Elt F) f [⟨Rect.whole S2048x512, ReadAs.same.apply ((column weights b).view.read (Elt F) W)⟩]
abbrev flight (q : PosShare TreeShare) (b : Fin 8) (f : Held (F := F) c slot) : sProp 𝕄 :=
  Transfers.Flight countersEmb (c : Thread nD τ) sem default (slot.view.amount sem)
    iprop(slotAt slot c (landed weights slot c W b f) ∗ colAt weights c W q b)

abbrev branch : Staging.Parts 𝕄 where
  buffer := iprop(∃ f, slotAt slot c f)
  cell := cellAt sem c
  scratch := iprop(∃ d, owns (c : Thread nD τ) kept fullShare d)
  kept k := owns (c : Thread nD τ) kept fullShare (k0_pay3 (entries weights c W (col k)))
  flight q k := iprop(∃ f, flight weights slot sem c W q (col k) f)
  column q k := colAt weights c W q (col k)
  rest q k := (column weights 0).view.loc (c : Thread nD τ) ↦[Finset.univ \ (column weights (col k)).view.set]{q} W
  whole q := (column weights 0).view.loc (c : Thread nD τ) ↦[Finset.univ]{q} W
  split q k := pointsTo_split_subset (Finset.subset_univ _)
  forget k := by iintro H; iexists _; iexact H

section Canon
omit [FloatOps F]

@[sl_canon] theorem canon_first (t : Fin grid0.N) (h0 : Starts (grid0.coords t)) (h1 : First (grid0.coords t)) :
    (weights.slice (Rect.unit (s := S4x2048x4096) ![0, 0, 0] S1x2048x512.size inb_S4x2048x4096_S1x2048x512_0_0_0) (fun _ => rfl)).squeeze
      S2048x512 squeezes_S1x2048x512_S2048x512 = column weights (col (t.val / 11)) :=
  congrArg (fun M : Memref sig .tc .hbm S1x2048x512 .f32 => M.squeeze S2048x512 squeezes_S1x2048x512_S2048x512)
    (Memref.slice_unit_congr _ (off_first t h0 h1) _ _ (fun _ => rfl) (fun _ => rfl))
@[sl_canon] theorem canon_this (t : Fin grid0.N) (h0 : Starts (grid0.coords t)) :
    (weights.slice (Rect.unit (s := S4x2048x4096) (k0_off1 (grid0.coords t)) S1x2048x512.size (k0_off1_inb (grid0.coords t) h0)) (fun _ => rfl)).squeeze
      S2048x512 squeezes_S1x2048x512_S2048x512 = column weights (col (t.val / 11)) :=
  congrArg (fun M : Memref sig .tc .hbm S1x2048x512 .f32 => M.squeeze S2048x512 squeezes_S1x2048x512_S2048x512)
    (Memref.slice_unit_congr _ (off_this t h0) _ _ (fun _ => rfl) (fun _ => rfl))
@[sl_canon] theorem canon_next (t : Fin grid0.N) (h0 : Starts (grid0.coords t)) (h2 : More (grid0.coords t)) :
    (weights.slice (Rect.unit (s := S4x2048x4096) (k0_off2 (grid0.coords t)) S1x2048x512.size (k0_off2_inb (grid0.coords t) h0 h2)) (fun _ => rfl)).squeeze
      S2048x512 squeezes_S1x2048x512_S2048x512 = column weights (col (t.val / 11 + 1)) :=
  congrArg (fun M : Memref sig .tc .hbm S1x2048x512 .f32 => M.squeeze S2048x512 squeezes_S1x2048x512_S2048x512)
    (Memref.slice_unit_congr _ (off_next t h0 h2) _ _ (fun _ => rfl) (fun _ => rfl))

end Canon

end Branch

/-! ### The three of them -/

abbrev weightsA : Memref sig .tc .hbm S4x2048x4096 .f32 := Memref.whole main_arg3
abbrev weightsB : Memref sig .tc .hbm S4x2048x4096 .f32 := Memref.whole main_arg4
abbrev weightsC : Memref sig .tc .hbm S4x2048x4096 .f32 := Memref.whole main_arg5
abbrev slotA : Memref sig .tc .vmem S2048x512 .f32 := Memref.whole cc0_scratch0
abbrev slotB : Memref sig .tc .vmem S2048x512 .f32 := Memref.whole cc0_scratch2
abbrev slotC : Memref sig .tc .vmem S2048x512 .f32 := Memref.whole cc0_scratch4
abbrev keptA : Memref sig .tc .vmem S2048x512 .bf16 := Memref.whole cc0_scratch1
abbrev keptB : Memref sig .tc .vmem S2048x512 .bf16 := Memref.whole cc0_scratch3
abbrev keptC : Memref sig .tc .vmem S2048x512 .bf16 := Memref.whole cc0_scratch5

variable (c : Dev nD) (WA : Held (F := F) c weightsA) (WB : Held (F := F) c weightsB) (WC : Held (F := F) c weightsC)

abbrev branchA : Staging.Parts 𝕄 := branch weightsA slotA keptA (SemLoc.dma 14) c WA
abbrev branchB : Staging.Parts 𝕄 := branch weightsB slotB keptB (SemLoc.dma 15) c WB
abbrev branchC : Staging.Parts 𝕄 := branch weightsC slotC keptC (SemLoc.dma 16) c WC
abbrev parts : Staging.Parts 𝕄 := Staging.both (branchA c WA) (Staging.both (branchB c WB) (branchC c WC))

/-! ## What the body takes and gives back -/

/-- A whole buffer's block as its elements, -/
theorem opened {S : Shape} {e : EltTy} (M : Memref sig .tc .vmem S e) (h : M.IsWhole) (x : Vec F S e) :
    (owns (c : Thread nD τ) M fullShare x : sProp 𝕄) ⊢ M.view.loc (c : Thread nD τ) ↦[M.view.set]{fullShare} h.unread x := by
  unfold owns
  iintro ⟨%f, %hf, H⟩
  obtain rfl := h.eq_unread hf
  iexact H

/-- and back. -/
theorem closed {S : Shape} {e : EltTy} (M : Memref sig .tc .vmem S e) {f : Held (F := F) c M} {x : Vec F S e} (hf : M.view.read (Elt F) f = x) :
    (M.view.loc (c : Thread nD τ) ↦[M.view.set]{fullShare} f : sProp 𝕄) ⊢ owns (c : Thread nD τ) M fullShare x := by
  unfold owns
  iintro H
  iexists f
  isplitr; · ipureintro; exact hf
  iexact H

variable (t : Fin cfg0.N)
  (arg2 : Memref sig .tc .vmem S768x2048 .bf16) (harg2 : arg2.IsWhole) (arg3 : Memref sig .tc .vmem S768x2048 .bf16) (harg3 : arg3.IsWhole)
  (arg4 : Memref sig .tc .vmem S768x2048 .bf16) (harg4 : arg4.IsWhole) (arg8 : Memref sig .tc .vmem S768x512 .f32) (harg8 : arg8.IsWhole)
  (arg9 : Memref sig .tc .vmem S768x512 .f32) (harg9 : arg9.IsWhole) (arg10 : Memref sig .tc .vmem S768x512 .f32) (harg10 : arg10.IsWhole)
  (arg11 : Memref sig .tc .vmem S768x512 .bf16) (harg11 : arg11.IsWhole)
  (xa xb xc : Vec F S768x2048 .bf16) (ga gb gc : Vec F S768x512 .f32)

/-- The blocks of the branches and of their gates, -/
def blocks : sProp 𝕄 := iprop(owns (c : Thread nD τ) arg2 fullShare xa ∗ owns (c : Thread nD τ) arg3 fullShare xb ∗ owns (c : Thread nD τ) arg4 fullShare xc
  ∗ owns (c : Thread nD τ) arg8 fullShare ga ∗ owns (c : Thread nD τ) arg9 fullShare gb ∗ owns (c : Thread nD τ) arg10 fullShare gc)

/-- the same element by element, -/
abbrev elements : sProp 𝕄 := iprop((arg2.view.loc (c : Thread nD τ) ↦[arg2.view.set]{fullShare} harg2.unread xa)
  ∗ (arg3.view.loc (c : Thread nD τ) ↦[arg3.view.set]{fullShare} harg3.unread xb)
  ∗ (arg4.view.loc (c : Thread nD τ) ↦[arg4.view.set]{fullShare} harg4.unread xc)
  ∗ (arg8.view.loc (c : Thread nD τ) ↦[arg8.view.set]{fullShare} harg8.unread ga)
  ∗ (arg9.view.loc (c : Thread nD τ) ↦[arg9.view.set]{fullShare} harg9.unread gb)
  ∗ (arg10.view.loc (c : Thread nD τ) ↦[arg10.view.set]{fullShare} harg10.unread gc))

theorem blocks_elements : blocks c arg2 arg3 arg4 arg8 arg9 arg10 xa xb xc ga gb gc
    ⊣⊢ elements c arg2 harg2 arg3 harg3 arg4 harg4 arg8 harg8 arg9 harg9 arg10 harg10 xa xb xc ga gb gc := by
  unfold blocks
  constructor
  · iintro ⟨H0, H1, H2, H3, H4, H5⟩
    isplitl [H0]; · iapply (opened c arg2 harg2 xa); iexact H0
    isplitl [H1]; · iapply (opened c arg3 harg3 xb); iexact H1
    isplitl [H2]; · iapply (opened c arg4 harg4 xc); iexact H2
    isplitl [H3]; · iapply (opened c arg8 harg8 ga); iexact H3
    isplitl [H4]; · iapply (opened c arg9 harg9 gb); iexact H4
    iapply (opened c arg10 harg10 gc); iexact H5
  · iintro ⟨H0, H1, H2, H3, H4, H5⟩
    isplitl [H0]; · iapply (closed c arg2 (harg2.read_unread xa)); iexact H0
    isplitl [H1]; · iapply (closed c arg3 (harg3.read_unread xb)); iexact H1
    isplitl [H2]; · iapply (closed c arg4 (harg4.read_unread xc)); iexact H2
    isplitl [H3]; · iapply (closed c arg8 (harg8.read_unread ga)); iexact H3
    isplitl [H4]; · iapply (closed c arg9 (harg9.read_unread gb)); iexact H4
    iapply (closed c arg10 (harg10.read_unread gc)); iexact H5

/-- the blocks before the body, -/
def given : sProp 𝕄 := iprop(blocks c arg2 arg3 arg4 arg8 arg9 arg10 xa xb xc ga gb gc ∗ (∃ d, owns (c : Thread nD τ) arg11 fullShare d))

/-- and after it, from the columns kept. -/
def left (wa wb wc : Vec F S2048x512 .bf16) : sProp 𝕄 := iprop(blocks c arg2 arg3 arg4 arg8 arg9 arg10 xa xb xc ga gb gc
  ∗ owns (c : Thread nD τ) arg11 fullShare (k0_pay2 ga xa wa gb xb wb gc xc wc))

/-- What a point's columns are kept as. -/
abbrev wa : Vec F S2048x512 .bf16 := k0_pay3 (entries weightsA c WA (col (t.val / 11)))
abbrev wb : Vec F S2048x512 .bf16 := k0_pay3 (entries weightsB c WB (col (t.val / 11)))
abbrev wc : Vec F S2048x512 .bf16 := k0_pay3 (entries weightsC c WC (col (t.val / 11)))

end Merge

end
-- ==== Proof.MergeBody.lean ====
/- The gated merge's body at the four kinds of its points. -/
module

public import proofs.«01_k».proof.Proof.MergeParts

@[expose] public section

set_option maxRecDepth 16384

noncomputable section

namespace Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (Pipeline.UD sig nD τ) ℕ

variable (c : Dev nD) (WA : Held (F := F) c weightsA) (WB : Held (F := F) c weightsB) (WC : Held (F := F) c weightsC)
variable (t : Fin cfg0.N)
  (arg2 : Memref sig .tc .vmem S768x2048 .bf16) (harg2 : arg2.IsWhole) (arg3 : Memref sig .tc .vmem S768x2048 .bf16) (harg3 : arg3.IsWhole)
  (arg4 : Memref sig .tc .vmem S768x2048 .bf16) (harg4 : arg4.IsWhole) (arg8 : Memref sig .tc .vmem S768x512 .f32) (harg8 : arg8.IsWhole)
  (arg9 : Memref sig .tc .vmem S768x512 .f32) (harg9 : arg9.IsWhole) (arg10 : Memref sig .tc .vmem S768x512 .f32) (harg10 : arg10.IsWhole)
  (arg11 : Memref sig .tc .vmem S768x512 .bf16) (harg11 : arg11.IsWhole)
  (xa xb xc : Vec F S768x2048 .bf16) (ga gb gc : Vec F S768x512 .f32)

set_option maxHeartbeats 4000000 in
/-- At a point that does not start a column those kept are used. -/
theorem body_later (h0 : ¬Starts (grid0.coords t)) (ua ub uc : Vec F S2048x512 .bf16) (Wt : Waits sig Unit) (K : PUnit → sProp 𝕄) :
    iprop(given c arg2 arg3 arg4 arg8 arg9 arg10 arg11 xa xb xc ga gb gc ∗ iprop(owns (c : Thread nD τ) keptA fullShare ua ∗ owns (c : Thread nD τ) keptB fullShare ub ∗ owns (c : Thread nD τ) keptC fullShare uc) ∗ owes (c : Thread nD τ) 0 Wt
        ∗ (iprop(left c arg2 arg3 arg4 arg8 arg9 arg10 arg11 xa xb xc ga gb gc ua ub uc ∗ iprop(owns (c : Thread nD τ) keptA fullShare ua ∗ owns (c : Thread nD τ) keptB fullShare ub ∗ owns (c : Thread nD τ) keptC fullShare uc) ∗ (∃ W', owes (c : Thread nD τ) 0 W')) -∗ K ⟨⟩))
      ⊢ wp frame (wpE (defs₀ (F := F)) Variants.none c none) Set.univ
          (cc0_merge (grid0.coords t) arg2 harg2 arg3 harg3 arg4 harg4 weightsA (Memref.isWhole_whole _) weightsB (Memref.isWhole_whole _) weightsC (Memref.isWhole_whole _)
            arg8 harg8 arg9 harg9 arg10 harg10 arg11 harg11 slotA (Memref.isWhole_whole _) keptA (Memref.isWhole_whole _) slotB (Memref.isWhole_whole _)
            keptB (Memref.isWhole_whole _) slotC (Memref.isWhole_whole _) keptC (Memref.isWhole_whole _) cc0_scratch6) K := by
  haveI : Fact (¬Starts (grid0.coords t)) := ⟨h0⟩
  dsimp only [parts, Staging.both, branchA, branchB, branchC, branch]
  simp only [cc0_merge_eq_skeleton]; unfold cc0_merge_skel
  rw [k0_part1_eq_skeleton]; unfold k0_part1_skel
  unfold given left
  unfold owns
  iintro ⟨⟨HX, ⟨%d, %o, -, HO⟩⟩, ⟨⟨%fa, %hA, KA⟩, ⟨%fb, %hB, KB⟩, ⟨%fc, %hC, KC⟩⟩, HW, Hk⟩
  ihave HX' := (blocks_elements c arg2 harg2 arg3 harg3 arg4 harg4 arg8 harg8 arg9 harg9 arg10 harg10 xa xb xc ga gb gc).1 $$ HX
  icases HX' with ⟨H0, H1, H2, H3, H4, H5⟩
  obtain rfl := (Memref.isWhole_whole (sig := sig) cc0_scratch1).eq_unread hA
  obtain rfl := (Memref.isWhole_whole (sig := sig) cc0_scratch3).eq_unread hB
  obtain rfl := (Memref.isWhole_whole (sig := sig) cc0_scratch5).eq_unread hC
  sl_exec (disch := sl_exact h0)
  sl_step
  iapply Hk
  isplitl [H0 H1 H2 H3 H4 H5 HO]
  · isplitr [HO]
    · iapply (blocks_elements c arg2 harg2 arg3 harg3 arg4 harg4 arg8 harg8 arg9 harg9 arg10 harg10 xa xb xc ga gb gc).2
      isplitl [H0]; · iexact H0
      isplitl [H1]; · iexact H1
      isplitl [H2]; · iexact H2
      isplitl [H3]; · iexact H3
      isplitl [H4]; · iexact H4
      iexact H5
    iexists _; isplitr; swap; · iexact HO
    ipureintro
    rw [View.read_writes_full]
    rw [View.readAt_full, View.readAt_full, View.readAt_full, View.readAt_full, View.readAt_full, View.readAt_full, View.readAt_full, View.readAt_full, View.readAt_full, harg2.read_unread, harg3.read_unread, harg4.read_unread, harg8.read_unread, harg9.read_unread, harg10.read_unread, hA, hB, hC]
  isplitl [KA KB KC]
  · isplitl [KA]
    · iexists _; isplitr; · ipureintro; exact (Memref.isWhole_whole (sig := sig) cc0_scratch1).read_unread _
      iexact KA
    isplitl [KB]
    · iexists _; isplitr; · ipureintro; exact (Memref.isWhole_whole (sig := sig) cc0_scratch3).read_unread _
      iexact KB
    iexists _; isplitr; · ipureintro; exact (Memref.isWhole_whole (sig := sig) cc0_scratch5).read_unread _
    iexact KC
  iexists _; iexact HW

set_option maxHeartbeats 4000000 in
/-- At one that starts a column, neither the first nor the last, those in flight land and are kept, and the next ones are started. -/
theorem body_next (h0 : Starts (grid0.coords t)) (h1 : ¬First (grid0.coords t)) (h2 : More (grid0.coords t)) (q q' : PosShare TreeShare) (Wt : Waits sig Unit) (K : PUnit → sProp 𝕄) :
    iprop(given c arg2 arg3 arg4 arg8 arg9 arg10 arg11 xa xb xc ga gb gc ∗ (parts c WA WB WC).scratch ∗ (parts c WA WB WC).flight q (t.val / 11) ∗ (parts c WA WB WC).column q' (t.val / 11 + 1) ∗ owes (c : Thread nD τ) 0 Wt
        ∗ (iprop(left c arg2 arg3 arg4 arg8 arg9 arg10 arg11 xa xb xc ga gb gc (wa c WA t) (wb c WB t) (wc c WC t) ∗ (parts c WA WB WC).kept (t.val / 11) ∗ (parts c WA WB WC).column q (t.val / 11) ∗ (parts c WA WB WC).flight q' (t.val / 11 + 1) ∗ (∃ W', owes (c : Thread nD τ) 0 W')) -∗ K ⟨⟩))
      ⊢ wp frame (wpE (defs₀ (F := F)) Variants.none c none) Set.univ
          (cc0_merge (grid0.coords t) arg2 harg2 arg3 harg3 arg4 harg4 weightsA (Memref.isWhole_whole _) weightsB (Memref.isWhole_whole _) weightsC (Memref.isWhole_whole _)
            arg8 harg8 arg9 harg9 arg10 harg10 arg11 harg11 slotA (Memref.isWhole_whole _) keptA (Memref.isWhole_whole _) slotB (Memref.isWhole_whole _)
            keptB (Memref.isWhole_whole _) slotC (Memref.isWhole_whole _) keptC (Memref.isWhole_whole _) cc0_scratch6) K := by
  haveI : Fact (Starts (grid0.coords t)) := ⟨h0⟩
  haveI : Fact (¬First (grid0.coords t)) := ⟨h1⟩
  haveI : Fact (More (grid0.coords t)) := ⟨h2⟩
  dsimp only [parts, Staging.both, branchA, branchB, branchC, branch]
  simp only [cc0_merge_eq_skeleton]; unfold cc0_merge_skel
  rw [k0_part1_eq_skeleton]; unfold k0_part1_skel
  unfold given left
  unfold owns
  iintro ⟨⟨HX, ⟨%d, %o, -, HO⟩⟩, ⟨⟨%da, %fa, -, KA⟩, ⟨%db, %fb, -, KB⟩, ⟨%dc, %fc, -, KC⟩⟩, ⟨⟨%ea, FA⟩, ⟨%eb, FB⟩, ⟨%ec, FC⟩⟩, ⟨CA, CB, CC⟩, HW, Hk⟩
  ihave HX' := (blocks_elements c arg2 harg2 arg3 harg3 arg4 harg4 arg8 harg8 arg9 harg9 arg10 harg10 xa xb xc ga gb gc).1 $$ HX
  icases HX' with ⟨H0, H1, H2, H3, H4, H5⟩
  sl_exec (disch := first | sl_exact h0 | sl_exact h1 | sl_exact h2)
  sl_step
  iapply Hk
  isplitl [H0 H1 H2 H3 H4 H5 HO]
  · isplitr [HO]
    · iapply (blocks_elements c arg2 harg2 arg3 harg3 arg4 harg4 arg8 harg8 arg9 harg9 arg10 harg10 xa xb xc ga gb gc).2
      isplitl [H0]; · iexact H0
      isplitl [H1]; · iexact H1
      isplitl [H2]; · iexact H2
      isplitl [H3]; · iexact H3
      isplitl [H4]; · iexact H4
      iexact H5
    iexists _; isplitr; swap; · iexact HO
    ipureintro
    rw [View.read_writes_full]
    rw [View.readAt_full, View.readAt_full, View.readAt_full, View.readAt_full, View.readAt_full, View.readAt_full, harg2.read_unread, harg3.read_unread, harg4.read_unread, harg8.read_unread, harg9.read_unread, harg10.read_unread]
    unfold body_next.sl.v6 body_next.sl.v12 body_next.sl.v19 body_next.sl.KA_1 body_next.sl.KB_1 body_next.sl.KC_1 body_next.sl.v33 body_next.sl.v43 body_next.sl.v53
    rw [View.readCov_full, View.readCov_full, View.readCov_full, Staging.load_landed, Staging.load_landed, Staging.load_landed]; rfl
  isplitl [KA KB KC]
  · isplitl [KA]
    · iexists _; isplitr; swap; · iexact KA
      ipureintro
      unfold body_next.sl.KA_1 body_next.sl.v33
      rw [View.read_writes_full, Staging.load_landed]; rfl
    isplitl [KB]
    · iexists _; isplitr; swap; · iexact KB
      ipureintro
      unfold body_next.sl.KB_1 body_next.sl.v43
      rw [View.read_writes_full, Staging.load_landed]; rfl
    iexists _; isplitr; swap; · iexact KC
    ipureintro
    unfold body_next.sl.KC_1 body_next.sl.v53
    rw [View.read_writes_full, Staging.load_landed]; rfl
  isplitl [FA_src FB_src FC_src]
  · isplitl [FA_src]; · iexact FA_src
    isplitl [FB_src]; · iexact FB_src
    iexact FC_src
  isplitl [FA FB FC]
  · isplitl [FA]; · iexists _; iexact FA
    isplitl [FB]; · iexists _; iexact FB
    iexists _; iexact FC
  iexists _; iexact HW

set_option maxHeartbeats 4000000 in
/-- At the one that starts the last column nothing is left to start. -/
theorem body_last (h0 : Starts (grid0.coords t)) (h1 : ¬First (grid0.coords t)) (h2 : ¬More (grid0.coords t)) (q : PosShare TreeShare) (Wt : Waits sig Unit) (K : PUnit → sProp 𝕄) :
    iprop(given c arg2 arg3 arg4 arg8 arg9 arg10 arg11 xa xb xc ga gb gc ∗ (parts c WA WB WC).scratch ∗ (parts c WA WB WC).flight q (t.val / 11) ∗ owes (c : Thread nD τ) 0 Wt
        ∗ (iprop(left c arg2 arg3 arg4 arg8 arg9 arg10 arg11 xa xb xc ga gb gc (wa c WA t) (wb c WB t) (wc c WC t) ∗ (parts c WA WB WC).kept (t.val / 11) ∗ (parts c WA WB WC).column q (t.val / 11) ∗ (parts c WA WB WC).buffer ∗ (parts c WA WB WC).cell ∗ (∃ W', owes (c : Thread nD τ) 0 W')) -∗ K ⟨⟩))
      ⊢ wp frame (wpE (defs₀ (F := F)) Variants.none c none) Set.univ
          (cc0_merge (grid0.coords t) arg2 harg2 arg3 harg3 arg4 harg4 weightsA (Memref.isWhole_whole _) weightsB (Memref.isWhole_whole _) weightsC (Memref.isWhole_whole _)
            arg8 harg8 arg9 harg9 arg10 harg10 arg11 harg11 slotA (Memref.isWhole_whole _) keptA (Memref.isWhole_whole _) slotB (Memref.isWhole_whole _)
            keptB (Memref.isWhole_whole _) slotC (Memref.isWhole_whole _) keptC (Memref.isWhole_whole _) cc0_scratch6) K := by
  haveI : Fact (Starts (grid0.coords t)) := ⟨h0⟩
  haveI : Fact (¬First (grid0.coords t)) := ⟨h1⟩
  haveI : Fact (¬More (grid0.coords t)) := ⟨h2⟩
  dsimp only [parts, Staging.both, branchA, branchB, branchC, branch]
  simp only [cc0_merge_eq_skeleton]; unfold cc0_merge_skel
  rw [k0_part1_eq_skeleton]; unfold k0_part1_skel
  unfold given left
  unfold owns
  iintro ⟨⟨HX, ⟨%d, %o, -, HO⟩⟩, ⟨⟨%da, %fa, -, KA⟩, ⟨%db, %fb, -, KB⟩, ⟨%dc, %fc, -, KC⟩⟩, ⟨⟨%ea, FA⟩, ⟨%eb, FB⟩, ⟨%ec, FC⟩⟩, HW, Hk⟩
  ihave HX' := (blocks_elements c arg2 harg2 arg3 harg3 arg4 harg4 arg8 harg8 arg9 harg9 arg10 harg10 xa xb xc ga gb gc).1 $$ HX
  icases HX' with ⟨H0, H1, H2, H3, H4, H5⟩
  sl_exec (disch := first | sl_exact h0 | sl_exact h1 | sl_exact h2)
  sl_step
  iapply Hk
  isplitl [H0 H1 H2 H3 H4 H5 HO]
  · isplitr [HO]
    · iapply (blocks_elements c arg2 harg2 arg3 harg3 arg4 harg4 arg8 harg8 arg9 harg9 arg10 harg10 xa xb xc ga gb gc).2
      isplitl [H0]; · iexact H0
      isplitl [H1]; · iexact H1
      isplitl [H2]; · iexact H2
      isplitl [H3]; · iexact H3
      isplitl [H4]; · iexact H4
      iexact H5
    iexists _; isplitr; swap; · iexact HO
    ipureintro
    rw [View.read_writes_full]
    rw [View.readAt_full, View.readAt_full, View.readAt_full, View.readAt_full, View.readAt_full, View.readAt_full, harg2.read_unread, harg3.read_unread, harg4.read_unread, harg8.read_unread, harg9.read_unread, harg10.read_unread]
    unfold body_last.sl.v6 body_last.sl.v12 body_last.sl.v19 body_last.sl.KA_1 body_last.sl.KB_1 body_last.sl.KC_1 body_last.sl.v33 body_last.sl.v43 body_last.sl.v53
    rw [View.readCov_full, View.readCov_full, View.readCov_full, Staging.load_landed, Staging.load_landed, Staging.load_landed]; rfl
  isplitl [KA KB KC]
  · isplitl [KA]
    · iexists _; isplitr; swap; · iexact KA
      ipureintro
      unfold body_last.sl.KA_1 body_last.sl.v33
      rw [View.read_writes_full, Staging.load_landed]; rfl
    isplitl [KB]
    · iexists _; isplitr; swap; · iexact KB
      ipureintro
      unfold body_last.sl.KB_1 body_last.sl.v43
      rw [View.read_writes_full, Staging.load_landed]; rfl
    iexists _; isplitr; swap; · iexact KC
    ipureintro
    unfold body_last.sl.KC_1 body_last.sl.v53
    rw [View.read_writes_full, Staging.load_landed]; rfl
  isplitl [FA_src FB_src FC_src]
  · isplitl [FA_src]; · iexact FA_src
    isplitl [FB_src]; · iexact FB_src
    iexact FC_src
  isplitl [FA_dst FB_dst FC_dst]
  · isplitl [FA_dst]; · iexists _; iexact FA_dst
    isplitl [FB_dst]; · iexists _; iexact FB_dst
    iexists _; iexact FC_dst
  isplitl [FA FB FC]
  · isplitl [FA]; · iexact FA
    isplitl [FB]; · iexact FB
    iexact FC
  iexists _; iexact HW

set_option maxHeartbeats 4000000 in
/-- At the first point nothing is in flight yet, and it starts two columns of each array. -/
theorem body_first (h0 : Starts (grid0.coords t)) (h1 : First (grid0.coords t)) (h2 : More (grid0.coords t)) (q q' : PosShare TreeShare) (Wt : Waits sig Unit) (K : PUnit → sProp 𝕄) :
    iprop(given c arg2 arg3 arg4 arg8 arg9 arg10 arg11 xa xb xc ga gb gc ∗ (parts c WA WB WC).scratch ∗ (parts c WA WB WC).buffer ∗ (parts c WA WB WC).cell ∗ (parts c WA WB WC).column q (t.val / 11) ∗ (parts c WA WB WC).column q' (t.val / 11 + 1) ∗ owes (c : Thread nD τ) 0 Wt
        ∗ (iprop(left c arg2 arg3 arg4 arg8 arg9 arg10 arg11 xa xb xc ga gb gc (wa c WA t) (wb c WB t) (wc c WC t) ∗ (parts c WA WB WC).kept (t.val / 11) ∗ (parts c WA WB WC).column q (t.val / 11) ∗ (parts c WA WB WC).flight q' (t.val / 11 + 1) ∗ (∃ W', owes (c : Thread nD τ) 0 W')) -∗ K ⟨⟩))
      ⊢ wp frame (wpE (defs₀ (F := F)) Variants.none c none) Set.univ
          (cc0_merge (grid0.coords t) arg2 harg2 arg3 harg3 arg4 harg4 weightsA (Memref.isWhole_whole _) weightsB (Memref.isWhole_whole _) weightsC (Memref.isWhole_whole _)
            arg8 harg8 arg9 harg9 arg10 harg10 arg11 harg11 slotA (Memref.isWhole_whole _) keptA (Memref.isWhole_whole _) slotB (Memref.isWhole_whole _)
            keptB (Memref.isWhole_whole _) slotC (Memref.isWhole_whole _) keptC (Memref.isWhole_whole _) cc0_scratch6) K := by
  haveI : Fact (Starts (grid0.coords t)) := ⟨h0⟩
  haveI : Fact (First (grid0.coords t)) := ⟨h1⟩
  haveI : Fact (More (grid0.coords t)) := ⟨h2⟩
  dsimp only [parts, Staging.both, branchA, branchB, branchC, branch]
  simp only [cc0_merge_eq_skeleton]; unfold cc0_merge_skel
  rw [k0_part1_eq_skeleton]; unfold k0_part1_skel
  unfold given left
  unfold owns
  iintro ⟨⟨HX, ⟨%d, %o, -, HO⟩⟩, ⟨⟨%da, %fa, -, KA⟩, ⟨%db, %fb, -, KB⟩, ⟨%dc, %fc, -, KC⟩⟩, ⟨⟨%ea, SA⟩, ⟨%eb, SB⟩, ⟨%ec, SC⟩⟩, ⟨FA, FB, FC⟩, ⟨CA, CB, CC⟩, ⟨DA, DB, DC⟩, HW, Hk⟩
  ihave HX' := (blocks_elements c arg2 harg2 arg3 harg3 arg4 harg4 arg8 harg8 arg9 harg9 arg10 harg10 xa xb xc ga gb gc).1 $$ HX
  icases HX' with ⟨H0, H1, H2, H3, H4, H5⟩
  sl_exec (disch := first | sl_exact h0 | sl_exact h1 | sl_exact h2)
  sl_step
  iapply Hk
  isplitl [H0 H1 H2 H3 H4 H5 HO]
  · isplitr [HO]
    · iapply (blocks_elements c arg2 harg2 arg3 harg3 arg4 harg4 arg8 harg8 arg9 harg9 arg10 harg10 xa xb xc ga gb gc).2
      isplitl [H0]; · iexact H0
      isplitl [H1]; · iexact H1
      isplitl [H2]; · iexact H2
      isplitl [H3]; · iexact H3
      isplitl [H4]; · iexact H4
      iexact H5
    iexists _; isplitr; swap; · iexact HO
    ipureintro
    rw [View.read_writes_full]
    rw [View.readAt_full, View.readAt_full, View.readAt_full, View.readAt_full, View.readAt_full, View.readAt_full, harg2.read_unread, harg3.read_unread, harg4.read_unread, harg8.read_unread, harg9.read_unread, harg10.read_unread]
    unfold body_first.sl.v6 body_first.sl.v12 body_first.sl.v19 body_first.sl.KA_1 body_first.sl.KB_1 body_first.sl.KC_1 body_first.sl.v33 body_first.sl.v43 body_first.sl.v53
    rw [View.readCov_full, View.readCov_full, View.readCov_full, Staging.load_landed, Staging.load_landed, Staging.load_landed]; rfl
  isplitl [KA KB KC]
  · isplitl [KA]
    · iexists _; isplitr; swap; · iexact KA
      ipureintro
      unfold body_first.sl.KA_1 body_first.sl.v33
      rw [View.read_writes_full, Staging.load_landed]; rfl
    isplitl [KB]
    · iexists _; isplitr; swap; · iexact KB
      ipureintro
      unfold body_first.sl.KB_1 body_first.sl.v43
      rw [View.read_writes_full, Staging.load_landed]; rfl
    iexists _; isplitr; swap; · iexact KC
    ipureintro
    unfold body_first.sl.KC_1 body_first.sl.v53
    rw [View.read_writes_full, Staging.load_landed]; rfl
  isplitl [CA CB CC]
  · isplitl [CA]; · iexact CA
    isplitl [CB]; · iexact CB
    iexact CC
  isplitl [FA FB FC]
  · isplitl [FA]; · iexists _; iexact FA
    isplitl [FB]; · iexists _; iexact FB
    iexists _; iexact FC
  iexists _; iexact HW

end Merge

end
-- ==== Proof.MergeRun.lean ====
/- The run of the gated merge: what holds between the points of its grid, and the kernel run from end to end. Written
   once, for any float values. -/
module

public import proofs.«01_k».proof.Proof.MergeBody
public import Idealize.ShloMosaic.Lib.Claim

@[expose] public section

set_option maxRecDepth 16384

noncomputable section

namespace Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Staging (between half)
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (Pipeline.UD sig nD τ) ℕ

/-! ## The pipeline's data -/

variable (m : (ℓ : Loc nD τ sig) → Buf (Elt F) ℓ) (ρ : Dev nD → PrngReg)

/-- All three arrays of weights. -/
abbrev staged (c : Dev nD) : Staging.Parts 𝕄 := parts c (V m c main_arg3) (V m c main_arg4) (V m c main_arg5)

/-- What holds before point `p`. -/
def invariant (c : Dev nD) (p : ℕ) : sProp 𝕄 := iprop((∃ r, prngReg c r) ∗ between (staged m c) 8 ((p + 10) / 11))

/-- What a point leaves of the result. -/
def merged (c : Dev nD) (t : Fin cfg0.N) : Vec F S768x512 .bf16 :=
  k0_pay2 (iblk m c 3 t) (iblk m c 0 t) (wa c (V m c main_arg3) t) (iblk m c 4 t) (iblk m c 1 t) (wb c (V m c main_arg4) t)
    (iblk m c 5 t) (iblk m c 2 t) (wc c (V m c main_arg5) t)

/-- The gates' three windows are on one array and share it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => merged m c t
  Φ t := invariant m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = merged m c t := by dsimp only [dats]
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]) t d).trans (by unfold Dat.fetched Dat.blockOf iblk; rw [A_eq]; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]) t d).trans (by unfold Dat.fetched Dat.blockOf iblk; rw [A_eq]; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]) t d).trans (by unfold Dat.fetched Dat.blockOf iblk; rw [A_eq]; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]) t d).trans (by unfold Dat.fetched Dat.blockOf iblk; rw [A_eq]; rfl)
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]) t d).trans (by unfold Dat.fetched Dat.blockOf iblk; rw [A_eq]; rfl)
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]) t d).trans (by unfold Dat.fetched Dat.blockOf iblk; rw [A_eq]; rfl)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The blocks at a point before its body, and after it. -/
abbrev givenAt (c : Dev nD) (t : Fin cfg0.N) : sProp 𝕄 :=
  given c (st0_0 t) (st0_1 t) (st0_2 t) (st0_3 t) (st0_4 t) (st0_5 t) (st0_6 t)
    (iblk m c 0 t) (iblk m c 1 t) (iblk m c 2 t) (iblk m c 3 t) (iblk m c 4 t) (iblk m c 5 t)
abbrev leftAt (c : Dev nD) (t : Fin cfg0.N) : sProp 𝕄 :=
  left c (st0_0 t) (st0_1 t) (st0_2 t) (st0_3 t) (st0_4 t) (st0_5 t) (st0_6 t)
    (iblk m c 0 t) (iblk m c 1 t) (iblk m c 2 t) (iblk m c 3 t) (iblk m c 4 t) (iblk m c 5 t) (wa c (V m c main_arg3) t) (wb c (V m c main_arg4) t) (wc c (V m c main_arg5) t)

/-- The invariant around a point's body, the rest of what the body is called with alongside. -/
theorem sound_of (c : Dev nD) (t : Fin cfg0.N)
    (run : ∀ (Wt : Waits sig Unit) (K : PUnit → sProp 𝕄),
      iprop(givenAt m c t ∗ between (staged m c) 8 ((t.val + 10) / 11) ∗ owes (c : Thread nD τ) 0 Wt
          ∗ (iprop(leftAt m c t ∗ between (staged m c) 8 ((t.val + 1 + 10) / 11) ∗ (∃ W', owes (c : Thread nD τ) 0 W')) -∗ K ⟨⟩))
        ⊢ wp frame (wpE (defs₀ (F := F)) Variants.none c none) Set.univ (bodyAt0 t) K) :
    bodyPre m c t ⊢ wp frame (wpE (defs₀ (F := F)) Variants.none c none) Set.univ (bodyAt0 t) (fun _ => bodyPost m c t) := by
  unfold bodyPre bodyPost
  simp only [before0, before1, before2, before3, before4, before5]
  rw [after0, after1, after2, after3, after4, after5, after6, show (dats m 0 c).Φ t.castSucc = invariant m c t.val from rfl,
    show (dats m 0 c).Φ t.succ = invariant m c (t.val + 1) from rfl]
  unfold Dat.owesAt Pipeline.owesWithin invariant
  rw [show (dats m 0 c).owed t.castSucc = 0 from rfl, show (dats m 0 c).owed t.succ = 0 from rfl]
  unfold givenAt leftAt given left blocks at run
  unfold merged
  iintro ⟨⟨Hg, HB⟩, ⟨%Wt, -, HW⟩, ⟨%d0, H0⟩, ⟨%d1, H1⟩, ⟨%d2, H2⟩, ⟨%d3, H3⟩, ⟨%d4, H4⟩, ⟨%d5, H5⟩, ⟨%d6, H6⟩⟩
  iapply (run Wt _)
  isplitl [H0 H1 H2 H3 H4 H5 H6]
  · isplitr [H6]
    · isplitl [H0]; · iexact H0
      isplitl [H1]; · iexact H1
      isplitl [H2]; · iexact H2
      isplitl [H3]; · iexact H3
      isplitl [H4]; · iexact H4
      iexact H5
    iexists _; iexact H6
  isplitl [HB]; · iexact HB
  isplitl [HW]; · iexact HW
  iintro ⟨⟨⟨H0, H1, H2, H3, H4, H5⟩, H6⟩, HB, ⟨%W', HW'⟩⟩
  isplitl [Hg HB]
  · isplitl [Hg]; · iexact Hg
    iexact HB
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

set_option maxHeartbeats 2000000 in
theorem sound (c : Dev nD) (t : Fin cfg0.N) :
    bodyPre m c t ⊢ wp frame (wpE (defs₀ (F := F)) Variants.none c none) Set.univ (bodyAt0 t) (fun _ => bodyPost m c t) := by
  have hN : t.val < 88 := lt_of_lt_of_eq t.isLt N_0
  obtain ⟨k, hk⟩ : ∃ k, t.val / 11 = k := ⟨_, rfl⟩
  refine sound_of m c t fun Wt K => ?_
  by_cases h0 : t.val % 11 = 0
  · have c0 := (starts_iff t).mpr h0
    rw [show (t.val + 10) / 11 = k by omega, show (t.val + 1 + 10) / 11 = k + 1 by omega]
    rcases k with _ | j
    · have B := body_first c (V m c main_arg3) (V m c main_arg4) (V m c main_arg5) t (st0_0 t) (hstage0_0 ((cfg0.slots t 0).cast nbuf0_0))
          (st0_1 t) (hstage0_1 ((cfg0.slots t 1).cast nbuf0_1))
          (st0_2 t) (hstage0_2 ((cfg0.slots t 2).cast nbuf0_2))
          (st0_3 t) (hstage0_3 ((cfg0.slots t 3).cast nbuf0_3))
          (st0_4 t) (hstage0_4 ((cfg0.slots t 4).cast nbuf0_4))
          (st0_5 t) (hstage0_5 ((cfg0.slots t 5).cast nbuf0_5))
          (st0_6 t) (hstage0_6 ((cfg0.slots t 6).cast nbuf0_6))
          (iblk m c 0 t) (iblk m c 1 t) (iblk m c 2 t) (iblk m c 3 t) (iblk m c 4 t) (iblk m c 5 t)
        c0 ((first_iff t).mpr (by omega)) ((more_iff t).mpr (by omega)) (half 0) (half 1) Wt K
      unfold leftAt
      unfold wa wb wc at B ⊢
      rw [hk] at B ⊢
      exact Staging.run_first (staged m c) 8 (by decide) B
    · have c1 : ¬First (grid0.coords t) := fun h => absurd ((first_iff t).mp h) (by omega)
      by_cases h2 : t.val < 77
      · have B := body_next c (V m c main_arg3) (V m c main_arg4) (V m c main_arg5) t (st0_0 t) (hstage0_0 ((cfg0.slots t 0).cast nbuf0_0))
          (st0_1 t) (hstage0_1 ((cfg0.slots t 1).cast nbuf0_1))
          (st0_2 t) (hstage0_2 ((cfg0.slots t 2).cast nbuf0_2))
          (st0_3 t) (hstage0_3 ((cfg0.slots t 3).cast nbuf0_3))
          (st0_4 t) (hstage0_4 ((cfg0.slots t 4).cast nbuf0_4))
          (st0_5 t) (hstage0_5 ((cfg0.slots t 5).cast nbuf0_5))
          (st0_6 t) (hstage0_6 ((cfg0.slots t 6).cast nbuf0_6))
          (iblk m c 0 t) (iblk m c 1 t) (iblk m c 2 t) (iblk m c 3 t) (iblk m c 4 t) (iblk m c 5 t)
          c0 c1 ((more_iff t).mpr h2) (half (j + 1)) (half (j + 1 + 1)) Wt K
        unfold leftAt
        unfold wa wb wc at B ⊢
        rw [hk] at B ⊢
        exact Staging.run_next (staged m c) 8 j (by omega) B
      · obtain rfl : j = 6 := by omega
        have B := body_last c (V m c main_arg3) (V m c main_arg4) (V m c main_arg5) t (st0_0 t) (hstage0_0 ((cfg0.slots t 0).cast nbuf0_0))
          (st0_1 t) (hstage0_1 ((cfg0.slots t 1).cast nbuf0_1))
          (st0_2 t) (hstage0_2 ((cfg0.slots t 2).cast nbuf0_2))
          (st0_3 t) (hstage0_3 ((cfg0.slots t 3).cast nbuf0_3))
          (st0_4 t) (hstage0_4 ((cfg0.slots t 4).cast nbuf0_4))
          (st0_5 t) (hstage0_5 ((cfg0.slots t 5).cast nbuf0_5))
          (st0_6 t) (hstage0_6 ((cfg0.slots t 6).cast nbuf0_6))
          (iblk m c 0 t) (iblk m c 1 t) (iblk m c 2 t) (iblk m c 3 t) (iblk m c 4 t) (iblk m c 5 t)
          c0 c1 (fun h => h2 ((more_iff t).mp h)) (half (6 + 1)) Wt K
        unfold leftAt
        unfold wa wb wc at B ⊢
        rw [hk] at B ⊢
        exact Staging.run_last (staged m c) 6 B
  · rw [show (t.val + 10) / 11 = k + 1 by omega, show (t.val + 1 + 10) / 11 = k + 1 by omega]
    have B := body_later c t (st0_0 t) (hstage0_0 ((cfg0.slots t 0).cast nbuf0_0))
          (st0_1 t) (hstage0_1 ((cfg0.slots t 1).cast nbuf0_1))
          (st0_2 t) (hstage0_2 ((cfg0.slots t 2).cast nbuf0_2))
          (st0_3 t) (hstage0_3 ((cfg0.slots t 3).cast nbuf0_3))
          (st0_4 t) (hstage0_4 ((cfg0.slots t 4).cast nbuf0_4))
          (st0_5 t) (hstage0_5 ((cfg0.slots t 5).cast nbuf0_5))
          (st0_6 t) (hstage0_6 ((cfg0.slots t 6).cast nbuf0_6))
          (iblk m c 0 t) (iblk m c 1 t) (iblk m c 2 t) (iblk m c 3 t) (iblk m c 4 t) (iblk m c 5 t)
      (fun h => h0 ((starts_iff t).mp h)) (wa c (V m c main_arg3) t) (wb c (V m c main_arg4) t) (wc c (V m c main_arg5) t) Wt K
    unfold leftAt
    unfold wa wb wc at B ⊢
    rw [hk] at B ⊢
    exact Staging.run_later (staged m c) 8 k B

/-! ## The launch -/

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound m c t) rfl .rfl fun _ => .rfl

abbrev cells : Fin 3 → SemLoc sig := ![SemLoc.dma 14, SemLoc.dma 15, SemLoc.dma 16]
theorem cells_own : Pipeline.OwnSemFacts spec0 cells := by decide
theorem weights_rest : ({main_arg3, main_arg4, main_arg5} : Finset (Ref sig .tc)) ⊆ Pipeline.restRefs sig spec0 := by decide

theorem launch_eq (c : Dev nD) :
    (Pipeline.ΦD cells spec0 {main_arg3, main_arg4, main_arg5} (V m) c : sProp 𝕄)
      = iprop(iprop((∃ d, owns (c : Thread nD τ) slotA fullShare d) ∗ (∃ d, owns (c : Thread nD τ) keptA fullShare d)
            ∗ (∃ d, owns (c : Thread nD τ) slotB fullShare d) ∗ (∃ d, owns (c : Thread nD τ) keptB fullShare d)
            ∗ (∃ d, owns (c : Thread nD τ) slotC fullShare d) ∗ (∃ d, owns (c : Thread nD τ) keptC fullShare d)) ∗ (∃ r, prngReg c r)
          ∗ iprop((branchA c (V m c main_arg3)).cell ∗ (branchB c (V m c main_arg4)).cell ∗ (branchC c (V m c main_arg5)).cell)
          ∗ iprop((((c : Thread nD τ).loc main_arg3) ↦{fullShare} V m c main_arg3) ∗ (((c : Thread nD τ).loc main_arg4) ↦{fullShare} V m c main_arg4) ∗ (((c : Thread nD τ).loc main_arg5) ↦{fullShare} V m c main_arg5))) := by
  rw [Pipeline.ΦD_eq, scopedRest0_eq, Pipeline.ownSems0_eq_of_list c cells [0, 1, 2] (by decide) (by decide),
    BI.bigSep_eq_bigSepL_of_eq [main_arg3, main_arg4, main_arg5] (by decide) (by decide)]
  simp only [slotA, keptA, slotB, keptB, slotC, keptC, owns_whole]; rfl

/-- A whole buffer at anything, and its elements at anything. -/
theorem slot_in (c : Dev nD) {S : Shape} {e : EltTy} (M : Memref sig .tc .vmem S e) :
    iprop(∃ d, owns (c : Thread nD τ) M fullShare d) ⊢ (iprop(∃ f, M.view.loc (c : Thread nD τ) ↦[M.view.set]{fullShare} f) : sProp 𝕄) := by
  unfold owns
  iintro ⟨%d, %f, -, H⟩
  iexists f; iexact H

theorem slot_out (c : Dev nD) {S : Shape} {e : EltTy} (M : Memref sig .tc .vmem S e) :
    (iprop(∃ f, M.view.loc (c : Thread nD τ) ↦[M.view.set]{fullShare} f) : sProp 𝕄) ⊢ iprop(∃ d, owns (c : Thread nD τ) M fullShare d) := by
  unfold owns
  iintro ⟨%f, H⟩
  iexists _, f
  isplitr; · ipureintro; rfl
  iexact H

theorem halves (c : Dev nD) (r : Ref sig .tc) (W : Buf (Elt F) ((c : Thread nD τ).loc r)) : (((c : Thread nD τ).loc r) ↦{fullShare} W : sProp 𝕄)
    ⊣⊢ iprop((((c : Thread nD τ).loc r) ↦[Finset.univ]{fullShare.left} W) ∗ (((c : Thread nD τ).loc r) ↦[Finset.univ]{fullShare.right} W)) :=
  pointsTo_share (PosShare.mem_left_op_right fullShare)

theorem start (c : Dev nD) : Pipeline.ΦD cells spec0 {main_arg3, main_arg4, main_arg5} (V m) c ⊢ (dats m 0 c).Φ 0 := by
  rw [launch_eq, show (dats m 0 c).Φ 0 = invariant m c 0 from rfl]
  unfold invariant
  iintro ⟨⟨SA, KA, SB, KB, SC, KC⟩, Hg, HC, WA, WB, WC⟩
  ihave WA' := (halves c main_arg3 (V m c main_arg3)).1 $$ WA
  icases WA' with ⟨LA, RA⟩
  ihave WB' := (halves c main_arg4 (V m c main_arg4)).1 $$ WB
  icases WB' with ⟨LB, RB⟩
  ihave WC' := (halves c main_arg5 (V m c main_arg5)).1 $$ WC
  icases WC' with ⟨LC, RC⟩
  ihave SA' := (slot_in c slotA) $$ SA
  ihave SB' := (slot_in c slotB) $$ SB
  ihave SC' := (slot_in c slotC) $$ SC
  isplitl [Hg]; · iexact Hg
  iapply (Staging.start (staged m c) 8)
  isplitl [KA KB KC]
  · isplitl [KA]; · iexact KA
    isplitl [KB]; · iexact KB
    iexact KC
  isplitl [SA' SB' SC']
  · isplitl [SA']; · iexact SA'
    isplitl [SB']; · iexact SB'
    iexact SC'
  isplitl [HC]; · iexact HC
  isplitl [LA LB LC]
  · isplitl [LA]; · iexact LA
    isplitl [LB]; · iexact LB
    iexact LC
  isplitl [RA]; · iexact RA
  isplitl [RB]; · iexact RB
  iexact RC

theorem finish (c : Dev nD) : (dats m 0 c).Φ (Fin.last cfg0.N) ⊢ Pipeline.ΦD cells spec0 {main_arg3, main_arg4, main_arg5} (V m) c := by
  rw [launch_eq, show (dats m 0 c).Φ (Fin.last cfg0.N) = invariant m c grid0.N from rfl]
  unfold invariant
  rw [N_0, show (88 + 10) / 11 = 7 + 1 from rfl]
  iintro ⟨Hg, HB⟩
  ihave HB' := (Staging.finish (staged m c) 7 rfl) $$ HB
  icases HB' with ⟨⟨KA, KB, KC⟩, ⟨SA, SB, SC⟩, HC, ⟨LA, LB, LC⟩, RA, RB, RC⟩
  ihave SA' := (slot_out c slotA) $$ SA
  ihave SB' := (slot_out c slotB) $$ SB
  ihave SC' := (slot_out c slotC) $$ SC
  isplitl [SA' KA SB' KB SC' KC]
  · isplitl [SA']; · iexact SA'
    isplitl [KA]; · iexact KA
    isplitl [SB']; · iexact SB'
    isplitl [KB]; · iexact KB
    isplitl [SC']; · iexact SC'
    iexact KC
  isplitl [Hg]; · iexact Hg
  isplitl [HC]; · iexact HC
  isplitl [LA RA]
  · iapply (halves c main_arg3 (V m c main_arg3)).2
    isplitl [LA]; · iexact LA
    iexact RA
  isplitl [LB RB]
  · iapply (halves c main_arg4 (V m c main_arg4)).2
    isplitl [LB]; · iexact LB
    iexact RB
  iapply (halves c main_arg5 (V m c main_arg5)).2
  isplitl [LC]; · iexact LC
  iexact RC

-- the launch theorem's implicit arguments are found by unifying its conclusion with this one
set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 cells defs₀ Variants.none cells_own {main_arg3, main_arg4, main_arg5} weights_rest m ρ main
    (hbody := fun c => (obligation m c).loose) (hq := fun _ _ _ => rfl)
    (howed := fun _ _ => rfl) (V := V m) (hmain := Pipeline.hmain_region cfgs 0 defs₀ Variants.none m main fun c => (main_chain c).trans rfl)
    (hA := A_eq m) (hin := start m) (hout := finish m)

/-- Every run ends with the result at what the points left, the arguments as they were and nothing in flight. -/
theorem run : θ_run defs (onTc (τ := τ) (main (F := F))) ⟨m, fun _ => 0, ρ⟩ (fun r => (∀ c : Dev nD,
      r.2.mem ((c.tc : Thread nD τ).loc main_v0) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 6,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 5).trans (((dats m 0 c).arrAt_in 5 rfl _).trans ((A_eq m c 5).trans (V_main_arg6 m c)))⟩, h.2⟩) (run_main m ρ)

/-- The arguments as they were and nothing in flight. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => (h.1 c).2, h.2⟩) (run m ρ)

end Merge

end
-- ==== Proof.MergeValue.lean ====
/- The gated merge over the extended reals: what the points leave, put together, is the sum over the three branches of the product
   of a branch's tokens and its weights times the sigmoid of its gates. -/
module

public import proofs.«01_k».proof.Proof.MergeRun
public import proofs.«01_k».proof.Proof.Gen.Reference6Ideal.Run
public import Idealize.ShloMosaic.Lib.Pipeline.ValueKit
public import Idealize.ShloMosaic.Lib.ValueLayout

@[expose] public section

set_option maxRecDepth 16384

noncomputable section

namespace Merge

open Idealize.ShloMosaic Idealize.ShloMosaic.TcCoe Idealize.SL.Sem
open Cert.Kernel6Ideal Cert.Kernel6Ideal.Gen

variable (m : (ℓ : Loc nD τ sig) → Buf (Elt Ideal) ℓ)

/-- Where the windows' blocks lie: 11 points for a column of the weights, one for each 768 tokens. -/
theorem idx : ∀ t : Fin cfg0.N, win0_0.index t = ![t.val % 11, 0]
    ∧ win0_1.index t = ![t.val % 11, 0]
    ∧ win0_2.index t = ![t.val % 11, 0]
    ∧ win0_3.index t = ![t.val % 11, 38 + t.val / 11]
    ∧ win0_4.index t = ![t.val % 11, 46 + t.val / 11]
    ∧ win0_5.index t = ![t.val % 11, 54 + t.val / 11]
    ∧ win0_6.index t = ![t.val % 11, t.val / 11] :=
  (by decide +kernel : ∀ t : Fin grid0.N, _)

/-- A block of the result at an index. -/
theorem merged_at (xa xb xc : FVec Ideal S768x2048 .bf16) (va vb vc : FVec Ideal S2048x512 .f32) (ga gb gc : FVec Ideal S768x512 .f32)
    (i : Fin 768) (n : Fin 512) :
    k0_pay2 (F := Ideal) ga xa (k0_pay3 (F := Ideal) va) gb xb (k0_pay3 (F := Ideal) vb) gc xc (k0_pay3 (F := Ideal) vc) (ix2 i n)
      = Ideal.logistic (ga (ix2 i n)) * (∑ k : Fin 2048, (show EReal from xa (ix2 i k)) * va (ix2 k n))
        + Ideal.logistic (gb (ix2 i n)) * (∑ k : Fin 2048, (show EReal from xb (ix2 i k)) * vb (ix2 k n))
        + Ideal.logistic (gc (ix2 i n)) * (∑ k : Fin 2048, (show EReal from xc (ix2 i k)) * vc (ix2 k n)) := by
  pointwise [k0_pay2, k0_pay3]

/-! The tokens of a point, of each branch, -/
theorem tokensA_at (c : Dev nD) (t : Fin cfg0.N) (i : Fin 768) (k : Fin 2048) (r : Fin 8448) (hr : r.val = t.val % 11 * 768 + i.val) :
    iblk m c 0 t (ix2 i k) = m ((c : Thread nD τ).loc main_arg0) (ix2 r k) := by
  have h := idx t
  blk_ext [iblk, V, h]

theorem tokensB_at (c : Dev nD) (t : Fin cfg0.N) (i : Fin 768) (k : Fin 2048) (r : Fin 8448) (hr : r.val = t.val % 11 * 768 + i.val) :
    iblk m c 1 t (ix2 i k) = m ((c : Thread nD τ).loc main_arg1) (ix2 r k) := by
  have h := idx t
  blk_ext [iblk, V, h]

theorem tokensC_at (c : Dev nD) (t : Fin cfg0.N) (i : Fin 768) (k : Fin 2048) (r : Fin 8448) (hr : r.val = t.val % 11 * 768 + i.val) :
    iblk m c 2 t (ix2 i k) = m ((c : Thread nD τ).loc main_arg2) (ix2 r k) := by
  have h := idx t
  blk_ext [iblk, V, h]

/-! and their gates. -/
theorem gatesA_at (c : Dev nD) (t : Fin cfg0.N) (i : Fin 768) (n : Fin 512) (r : Fin 8448) (g : Fin 31744)
    (hr : r.val = t.val % 11 * 768 + i.val) (hg : g.val = 19456 + (512 * (t.val / 11) + n.val)) :
    iblk m c 3 t (ix2 i n) = m ((c : Thread nD τ).loc main_arg6) (ix2 r g) := by
  have h := idx t
  blk_ext [iblk, V, h]

theorem gatesB_at (c : Dev nD) (t : Fin cfg0.N) (i : Fin 768) (n : Fin 512) (r : Fin 8448) (g : Fin 31744)
    (hr : r.val = t.val % 11 * 768 + i.val) (hg : g.val = 23552 + (512 * (t.val / 11) + n.val)) :
    iblk m c 4 t (ix2 i n) = m ((c : Thread nD τ).loc main_arg6) (ix2 r g) := by
  have h := idx t
  blk_ext [iblk, V, h]

theorem gatesC_at (c : Dev nD) (t : Fin cfg0.N) (i : Fin 768) (n : Fin 512) (r : Fin 8448) (g : Fin 31744)
    (hr : r.val = t.val % 11 * 768 + i.val) (hg : g.val = 27648 + (512 * (t.val / 11) + n.val)) :
    iblk m c 5 t (ix2 i n) = m ((c : Thread nD τ).loc main_arg6) (ix2 r g) := by
  have h := idx t
  blk_ext [iblk, V, h]

/-- The entries of a column of any of the arrays of weights. -/
theorem entries_at (weights : Memref sig .tc .hbm S4x2048x4096 .f32) (c : Dev nD) (W : Buf (Elt Ideal) ((column weights 0).view.loc (c : Thread nD τ)))
    (b : Fin 8) (k : Fin 2048) (n : Fin 512) (j : Fin 4096) (hj : j.val = 512 * b.val + n.val) :
    entries (F := Ideal) weights c W b (ix2 k n) = weights.view.read (Elt Ideal) W (ix3 0 k j) := by
  unfold entries column
  refine (congrFun (Memref.read_squeeze_slice weights _ (fun _ => rfl) squeezes_S1x2048x512_S2048x512
    (show S1x2048x512.ShapeCasts S2048x512 by decide) W) (ix2 k n)).trans ?_
  refine (ValueIdx.shapeCast_1ab_ab_apply _ _ k n).trans ?_
  refine congrArg (weights.view.read (Elt Ideal) W) (funext fun a => Fin.ext ?_)
  fin_cases a
  · rfl
  · show 0 + 1 * k.val = k.val; omega
  · show 512 * b.val + 1 * n.val = j.val; omega

/-- A branch's part in the reference's result: its gates are the columns of `z` from `o` on. -/
abbrev part (o : ℕ) (hs : Cert.Reference6Ideal.S8448x31744.Slices ![0, o] Cert.Reference6Ideal.S8448x4096) (z : FVec Ideal Cert.Reference6Ideal.S8448x31744 .f32)
    (x : FVec Ideal Cert.Reference6Ideal.S8448x2048 .bf16) (w : FVec Ideal Cert.Reference6Ideal.S4x2048x4096 .f32) : FVec Ideal Cert.Reference6Ideal.S8448x4096 .f32 :=
  mulf
    (Host.divf (broadcastInDim Cert.Reference6Ideal.S8448x4096 ![] Cert.Reference6Ideal.Gen.bcast_S_S8448x4096 (constant Cert.Reference6Ideal.S_ .f32 0x3F800000#32))
      (addf (broadcastInDim Cert.Reference6Ideal.S8448x4096 ![] Cert.Reference6Ideal.Gen.bcast_S_S8448x4096 (constant Cert.Reference6Ideal.S_ .f32 0x3F800000#32))
        (Host.exp (Host.negf (extractStridedSlice Cert.Reference6Ideal.S8448x4096 ![0, o] z hs)))))
    (Host.dotGeneral Cert.Reference6Ideal.dot_S8448x2048_S2048x4096_S8448x4096_1_0_0_1_n_n none (extf .f32 x Cert.Reference6Ideal.Gen.bitsLt_bf16_f32)
      (shapeCast _ (extractStridedSlice Cert.Reference6Ideal.S1x2048x4096 ![0, 0, 0] w Cert.Reference6Ideal.Gen.slices_S4x2048x4096_S1x2048x4096_0_0_0)
        Cert.Reference6Ideal.Gen.shapeCasts_S1x2048x4096_S2048x4096))

/-- The reference's result. -/
abbrev joined (xa xb xc : FVec Ideal Cert.Reference6Ideal.S8448x2048 .bf16) (va vb vc : FVec Ideal Cert.Reference6Ideal.S4x2048x4096 .f32)
    (z : FVec Ideal Cert.Reference6Ideal.S8448x31744 .f32) : FVec Ideal Cert.Reference6Ideal.S8448x4096 .bf16 :=
  truncf .bf16 (addf (addf (part 19456 Cert.Reference6Ideal.Gen.slices_S8448x31744_S8448x4096_0_19456 z xa va) (part 23552 Cert.Reference6Ideal.Gen.slices_S8448x31744_S8448x4096_0_23552 z xb vb))
    (part 27648 Cert.Reference6Ideal.Gen.slices_S8448x31744_S8448x4096_0_27648 z xc vc)) Cert.Reference6Ideal.Gen.bitsLt_bf16_f32

theorem part_at (o : ℕ) (hs) (z : FVec Ideal Cert.Reference6Ideal.S8448x31744 .f32) (x : FVec Ideal Cert.Reference6Ideal.S8448x2048 .bf16) (w : FVec Ideal Cert.Reference6Ideal.S4x2048x4096 .f32)
    (r : Fin 8448) (j : Fin 4096) (g : Fin 31744) (hg : g.val = o + j.val) :
    part o hs z x w (ix2 r j)
      = Ideal.logistic (z (ix2 r g)) * (∑ k : Fin 2048, (show EReal from x (ix2 r k)) * w (ix3 0 k j)) := by
  have hz : extractStridedSlice Cert.Reference6Ideal.S8448x4096 ![0, o] z hs (ix2 r j) = z (ix2 r g) := by
    unfold extractStridedSlice
    refine congrArg z (funext fun a => Fin.ext ?_)
    fin_cases a
    · show 0 + r.val = r.val; omega
    · exact hg.symm
  rw [← hz]
  unfold Ideal.logistic
  pointwise []

/-- A point's block is the reference's at its tokens and columns. -/
theorem point_at (c : Dev nD) (t : Fin cfg0.N) (i : Fin 768) (n : Fin 512) (r : Fin 8448) (j : Fin 4096)
    (hr : r.val = t.val % 11 * 768 + i.val) (hj : j.val = 512 * (t.val / 11) + n.val) :
    merged m c t (ix2 i n) = joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 r j) := by
  have l : t.val < 88 := t.isLt
  have hc : j.val = 512 * (col (t.val / 11)).val + n.val := by
    show _ = 512 * (t.val / 11 % 8) + n.val; rw [Nat.mod_eq_of_lt (by omega), hj]
  have ha : 19456 + j.val < 31744 := by omega
  have hb : 23552 + j.val < 31744 := by omega
  have hd : 27648 + j.val < 31744 := by omega
  refine (merged_at (iblk m c 0 t) (iblk m c 1 t) (iblk m c 2 t) (entries weightsA c (V m c main_arg3) (col (t.val / 11)))
    (entries weightsB c (V m c main_arg4) (col (t.val / 11))) (entries weightsC c (V m c main_arg5) (col (t.val / 11)))
    (iblk m c 3 t) (iblk m c 4 t) (iblk m c 5 t) i n).trans ?_
  refine congrArg₂ _ (congrArg₂ _ (Eq.trans ?_ (part_at _ _ _ _ _ r j ⟨_, ha⟩ rfl).symm) (Eq.trans ?_ (part_at _ _ _ _ _ r j ⟨_, hb⟩ rfl).symm))
    (Eq.trans ?_ (part_at _ _ _ _ _ r j ⟨_, hd⟩ rfl).symm)
  · rw [gatesA_at m c t i n r ⟨_, ha⟩ hr (congrArg _ hj)]
    refine congrArg _ (Finset.sum_congr rfl fun k _ => ?_)
    rw [tokensA_at m c t i k r hr]
    exact congrArg _ (entries_at weightsA c (V m c main_arg3) _ k n j hc)
  · rw [gatesB_at m c t i n r ⟨_, hb⟩ hr (congrArg _ hj)]
    refine congrArg _ (Finset.sum_congr rfl fun k _ => ?_)
    rw [tokensB_at m c t i k r hr]
    exact congrArg _ (entries_at weightsB c (V m c main_arg4) _ k n j hc)
  · rw [gatesC_at m c t i n r ⟨_, hd⟩ hr (congrArg _ hj)]
    refine congrArg _ (Finset.sum_congr rfl fun k _ => ?_)
    rw [tokensC_at m c t i k r hr]
    exact congrArg _ (entries_at weightsC c (V m c main_arg5) _ k n j hc)

/-- The whole array. -/
theorem final (c : Dev nD) : (dats m 0 c).arrAt 6 cfg0.N
    = joined (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 6 _ (by decide +kernel) fun t hf y => ?_
  blk_simp
  rw [after6]
  have hx := idx t
  obtain ⟨i, n, rfl⟩ : ∃ (i : Fin 768) (n : Fin 512), y = ix2 i n := ⟨y 0, y 1, funext fun a => by fin_cases a <;> rfl⟩
  have l : t.val < 88 := t.isLt
  refine (point_at m c t i n ⟨t.val % 11 * 768 + i.val, by omega⟩ ⟨512 * (t.val / 11) + n.val, by omega⟩ rfl rfl).trans (congrArg (joined _ _ _ _ _ _ _) ?_)
  blk_ext [hx]

end Merge

end
-- ==== Proof.lean ====
/- Of each call the frame before and after idealization, its reference's frame, and its results and the reference's equal
   over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Step
public import proofs.«01_k».proof.Proof.RefRun
public import proofs.«01_k».proof.Proof.Arrays
public import proofs.«01_k».proof.Proof.InprojValue
public import proofs.«01_k».proof.Proof.NormValue
public import proofs.«01_k».proof.Proof.OutprojValue
public import proofs.«01_k».proof.Proof.PleValue
public import proofs.«01_k».proof.Proof.MergeValue
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal.Run
public import Idealize.ShloMosaic.Adequacy
public import Idealize.ShloMosaic.Init

@[expose] public section

noncomputable section

namespace Cert.Proof

open Idealize.ShloMosaic Idealize.SL.Sem

/-- The input projection leaves its arguments alone, and nothing in flight. -/
theorem inproj_frame : Cert.quiescent_Kernel2Ideal := fun m g _ => Inproj.frame m g

set_option maxRecDepth 16384 in
/-- The projection as written is the same text: its body, -/
theorem inproj_body {F : FTy → Type} [FloatOps F] : Cert.Kernel2.defs₀ (F := F) = Cert.Kernel2Ideal.defs₀ (F := F) := by
  unfold Cert.Kernel2.defs₀ Cert.Kernel2Ideal.defs₀
  refine congrArg _ (funext fun l => ?_)
  match l with
  | 0 => funext a; rfl

set_option maxRecDepth 16384 in
/-- and its pipeline. -/
theorem inproj_defs {F : FTy → Type} [FloatOps F] : Cert.Kernel2.defs (F := F) = Cert.Kernel2Ideal.defs (F := F) := by
  unfold Cert.Kernel2.defs Cert.Kernel2Ideal.defs
  exact congrArg (Pipeline.defs _) inproj_body

theorem inproj_frame_written : Cert.quiescent_Kernel2 := fun m g _ => by
  rw [inproj_defs]; exact Inproj.frame (F := Bits) m g

/-- The input projection's result is its reference's. -/
theorem inproj_value : Cert.algebraic_Kernel2Ideal_Reference2Ideal := by
  intro m g m' g' _ hm
  refine ⟨fun c => Inproj.projected (m ((c.tc : Thread _ _).loc Cert.Kernel2Ideal.main_arg0)) (m ((c.tc : Thread _ _).loc Cert.Kernel2Ideal.main_arg1)), ?_, ?_⟩
  · exact (θ_run _ _ _).mono (fun r h c => ⟨(h.1 c).1.trans (Inproj.final m c), (h.1 c).2⟩) (Inproj.run m g)
  · refine (θ_run _ _ _).mono (fun r h c => ?_) (Cert.Reference2Ideal.Value.run m' g')
    obtain ⟨h0, h1⟩ := hm c
    obtain ⟨ho, hk⟩ := h c
    rw [h0, h1] at ho
    exact ⟨ho, hk⟩

/-- The last norm leaves its arguments alone, and nothing in flight. -/
theorem norm_frame : Cert.quiescent_Kernel3Ideal := fun m g _ => Norm.frame m g

set_option maxRecDepth 16384 in
/-- The norm as written is the same text: its body, -/
theorem norm_body {F : FTy → Type} [FloatOps F] : Cert.Kernel3.defs₀ (F := F) = Cert.Kernel3Ideal.defs₀ (F := F) := by
  unfold Cert.Kernel3.defs₀ Cert.Kernel3Ideal.defs₀
  refine congrArg _ (funext fun l => ?_)
  match l with
  | 0 => funext a; rfl

set_option maxRecDepth 16384 in
/-- and its pipeline. -/
theorem norm_defs {F : FTy → Type} [FloatOps F] : Cert.Kernel3.defs (F := F) = Cert.Kernel3Ideal.defs (F := F) := by
  unfold Cert.Kernel3.defs Cert.Kernel3Ideal.defs
  exact congrArg (Pipeline.defs _) norm_body

theorem norm_frame_written : Cert.quiescent_Kernel3 := fun m g _ => by
  rw [norm_defs]; exact Norm.frame (F := Bits) m g

/-- The last norm's results are its reference's. -/
theorem norm_value : Cert.algebraic_Kernel3Ideal_Reference3Ideal := by
  intro m g m' g' _ hm
  refine ⟨fun c => Norm.ofSequences (m ((c.tc : Thread _ _).loc Cert.Kernel3Ideal.main_arg0)) (m ((c.tc : Thread _ _).loc Cert.Kernel3Ideal.main_arg1)),
    fun c => Norm.ofSample (m ((c.tc : Thread _ _).loc Cert.Kernel3Ideal.main_arg0)) (m ((c.tc : Thread _ _).loc Cert.Kernel3Ideal.main_arg1)), ?_, ?_⟩
  · exact (θ_run _ _ _).mono (fun r h c => ⟨(h.1 c).1.trans (Norm.final2 m c), (h.1 c).2.1.trans (Norm.final3 m c), (h.1 c).2.2⟩) (Norm.run m g)
  · refine (θ_run _ _ _).mono (fun r h c => ?_) (Cert.Reference3Ideal.Value.run m' g')
    obtain ⟨h0, h1⟩ := hm c
    obtain ⟨ho, hs, hk⟩ := h c
    rw [h0, h1] at ho hs
    exact ⟨ho, hs, hk⟩

/-- The output projection leaves its arguments alone, and nothing in flight. -/
theorem outproj_frame : Cert.quiescent_Kernel4Ideal := fun m g _ => Outproj.frame m g

set_option maxRecDepth 16384 in
/-- The projection as written is the same text: its body, -/
theorem outproj_body {F : FTy → Type} [FloatOps F] : Cert.Kernel4.defs₀ (F := F) = Cert.Kernel4Ideal.defs₀ (F := F) := by
  unfold Cert.Kernel4.defs₀ Cert.Kernel4Ideal.defs₀
  refine congrArg _ (funext fun l => ?_)
  match l with
  | 0 => funext a; rfl

set_option maxRecDepth 16384 in
/-- and its pipeline. -/
theorem outproj_defs {F : FTy → Type} [FloatOps F] : Cert.Kernel4.defs (F := F) = Cert.Kernel4Ideal.defs (F := F) := by
  unfold Cert.Kernel4.defs Cert.Kernel4Ideal.defs
  exact congrArg (Pipeline.defs _) outproj_body

theorem outproj_frame_written : Cert.quiescent_Kernel4 := fun m g _ => by
  rw [outproj_defs]; exact Outproj.frame (F := Bits) m g

/-- The output projection's results are its reference's. -/
theorem outproj_value : Cert.algebraic_Kernel4Ideal_Reference4Ideal := by
  intro m g m' g' _ hm
  refine ⟨fun c => Outproj.updated (m ((c.tc : Thread _ _).loc Cert.Kernel4Ideal.main_arg0)) (m ((c.tc : Thread _ _).loc Cert.Kernel4Ideal.main_arg1))
      (m ((c.tc : Thread _ _).loc Cert.Kernel4Ideal.main_arg2)),
    fun c => Outproj.narrowed (m ((c.tc : Thread _ _).loc Cert.Kernel4Ideal.main_arg0)) (m ((c.tc : Thread _ _).loc Cert.Kernel4Ideal.main_arg1))
      (m ((c.tc : Thread _ _).loc Cert.Kernel4Ideal.main_arg2)), ?_, ?_⟩
  · exact (θ_run _ _ _).mono (fun r h c => ⟨(h.1 c).1.trans (Outproj.final_wide m c), (h.1 c).2.1.trans (Outproj.final_narrow m c), (h.1 c).2.2⟩) (Outproj.run m g)
  · refine (θ_run _ _ _).mono (fun r h c => ?_) (Cert.Reference4Ideal.Value.run m' g')
    obtain ⟨h0, h1, h2⟩ := hm c
    obtain ⟨ho, hs, hk⟩ := h c
    rw [h0, h1, h2] at ho hs
    exact ⟨ho, hs, hk⟩

/-- The embedding gate leaves its arguments alone, and nothing in flight. -/
theorem ple_frame : Cert.quiescent_Kernel5Ideal := fun m g _ => Ple.frame m g

set_option maxRecDepth 16384 in
/-- The gate as written is the same text: its body, -/
theorem ple_body {F : FTy → Type} [FloatOps F] : Cert.Kernel5.defs₀ (F := F) = Cert.Kernel5Ideal.defs₀ (F := F) := by
  unfold Cert.Kernel5.defs₀ Cert.Kernel5Ideal.defs₀
  refine congrArg _ (funext fun l => ?_)
  match l with
  | 0 => funext a; rfl

set_option maxRecDepth 16384 in
/-- and its pipeline. -/
theorem ple_defs {F : FTy → Type} [FloatOps F] : Cert.Kernel5.defs (F := F) = Cert.Kernel5Ideal.defs (F := F) := by
  unfold Cert.Kernel5.defs Cert.Kernel5Ideal.defs
  exact congrArg (Pipeline.defs _) ple_body

theorem ple_frame_written : Cert.quiescent_Kernel5 := fun m g _ => by
  rw [ple_defs]; exact Ple.frame (F := Bits) m g

/-- The embedding gate's result is its reference's. -/
theorem ple_value : Cert.algebraic_Kernel5Ideal_Reference5Ideal := by
  intro m g m' g' _ hm
  refine ⟨fun c => Ple.embedded (m ((c.tc : Thread _ _).loc Cert.Kernel5Ideal.main_arg0)) (m ((c.tc : Thread _ _).loc Cert.Kernel5Ideal.main_arg1))
      (m ((c.tc : Thread _ _).loc Cert.Kernel5Ideal.main_arg2)) (m ((c.tc : Thread _ _).loc Cert.Kernel5Ideal.main_arg3)) (m ((c.tc : Thread _ _).loc Cert.Kernel5Ideal.main_arg4)), ?_, ?_⟩
  · exact (θ_run _ _ _).mono (fun r h c => ⟨(h.1 c).1.trans (Ple.final m c), (h.1 c).2⟩) (Ple.run m g)
  · refine (θ_run _ _ _).mono (fun r h c => ?_) (Cert.Reference5Ideal.Value.run m' g')
    obtain ⟨h0, h1, h2, h3, h4⟩ := hm c
    obtain ⟨ho, hk⟩ := h c
    rw [h0, h1, h2, h3, h4] at ho
    exact ⟨ho, hk⟩

/-- The gated merge leaves its arguments alone, and nothing in flight. -/
theorem merge_frame : Cert.quiescent_Kernel6Ideal := fun m g _ => Merge.frame m g

set_option maxRecDepth 16384 in
/-- The merge as written is the same text: its body, -/
theorem merge_body {F : FTy → Type} [FloatOps F] : Cert.Kernel6.defs₀ (F := F) = Cert.Kernel6Ideal.defs₀ (F := F) := by
  unfold Cert.Kernel6.defs₀ Cert.Kernel6Ideal.defs₀
  refine congrArg _ (funext fun l => ?_)
  match l with
  | 0 => funext a; rfl

set_option maxRecDepth 16384 in
/-- and its pipeline. -/
theorem merge_defs {F : FTy → Type} [FloatOps F] : Cert.Kernel6.defs (F := F) = Cert.Kernel6Ideal.defs (F := F) := by
  unfold Cert.Kernel6.defs Cert.Kernel6Ideal.defs
  exact congrArg (Pipeline.defs _) merge_body

theorem merge_frame_written : Cert.quiescent_Kernel6 := fun m g _ => by
  rw [merge_defs]; exact Merge.frame (F := Bits) m g

/-- The gated merge's result is its reference's. -/
theorem merge_value : Cert.algebraic_Kernel6Ideal_Reference6Ideal := by
  intro m g m' g' _ hm
  refine ⟨fun c => Merge.joined (m ((c.tc : Thread _ _).loc Cert.Kernel6Ideal.main_arg0)) (m ((c.tc : Thread _ _).loc Cert.Kernel6Ideal.main_arg1))
      (m ((c.tc : Thread _ _).loc Cert.Kernel6Ideal.main_arg2)) (m ((c.tc : Thread _ _).loc Cert.Kernel6Ideal.main_arg3)) (m ((c.tc : Thread _ _).loc Cert.Kernel6Ideal.main_arg4))
      (m ((c.tc : Thread _ _).loc Cert.Kernel6Ideal.main_arg5)) (m ((c.tc : Thread _ _).loc Cert.Kernel6Ideal.main_arg6)), ?_, ?_⟩
  · exact (θ_run _ _ _).mono (fun r h c => ⟨(h.1 c).1.trans (Merge.final m c), (h.1 c).2⟩) (Merge.run m g)
  · refine (θ_run _ _ _).mono (fun r h c => ?_) (Cert.Reference6Ideal.Value.run m' g')
    obtain ⟨h0, h1, h2, h3, h4, h5, h6⟩ := hm c
    obtain ⟨ho, hk⟩ := h c
    rw [h0, h1, h2, h3, h4, h5, h6] at ho
    exact ⟨ho, hk⟩

theorem retention_value : Cert.algebraic_KernelIdeal_ReferenceIdeal := by
  intro m g m' g' _ hm
  refine ⟨fun c => Cert.ReferenceIdeal.Step.R_main_v85 (Retention.RefRun.iter (F := Ideal) (m ((c.tc : Thread _ _).loc Cert.KernelIdeal.main_arg0)) 16)
      (m ((c.tc : Thread _ _).loc Cert.KernelIdeal.main_arg0)) (m ((c.tc : Thread _ _).loc Cert.KernelIdeal.main_arg1))
      (m ((c.tc : Thread _ _).loc Cert.KernelIdeal.main_arg2)),
    fun c => (Retention.RefRun.iter (F := Ideal) (m ((c.tc : Thread _ _).loc Cert.KernelIdeal.main_arg0)) 16).main_v61_8, ?_, ?_⟩
  · exact (θ_run _ _ _).mono (fun r h c => ⟨(h c).1.trans (Retention.Block.final10 m c), (h c).2.1.trans (Retention.Block.final11 m c), (h c).2.2⟩)
      (Cert.KernelIdeal.Value.run_blocks m g)
  · refine (θ_run _ _ _).mono (fun r h c => ?_) (Retention.RefRun.run m' g')
    obtain ⟨h0, h1, h2⟩ := hm c
    obtain ⟨ho, hs, hk⟩ := h c
    rw [h0, h1, h2] at ho
    rw [h0] at hs
    exact ⟨ho, hs, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    fun m g _ => Cert.Kernel.Gen.frame m g, fun m g _ => Cert.KernelIdeal.Gen.frame m g,
    fun m g _ => (θ_run _ _ _).mono (fun r h => ⟨fun c => (h c).2.2, sem_eq_zero_of_no_sems (by decide) r.2⟩) (Retention.RefRun.run m g),
    inproj_frame_written, inproj_frame,
    fun m g _ => (θ_run _ _ _).mono (fun r h => ⟨fun c => (h c).2, sem_eq_zero_of_no_sems (by decide) r.2⟩) (Cert.Reference2Ideal.Value.run m g),
    norm_frame_written, norm_frame,
    fun m g _ => (θ_run _ _ _).mono (fun r h => ⟨fun c => (h c).2.2, sem_eq_zero_of_no_sems (by decide) r.2⟩) (Cert.Reference3Ideal.Value.run m g),
    outproj_frame_written, outproj_frame,
    fun m g _ => (θ_run _ _ _).mono (fun r h => ⟨fun c => (h c).2.2, sem_eq_zero_of_no_sems (by decide) r.2⟩) (Cert.Reference4Ideal.Value.run m g),
    ple_frame_written, ple_frame,
    fun m g _ => (θ_run _ _ _).mono (fun r h => ⟨fun c => (h c).2, sem_eq_zero_of_no_sems (by decide) r.2⟩) (Cert.Reference5Ideal.Value.run m g),
    merge_frame_written, merge_frame,
    fun m g _ => (θ_run _ _ _).mono (fun r h => ⟨fun c => (h c).2, sem_eq_zero_of_no_sems (by decide) r.2⟩) (Cert.Reference6Ideal.Value.run m g),
    trivial, retention_value, trivial, inproj_value, trivial, norm_value, trivial, outproj_value, trivial, ple_value, trivial, merge_value⟩

end Cert.Proof

end
